-- ==== Defs.lean ====
def Pre_FfnEven (m : (ℓ : Loc Cert.FfnEven.nD Cert.FfnEven.τ Cert.FfnEven.sig) → Buf (Elt Bits) ℓ) : Prop :=
  True

def Pre_FfnEvenIdeal (m : (ℓ : Loc Cert.FfnEvenIdeal.nD Cert.FfnEvenIdeal.τ Cert.FfnEvenIdeal.sig) → Buf (Elt Ideal) ℓ) : Prop :=
  True

def Pre_FfnEvenRefIdeal (m : (ℓ : Loc Cert.FfnEvenRefIdeal.nD Cert.FfnEvenRefIdeal.τ Cert.FfnEvenRefIdeal.sig) → Buf (Elt Ideal) ℓ) : Prop :=
  True

def Pre_FfnOdd (m : (ℓ : Loc Cert.FfnOdd.nD Cert.FfnOdd.τ Cert.FfnOdd.sig) → Buf (Elt Bits) ℓ) : Prop :=
  True

def Pre_FfnOddIdeal (m : (ℓ : Loc Cert.FfnOddIdeal.nD Cert.FfnOddIdeal.τ Cert.FfnOddIdeal.sig) → Buf (Elt Ideal) ℓ) : Prop :=
  True

def Pre_FfnOddRefIdeal (m : (ℓ : Loc Cert.FfnOddRefIdeal.nD Cert.FfnOddRefIdeal.τ Cert.FfnOddRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def quiescent_FfnEven [hFfnEven : Cert.FfnEven.Facts] : Prop :=
  ∀ (m : (ℓ : Loc Cert.FfnEven.nD Cert.FfnEven.τ Cert.FfnEven.sig) → Buf (Elt Bits) ℓ) (g : Dev Cert.FfnEven.nD → PrngReg), Pre_FfnEven m →
    θ_run (Cert.FfnEven.defs (F := Bits)) (onTc (τ := Cert.FfnEven.τ) (Cert.FfnEven.main (F := Bits))) ⟨m, fun _ => 0, g⟩ (fun r => (∀ c : Dev Cert.FfnEven.nD,
      r.2.mem ((c.tc : Thread Cert.FfnEven.nD Cert.FfnEven.τ).loc Cert.FfnEven.main_arg0) = m ((c.tc : Thread Cert.FfnEven.nD Cert.FfnEven.τ).loc Cert.FfnEven.main_arg0)
      ∧ r.2.mem ((c.tc : Thread Cert.FfnEven.nD Cert.FfnEven.τ).loc Cert.FfnEven.main_arg1) = m ((c.tc : Thread Cert.FfnEven.nD Cert.FfnEven.τ).loc Cert.FfnEven.main_arg1)
      ∧ r.2.mem ((c.tc : Thread Cert.FfnEven.nD Cert.FfnEven.τ).loc Cert.FfnEven.main_arg2) = m ((c.tc : Thread Cert.FfnEven.nD Cert.FfnEven.τ).loc Cert.FfnEven.main_arg2)
      ∧ r.2.mem ((c.tc : Thread Cert.FfnEven.nD Cert.FfnEven.τ).loc Cert.FfnEven.main_arg3) = m ((c.tc : Thread Cert.FfnEven.nD Cert.FfnEven.τ).loc Cert.FfnEven.main_arg3)
      ∧ r.2.mem ((c.tc : Thread Cert.FfnEven.nD Cert.FfnEven.τ).loc Cert.FfnEven.main_arg4) = m ((c.tc : Thread Cert.FfnEven.nD Cert.FfnEven.τ).loc Cert.FfnEven.main_arg4)
      ∧ r.2.mem ((c.tc : Thread Cert.FfnEven.nD Cert.FfnEven.τ).loc Cert.FfnEven.main_arg5) = m ((c.tc : Thread Cert.FfnEven.nD Cert.FfnEven.τ).loc Cert.FfnEven.main_arg5)
      ∧ r.2.mem ((c.tc : Thread Cert.FfnEven.nD Cert.FfnEven.τ).loc Cert.FfnEven.main_arg6) = m ((c.tc : Thread Cert.FfnEven.nD Cert.FfnEven.τ).loc Cert.FfnEven.main_arg6)
      ∧ r.2.mem ((c.tc : Thread Cert.FfnEven.nD Cert.FfnEven.τ).loc Cert.FfnEven.main_arg7) = m ((c.tc : Thread Cert.FfnEven.nD Cert.FfnEven.τ).loc Cert.FfnEven.main_arg7))
      ∧ r.2.sem = fun _ => 0)

def quiescent_FfnEvenIdeal [hFfnEvenIdeal : Cert.FfnEvenIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg), Pre_FfnEvenIdeal m →
    θ_run (Cert.FfnEvenIdeal.defs (F := Ideal)) (onTc (τ := Cert.FfnEvenIdeal.τ) (Cert.FfnEvenIdeal.main (F := Ideal))) ⟨m, fun _ => 0, g⟩ (fun r => (∀ c : Dev Cert.FfnEvenIdeal.nD,
      r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
      ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
      ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
      ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
      ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
      ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
      ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
      ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7))
      ∧ r.2.sem = fun _ => 0)

def quiescent_FfnEvenRefIdeal [hFfnEvenRefIdeal : Cert.FfnEvenRefIdeal.Facts] : Prop :=
  ∀ (m : (ℓ : Loc Cert.FfnEvenRefIdeal.nD Cert.FfnEvenRefIdeal.τ Cert.FfnEvenRefIdeal.sig) → Buf (Elt Ideal) ℓ) (g : Dev Cert.FfnEvenRefIdeal.nD → PrngReg), Pre_FfnEvenRefIdeal m →
    θ_run (Cert.FfnEvenRefIdeal.defs (F := Ideal)) (onTc (τ := Cert.FfnEvenRefIdeal.τ) (Cert.FfnEvenRefIdeal.main (F := Ideal))) ⟨m, fun _ => 0, g⟩ (fun r => (∀ c : Dev Cert.FfnEvenRefIdeal.nD,
      r.2.mem ((c.tc : Thread Cert.FfnEvenRefIdeal.nD Cert.FfnEvenRefIdeal.τ).loc Cert.FfnEvenRefIdeal.main_arg0) = m ((c.tc : Thread Cert.FfnEvenRefIdeal.nD Cert.FfnEvenRefIdeal.τ).loc Cert.FfnEvenRefIdeal.main_arg0)
      ∧ r.2.mem ((c.tc : Thread Cert.FfnEvenRefIdeal.nD Cert.FfnEvenRefIdeal.τ).loc Cert.FfnEvenRefIdeal.main_arg1) = m ((c.tc : Thread Cert.FfnEvenRefIdeal.nD Cert.FfnEvenRefIdeal.τ).loc Cert.FfnEvenRefIdeal.main_arg1)
      ∧ r.2.mem ((c.tc : Thread Cert.FfnEvenRefIdeal.nD Cert.FfnEvenRefIdeal.τ).loc Cert.FfnEvenRefIdeal.main_arg2) = m ((c.tc : Thread Cert.FfnEvenRefIdeal.nD Cert.FfnEvenRefIdeal.τ).loc Cert.FfnEvenRefIdeal.main_arg2)
      ∧ r.2.mem ((c.tc : Thread Cert.FfnEvenRefIdeal.nD Cert.FfnEvenRefIdeal.τ).loc Cert.FfnEvenRefIdeal.main_arg3) = m ((c.tc : Thread Cert.FfnEvenRefIdeal.nD Cert.FfnEvenRefIdeal.τ).loc Cert.FfnEvenRefIdeal.main_arg3)
      ∧ r.2.mem ((c.tc : Thread Cert.FfnEvenRefIdeal.nD Cert.FfnEvenRefIdeal.τ).loc Cert.FfnEvenRefIdeal.main_arg4) = m ((c.tc : Thread Cert.FfnEvenRefIdeal.nD Cert.FfnEvenRefIdeal.τ).loc Cert.FfnEvenRefIdeal.main_arg4)
      ∧ r.2.mem ((c.tc : Thread Cert.FfnEvenRefIdeal.nD Cert.FfnEvenRefIdeal.τ).loc Cert.FfnEvenRefIdeal.main_arg5) = m ((c.tc : Thread Cert.FfnEvenRefIdeal.nD Cert.FfnEvenRefIdeal.τ).loc Cert.FfnEvenRefIdeal.main_arg5)
      ∧ r.2.mem ((c.tc : Thread Cert.FfnEvenRefIdeal.nD Cert.FfnEvenRefIdeal.τ).loc Cert.FfnEvenRefIdeal.main_arg6) = m ((c.tc : Thread Cert.FfnEvenRefIdeal.nD Cert.FfnEvenRefIdeal.τ).loc Cert.FfnEvenRefIdeal.main_arg6)
      ∧ r.2.mem ((c.tc : Thread Cert.FfnEvenRefIdeal.nD Cert.FfnEvenRefIdeal.τ).loc Cert.FfnEvenRefIdeal.main_arg7) = m ((c.tc : Thread Cert.FfnEvenRefIdeal.nD Cert.FfnEvenRefIdeal.τ).loc Cert.FfnEvenRefIdeal.main_arg7))
      ∧ r.2.sem = fun _ => 0)

def quiescent_FfnOdd [hFfnOdd : Cert.FfnOdd.Facts] : Prop :=
  ∀ (m : (ℓ : Loc Cert.FfnOdd.nD Cert.FfnOdd.τ Cert.FfnOdd.sig) → Buf (Elt Bits) ℓ) (g : Dev Cert.FfnOdd.nD → PrngReg), Pre_FfnOdd m →
    θ_run (Cert.FfnOdd.defs (F := Bits)) (onTc (τ := Cert.FfnOdd.τ) (Cert.FfnOdd.main (F := Bits))) ⟨m, fun _ => 0, g⟩ (fun r => (∀ c : Dev Cert.FfnOdd.nD,
      r.2.mem ((c.tc : Thread Cert.FfnOdd.nD Cert.FfnOdd.τ).loc Cert.FfnOdd.main_arg0) = m ((c.tc : Thread Cert.FfnOdd.nD Cert.FfnOdd.τ).loc Cert.FfnOdd.main_arg0)
      ∧ r.2.mem ((c.tc : Thread Cert.FfnOdd.nD Cert.FfnOdd.τ).loc Cert.FfnOdd.main_arg1) = m ((c.tc : Thread Cert.FfnOdd.nD Cert.FfnOdd.τ).loc Cert.FfnOdd.main_arg1)
      ∧ r.2.mem ((c.tc : Thread Cert.FfnOdd.nD Cert.FfnOdd.τ).loc Cert.FfnOdd.main_arg2) = m ((c.tc : Thread Cert.FfnOdd.nD Cert.FfnOdd.τ).loc Cert.FfnOdd.main_arg2)
      ∧ r.2.mem ((c.tc : Thread Cert.FfnOdd.nD Cert.FfnOdd.τ).loc Cert.FfnOdd.main_arg3) = m ((c.tc : Thread Cert.FfnOdd.nD Cert.FfnOdd.τ).loc Cert.FfnOdd.main_arg3)
      ∧ r.2.mem ((c.tc : Thread Cert.FfnOdd.nD Cert.FfnOdd.τ).loc Cert.FfnOdd.main_arg4) = m ((c.tc : Thread Cert.FfnOdd.nD Cert.FfnOdd.τ).loc Cert.FfnOdd.main_arg4)
      ∧ r.2.mem ((c.tc : Thread Cert.FfnOdd.nD Cert.FfnOdd.τ).loc Cert.FfnOdd.main_arg5) = m ((c.tc : Thread Cert.FfnOdd.nD Cert.FfnOdd.τ).loc Cert.FfnOdd.main_arg5)
      ∧ r.2.mem ((c.tc : Thread Cert.FfnOdd.nD Cert.FfnOdd.τ).loc Cert.FfnOdd.main_arg6) = m ((c.tc : Thread Cert.FfnOdd.nD Cert.FfnOdd.τ).loc Cert.FfnOdd.main_arg6))
      ∧ r.2.sem = fun _ => 0)

def quiescent_FfnOddIdeal [hFfnOddIdeal : Cert.FfnOddIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg), Pre_FfnOddIdeal m →
    θ_run (Cert.FfnOddIdeal.defs (F := Ideal)) (onTc (τ := Cert.FfnOddIdeal.τ) (Cert.FfnOddIdeal.main (F := Ideal))) ⟨m, fun _ => 0, g⟩ (fun r => (∀ c : Dev Cert.FfnOddIdeal.nD,
      r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
      ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
      ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
      ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
      ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
      ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
      ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6))
      ∧ r.2.sem = fun _ => 0)

def quiescent_FfnOddRefIdeal [hFfnOddRefIdeal : Cert.FfnOddRefIdeal.Facts] : Prop :=
  ∀ (m : (ℓ : Loc Cert.FfnOddRefIdeal.nD Cert.FfnOddRefIdeal.τ Cert.FfnOddRefIdeal.sig) → Buf (Elt Ideal) ℓ) (g : Dev Cert.FfnOddRefIdeal.nD → PrngReg), Pre_FfnOddRefIdeal m →
    θ_run (Cert.FfnOddRefIdeal.defs (F := Ideal)) (onTc (τ := Cert.FfnOddRefIdeal.τ) (Cert.FfnOddRefIdeal.main (F := Ideal))) ⟨m, fun _ => 0, g⟩ (fun r => (∀ c : Dev Cert.FfnOddRefIdeal.nD,
      r.2.mem ((c.tc : Thread Cert.FfnOddRefIdeal.nD Cert.FfnOddRefIdeal.τ).loc Cert.FfnOddRefIdeal.main_arg0) = m ((c.tc : Thread Cert.FfnOddRefIdeal.nD Cert.FfnOddRefIdeal.τ).loc Cert.FfnOddRefIdeal.main_arg0)
      ∧ r.2.mem ((c.tc : Thread Cert.FfnOddRefIdeal.nD Cert.FfnOddRefIdeal.τ).loc Cert.FfnOddRefIdeal.main_arg1) = m ((c.tc : Thread Cert.FfnOddRefIdeal.nD Cert.FfnOddRefIdeal.τ).loc Cert.FfnOddRefIdeal.main_arg1)
      ∧ r.2.mem ((c.tc : Thread Cert.FfnOddRefIdeal.nD Cert.FfnOddRefIdeal.τ).loc Cert.FfnOddRefIdeal.main_arg2) = m ((c.tc : Thread Cert.FfnOddRefIdeal.nD Cert.FfnOddRefIdeal.τ).loc Cert.FfnOddRefIdeal.main_arg2)
      ∧ r.2.mem ((c.tc : Thread Cert.FfnOddRefIdeal.nD Cert.FfnOddRefIdeal.τ).loc Cert.FfnOddRefIdeal.main_arg3) = m ((c.tc : Thread Cert.FfnOddRefIdeal.nD Cert.FfnOddRefIdeal.τ).loc Cert.FfnOddRefIdeal.main_arg3)
      ∧ r.2.mem ((c.tc : Thread Cert.FfnOddRefIdeal.nD Cert.FfnOddRefIdeal.τ).loc Cert.FfnOddRefIdeal.main_arg4) = m ((c.tc : Thread Cert.FfnOddRefIdeal.nD Cert.FfnOddRefIdeal.τ).loc Cert.FfnOddRefIdeal.main_arg4)
      ∧ r.2.mem ((c.tc : Thread Cert.FfnOddRefIdeal.nD Cert.FfnOddRefIdeal.τ).loc Cert.FfnOddRefIdeal.main_arg5) = m ((c.tc : Thread Cert.FfnOddRefIdeal.nD Cert.FfnOddRefIdeal.τ).loc Cert.FfnOddRefIdeal.main_arg5)
      ∧ r.2.mem ((c.tc : Thread Cert.FfnOddRefIdeal.nD Cert.FfnOddRefIdeal.τ).loc Cert.FfnOddRefIdeal.main_arg6) = m ((c.tc : Thread Cert.FfnOddRefIdeal.nD Cert.FfnOddRefIdeal.τ).loc Cert.FfnOddRefIdeal.main_arg6))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6)
      ∧ r.2.mem ((c.tc : Thread Cert.FfnLast.nD Cert.FfnLast.τ).loc Cert.FfnLast.main_arg7) = m ((c.tc : Thread Cert.FfnLast.nD Cert.FfnLast.τ).loc Cert.FfnLast.main_arg7))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
      ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6)
      ∧ r.2.mem ((c.tc : Thread Cert.FfnLastRefIdeal.nD Cert.FfnLastRefIdeal.τ).loc Cert.FfnLastRefIdeal.main_arg7) = m ((c.tc : Thread Cert.FfnLastRefIdeal.nD Cert.FfnLastRefIdeal.τ).loc Cert.FfnLastRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def preserves_FfnEven_FfnEvenIdeal : Prop :=
  True

def algebraic_FfnEvenIdeal_FfnEvenRefIdeal [hFfnEvenIdeal : Cert.FfnEvenIdeal.Facts] [hFfnEvenRefIdeal : Cert.FfnEvenRefIdeal.Facts] : Prop :=
  ∀ (m : (ℓ : Loc Cert.FfnEvenIdeal.nD Cert.FfnEvenIdeal.τ Cert.FfnEvenIdeal.sig) → Buf (Elt Ideal) ℓ) (g : Dev Cert.FfnEvenIdeal.nD → PrngReg)
    (m' : (ℓ : Loc Cert.FfnEvenRefIdeal.nD Cert.FfnEvenRefIdeal.τ Cert.FfnEvenRefIdeal.sig) → Buf (Elt Ideal) ℓ) (g' : Dev Cert.FfnEvenRefIdeal.nD → PrngReg), Pre_FfnEvenIdeal m →
    (∀ c : Dev Cert.FfnEvenIdeal.nD,
      m' ((c.tc : Thread Cert.FfnEvenRefIdeal.nD Cert.FfnEvenRefIdeal.τ).loc Cert.FfnEvenRefIdeal.main_arg0) = m ((c.tc : Thread Cert.FfnEvenIdeal.nD Cert.FfnEvenIdeal.τ).loc Cert.FfnEvenIdeal.main_arg0)
      ∧ m' ((c.tc : Thread Cert.FfnEvenRefIdeal.nD Cert.FfnEvenRefIdeal.τ).loc Cert.FfnEvenRefIdeal.main_arg1) = m ((c.tc : Thread Cert.FfnEvenIdeal.nD Cert.FfnEvenIdeal.τ).loc Cert.FfnEvenIdeal.main_arg1)
      ∧ m' ((c.tc : Thread Cert.FfnEvenRefIdeal.nD Cert.FfnEvenRefIdeal.τ).loc Cert.FfnEvenRefIdeal.main_arg2) = m ((c.tc : Thread Cert.FfnEvenIdeal.nD Cert.FfnEvenIdeal.τ).loc Cert.FfnEvenIdeal.main_arg2)
      ∧ m' ((c.tc : Thread Cert.FfnEvenRefIdeal.nD Cert.FfnEvenRefIdeal.τ).loc Cert.FfnEvenRefIdeal.main_arg3) = m ((c.tc : Thread Cert.FfnEvenIdeal.nD Cert.FfnEvenIdeal.τ).loc Cert.FfnEvenIdeal.main_arg3)
      ∧ m' ((c.tc : Thread Cert.FfnEvenRefIdeal.nD Cert.FfnEvenRefIdeal.τ).loc Cert.FfnEvenRefIdeal.main_arg4) = m ((c.tc : Thread Cert.FfnEvenIdeal.nD Cert.FfnEvenIdeal.τ).loc Cert.FfnEvenIdeal.main_arg4)
      ∧ m' ((c.tc : Thread Cert.FfnEvenRefIdeal.nD Cert.FfnEvenRefIdeal.τ).loc Cert.FfnEvenRefIdeal.main_arg5) = m ((c.tc : Thread Cert.FfnEvenIdeal.nD Cert.FfnEvenIdeal.τ).loc Cert.FfnEvenIdeal.main_arg5)
      ∧ m' ((c.tc : Thread Cert.FfnEvenRefIdeal.nD Cert.FfnEvenRefIdeal.τ).loc Cert.FfnEvenRefIdeal.main_arg6) = m ((c.tc : Thread Cert.FfnEvenIdeal.nD Cert.FfnEvenIdeal.τ).loc Cert.FfnEvenIdeal.main_arg6)
      ∧ m' ((c.tc : Thread Cert.FfnEvenRefIdeal.nD Cert.FfnEvenRefIdeal.τ).loc Cert.FfnEvenRefIdeal.main_arg7) = m ((c.tc : Thread Cert.FfnEvenIdeal.nD Cert.FfnEvenIdeal.τ).loc Cert.FfnEvenIdeal.main_arg7)) →
    ∃ (v0 : (c : Dev Cert.FfnEvenIdeal.nD) → Buf (Elt Ideal) ((c.tc : Thread Cert.FfnEvenIdeal.nD Cert.FfnEvenIdeal.τ).loc Cert.FfnEvenIdeal.main_v5)),
      θ_run (Cert.FfnEvenIdeal.defs (F := Ideal)) (onTc (τ := Cert.FfnEvenIdeal.τ) (Cert.FfnEvenIdeal.main (F := Ideal))) ⟨m, fun _ => 0, g⟩ (fun r => ∀ c : Dev Cert.FfnEvenIdeal.nD,
          r.2.mem ((c.tc : Thread Cert.FfnEvenIdeal.nD Cert.FfnEvenIdeal.τ).loc Cert.FfnEvenIdeal.main_v5) = v0 c
          ∧ r.2.mem ((c.tc : Thread Cert.FfnEvenIdeal.nD Cert.FfnEvenIdeal.τ).loc Cert.FfnEvenIdeal.main_arg0) = m ((c.tc : Thread Cert.FfnEvenIdeal.nD Cert.FfnEvenIdeal.τ).loc Cert.FfnEvenIdeal.main_arg0)
          ∧ r.2.mem ((c.tc : Thread Cert.FfnEvenIdeal.nD Cert.FfnEvenIdeal.τ).loc Cert.FfnEvenIdeal.main_arg1) = m ((c.tc : Thread Cert.FfnEvenIdeal.nD Cert.FfnEvenIdeal.τ).loc Cert.FfnEvenIdeal.main_arg1)
          ∧ r.2.mem ((c.tc : Thread Cert.FfnEvenIdeal.nD Cert.FfnEvenIdeal.τ).loc Cert.FfnEvenIdeal.main_arg2) = m ((c.tc : Thread Cert.FfnEvenIdeal.nD Cert.FfnEvenIdeal.τ).loc Cert.FfnEvenIdeal.main_arg2)
          ∧ r.2.mem ((c.tc : Thread Cert.FfnEvenIdeal.nD Cert.FfnEvenIdeal.τ).loc Cert.FfnEvenIdeal.main_arg3) = m ((c.tc : Thread Cert.FfnEvenIdeal.nD Cert.FfnEvenIdeal.τ).loc Cert.FfnEvenIdeal.main_arg3)
          ∧ r.2.mem ((c.tc : Thread Cert.FfnEvenIdeal.nD Cert.FfnEvenIdeal.τ).loc Cert.FfnEvenIdeal.main_arg4) = m ((c.tc : Thread Cert.FfnEvenIdeal.nD Cert.FfnEvenIdeal.τ).loc Cert.FfnEvenIdeal.main_arg4)
          ∧ r.2.mem ((c.tc : Thread Cert.FfnEvenIdeal.nD Cert.FfnEvenIdeal.τ).loc Cert.FfnEvenIdeal.main_arg5) = m ((c.tc : Thread Cert.FfnEvenIdeal.nD Cert.FfnEvenIdeal.τ).loc Cert.FfnEvenIdeal.main_arg5)
          ∧ r.2.mem ((c.tc : Thread Cert.FfnEvenIdeal.nD Cert.FfnEvenIdeal.τ).loc Cert.FfnEvenIdeal.main_arg6) = m ((c.tc : Thread Cert.FfnEvenIdeal.nD Cert.FfnEvenIdeal.τ).loc Cert.FfnEvenIdeal.main_arg6)
          ∧ r.2.mem ((c.tc : Thread Cert.FfnEvenIdeal.nD Cert.FfnEvenIdeal.τ).loc Cert.FfnEvenIdeal.main_arg7) = m ((c.tc : Thread Cert.FfnEvenIdeal.nD Cert.FfnEvenIdeal.τ).loc Cert.FfnEvenIdeal.main_arg7))
      ∧ θ_run (Cert.FfnEvenRefIdeal.defs (F := Ideal)) (onTc (τ := Cert.FfnEvenRefIdeal.τ) (Cert.FfnEvenRefIdeal.main (F := Ideal))) ⟨m', fun _ => 0, g'⟩ (fun r => ∀ c : Dev Cert.FfnEvenRefIdeal.nD,
          r.2.mem ((c.tc : Thread Cert.FfnEvenRefIdeal.nD Cert.FfnEvenRefIdeal.τ).loc Cert.FfnEvenRefIdeal.main_v23) = v0 c
          ∧ r.2.mem ((c.tc : Thread Cert.FfnEvenRefIdeal.nD Cert.FfnEvenRefIdeal.τ).loc Cert.FfnEvenRefIdeal.main_arg0) = m' ((c.tc : Thread Cert.FfnEvenRefIdeal.nD Cert.FfnEvenRefIdeal.τ).loc Cert.FfnEvenRefIdeal.main_arg0)
          ∧ r.2.mem ((c.tc : Thread Cert.FfnEvenRefIdeal.nD Cert.FfnEvenRefIdeal.τ).loc Cert.FfnEvenRefIdeal.main_arg1) = m' ((c.tc : Thread Cert.FfnEvenRefIdeal.nD Cert.FfnEvenRefIdeal.τ).loc Cert.FfnEvenRefIdeal.main_arg1)
          ∧ r.2.mem ((c.tc : Thread Cert.FfnEvenRefIdeal.nD Cert.FfnEvenRefIdeal.τ).loc Cert.FfnEvenRefIdeal.main_arg2) = m' ((c.tc : Thread Cert.FfnEvenRefIdeal.nD Cert.FfnEvenRefIdeal.τ).loc Cert.FfnEvenRefIdeal.main_arg2)
          ∧ r.2.mem ((c.tc : Thread Cert.FfnEvenRefIdeal.nD Cert.FfnEvenRefIdeal.τ).loc Cert.FfnEvenRefIdeal.main_arg3) = m' ((c.tc : Thread Cert.FfnEvenRefIdeal.nD Cert.FfnEvenRefIdeal.τ).loc Cert.FfnEvenRefIdeal.main_arg3)
          ∧ r.2.mem ((c.tc : Thread Cert.FfnEvenRefIdeal.nD Cert.FfnEvenRefIdeal.τ).loc Cert.FfnEvenRefIdeal.main_arg4) = m' ((c.tc : Thread Cert.FfnEvenRefIdeal.nD Cert.FfnEvenRefIdeal.τ).loc Cert.FfnEvenRefIdeal.main_arg4)
          ∧ r.2.mem ((c.tc : Thread Cert.FfnEvenRefIdeal.nD Cert.FfnEvenRefIdeal.τ).loc Cert.FfnEvenRefIdeal.main_arg5) = m' ((c.tc : Thread Cert.FfnEvenRefIdeal.nD Cert.FfnEvenRefIdeal.τ).loc Cert.FfnEvenRefIdeal.main_arg5)
          ∧ r.2.mem ((c.tc : Thread Cert.FfnEvenRefIdeal.nD Cert.FfnEvenRefIdeal.τ).loc Cert.FfnEvenRefIdeal.main_arg6) = m' ((c.tc : Thread Cert.FfnEvenRefIdeal.nD Cert.FfnEvenRefIdeal.τ).loc Cert.FfnEvenRefIdeal.main_arg6)
          ∧ r.2.mem ((c.tc : Thread Cert.FfnEvenRefIdeal.nD Cert.FfnEvenRefIdeal.τ).loc Cert.FfnEvenRefIdeal.main_arg7) = m' ((c.tc : Thread Cert.FfnEvenRefIdeal.nD Cert.FfnEvenRefIdeal.τ).loc Cert.FfnEvenRefIdeal.main_arg7))

def preserves_FfnOdd_FfnOddIdeal : Prop :=
  True

def algebraic_FfnOddIdeal_FfnOddRefIdeal [hFfnOddIdeal : Cert.FfnOddIdeal.Facts] [hFfnOddRefIdeal : Cert.FfnOddRefIdeal.Facts] : Prop :=
  ∀ (m : (ℓ : Loc Cert.FfnOddIdeal.nD Cert.FfnOddIdeal.τ Cert.FfnOddIdeal.sig) → Buf (Elt Ideal) ℓ) (g : Dev Cert.FfnOddIdeal.nD → PrngReg)
    (m' : (ℓ : Loc Cert.FfnOddRefIdeal.nD Cert.FfnOddRefIdeal.τ Cert.FfnOddRefIdeal.sig) → Buf (Elt Ideal) ℓ) (g' : Dev Cert.FfnOddRefIdeal.nD → PrngReg), Pre_FfnOddIdeal m →
    (∀ c : Dev Cert.FfnOddIdeal.nD,
      m' ((c.tc : Thread Cert.FfnOddRefIdeal.nD Cert.FfnOddRefIdeal.τ).loc Cert.FfnOddRefIdeal.main_arg0) = m ((c.tc : Thread Cert.FfnOddIdeal.nD Cert.FfnOddIdeal.τ).loc Cert.FfnOddIdeal.main_arg0)
      ∧ m' ((c.tc : Thread Cert.FfnOddRefIdeal.nD Cert.FfnOddRefIdeal.τ).loc Cert.FfnOddRefIdeal.main_arg1) = m ((c.tc : Thread Cert.FfnOddIdeal.nD Cert.FfnOddIdeal.τ).loc Cert.FfnOddIdeal.main_arg1)
      ∧ m' ((c.tc : Thread Cert.FfnOddRefIdeal.nD Cert.FfnOddRefIdeal.τ).loc Cert.FfnOddRefIdeal.main_arg2) = m ((c.tc : Thread Cert.FfnOddIdeal.nD Cert.FfnOddIdeal.τ).loc Cert.FfnOddIdeal.main_arg2)
      ∧ m' ((c.tc : Thread Cert.FfnOddRefIdeal.nD Cert.FfnOddRefIdeal.τ).loc Cert.FfnOddRefIdeal.main_arg3) = m ((c.tc : Thread Cert.FfnOddIdeal.nD Cert.FfnOddIdeal.τ).loc Cert.FfnOddIdeal.main_arg3)
      ∧ m' ((c.tc : Thread Cert.FfnOddRefIdeal.nD Cert.FfnOddRefIdeal.τ).loc Cert.FfnOddRefIdeal.main_arg4) = m ((c.tc : Thread Cert.FfnOddIdeal.nD Cert.FfnOddIdeal.τ).loc Cert.FfnOddIdeal.main_arg4)
      ∧ m' ((c.tc : Thread Cert.FfnOddRefIdeal.nD Cert.FfnOddRefIdeal.τ).loc Cert.FfnOddRefIdeal.main_arg5) = m ((c.tc : Thread Cert.FfnOddIdeal.nD Cert.FfnOddIdeal.τ).loc Cert.FfnOddIdeal.main_arg5)
      ∧ m' ((c.tc : Thread Cert.FfnOddRefIdeal.nD Cert.FfnOddRefIdeal.τ).loc Cert.FfnOddRefIdeal.main_arg6) = m ((c.tc : Thread Cert.FfnOddIdeal.nD Cert.FfnOddIdeal.τ).loc Cert.FfnOddIdeal.main_arg6)) →
    ∃ (v0 : (c : Dev Cert.FfnOddIdeal.nD) → Buf (Elt Ideal) ((c.tc : Thread Cert.FfnOddIdeal.nD Cert.FfnOddIdeal.τ).loc Cert.FfnOddIdeal.main_v5)),
      θ_run (Cert.FfnOddIdeal.defs (F := Ideal)) (onTc (τ := Cert.FfnOddIdeal.τ) (Cert.FfnOddIdeal.main (F := Ideal))) ⟨m, fun _ => 0, g⟩ (fun r => ∀ c : Dev Cert.FfnOddIdeal.nD,
          r.2.mem ((c.tc : Thread Cert.FfnOddIdeal.nD Cert.FfnOddIdeal.τ).loc Cert.FfnOddIdeal.main_v5) = v0 c
          ∧ r.2.mem ((c.tc : Thread Cert.FfnOddIdeal.nD Cert.FfnOddIdeal.τ).loc Cert.FfnOddIdeal.main_arg0) = m ((c.tc : Thread Cert.FfnOddIdeal.nD Cert.FfnOddIdeal.τ).loc Cert.FfnOddIdeal.main_arg0)
          ∧ r.2.mem ((c.tc : Thread Cert.FfnOddIdeal.nD Cert.FfnOddIdeal.τ).loc Cert.FfnOddIdeal.main_arg1) = m ((c.tc : Thread Cert.FfnOddIdeal.nD Cert.FfnOddIdeal.τ).loc Cert.FfnOddIdeal.main_arg1)
          ∧ r.2.mem ((c.tc : Thread Cert.FfnOddIdeal.nD Cert.FfnOddIdeal.τ).loc Cert.FfnOddIdeal.main_arg2) = m ((c.tc : Thread Cert.FfnOddIdeal.nD Cert.FfnOddIdeal.τ).loc Cert.FfnOddIdeal.main_arg2)
          ∧ r.2.mem ((c.tc : Thread Cert.FfnOddIdeal.nD Cert.FfnOddIdeal.τ).loc Cert.FfnOddIdeal.main_arg3) = m ((c.tc : Thread Cert.FfnOddIdeal.nD Cert.FfnOddIdeal.τ).loc Cert.FfnOddIdeal.main_arg3)
          ∧ r.2.mem ((c.tc : Thread Cert.FfnOddIdeal.nD Cert.FfnOddIdeal.τ).loc Cert.FfnOddIdeal.main_arg4) = m ((c.tc : Thread Cert.FfnOddIdeal.nD Cert.FfnOddIdeal.τ).loc Cert.FfnOddIdeal.main_arg4)
          ∧ r.2.mem ((c.tc : Thread Cert.FfnOddIdeal.nD Cert.FfnOddIdeal.τ).loc Cert.FfnOddIdeal.main_arg5) = m ((c.tc : Thread Cert.FfnOddIdeal.nD Cert.FfnOddIdeal.τ).loc Cert.FfnOddIdeal.main_arg5)
          ∧ r.2.mem ((c.tc : Thread Cert.FfnOddIdeal.nD Cert.FfnOddIdeal.τ).loc Cert.FfnOddIdeal.main_arg6) = m ((c.tc : Thread Cert.FfnOddIdeal.nD Cert.FfnOddIdeal.τ).loc Cert.FfnOddIdeal.main_arg6))
      ∧ θ_run (Cert.FfnOddRefIdeal.defs (F := Ideal)) (onTc (τ := Cert.FfnOddRefIdeal.τ) (Cert.FfnOddRefIdeal.main (F := Ideal))) ⟨m', fun _ => 0, g'⟩ (fun r => ∀ c : Dev Cert.FfnOddRefIdeal.nD,
          r.2.mem ((c.tc : Thread Cert.FfnOddRefIdeal.nD Cert.FfnOddRefIdeal.τ).loc Cert.FfnOddRefIdeal.main_v21) = v0 c
          ∧ r.2.mem ((c.tc : Thread Cert.FfnOddRefIdeal.nD Cert.FfnOddRefIdeal.τ).loc Cert.FfnOddRefIdeal.main_arg0) = m' ((c.tc : Thread Cert.FfnOddRefIdeal.nD Cert.FfnOddRefIdeal.τ).loc Cert.FfnOddRefIdeal.main_arg0)
          ∧ r.2.mem ((c.tc : Thread Cert.FfnOddRefIdeal.nD Cert.FfnOddRefIdeal.τ).loc Cert.FfnOddRefIdeal.main_arg1) = m' ((c.tc : Thread Cert.FfnOddRefIdeal.nD Cert.FfnOddRefIdeal.τ).loc Cert.FfnOddRefIdeal.main_arg1)
          ∧ r.2.mem ((c.tc : Thread Cert.FfnOddRefIdeal.nD Cert.FfnOddRefIdeal.τ).loc Cert.FfnOddRefIdeal.main_arg2) = m' ((c.tc : Thread Cert.FfnOddRefIdeal.nD Cert.FfnOddRefIdeal.τ).loc Cert.FfnOddRefIdeal.main_arg2)
          ∧ r.2.mem ((c.tc : Thread Cert.FfnOddRefIdeal.nD Cert.FfnOddRefIdeal.τ).loc Cert.FfnOddRefIdeal.main_arg3) = m' ((c.tc : Thread Cert.FfnOddRefIdeal.nD Cert.FfnOddRefIdeal.τ).loc Cert.FfnOddRefIdeal.main_arg3)
          ∧ r.2.mem ((c.tc : Thread Cert.FfnOddRefIdeal.nD Cert.FfnOddRefIdeal.τ).loc Cert.FfnOddRefIdeal.main_arg4) = m' ((c.tc : Thread Cert.FfnOddRefIdeal.nD Cert.FfnOddRefIdeal.τ).loc Cert.FfnOddRefIdeal.main_arg4)
          ∧ r.2.mem ((c.tc : Thread Cert.FfnOddRefIdeal.nD Cert.FfnOddRefIdeal.τ).loc Cert.FfnOddRefIdeal.main_arg5) = m' ((c.tc : Thread Cert.FfnOddRefIdeal.nD Cert.FfnOddRefIdeal.τ).loc Cert.FfnOddRefIdeal.main_arg5)
          ∧ r.2.mem ((c.tc : Thread Cert.FfnOddRefIdeal.nD Cert.FfnOddRefIdeal.τ).loc Cert.FfnOddRefIdeal.main_arg6) = m' ((c.tc : Thread Cert.FfnOddRefIdeal.nD Cert.FfnOddRefIdeal.τ).loc Cert.FfnOddRefIdeal.main_arg6))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)
      ∧ m' ((c.tc : Thread Cert.FfnLastRefIdeal.nD Cert.FfnLastRefIdeal.τ).loc Cert.FfnLastRefIdeal.main_arg7) = m ((c.tc : Thread Cert.FfnLastIdeal.nD Cert.FfnLastIdeal.τ).loc Cert.FfnLastIdeal.main_arg7)) →
    ∃ (v0 : (c : Dev Cert.FfnLastIdeal.nD) → Buf (Elt Ideal) ((c.tc : Thread Cert.FfnLastIdeal.nD Cert.FfnLastIdeal.τ).loc Cert.FfnLastIdeal.main_v6)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v6) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
          ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v34) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6)
          ∧ r.2.mem ((c.tc : Thread Cert.FfnLastRefIdeal.nD Cert.FfnLastRefIdeal.τ).loc Cert.FfnLastRefIdeal.main_arg7) = m' ((c.tc : Thread Cert.FfnLastRefIdeal.nD Cert.FfnLastRefIdeal.τ).loc Cert.FfnLastRefIdeal.main_arg7))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v78)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v78) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v136) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_OddIn_OddInIdeal : Prop :=
  IdealRules.named_const.Statement Cert.OddInIdeal.κ "scale_log2e" .f32 0x3E38AA3B#32 (((8 * (Real.log 2))⁻¹ : ℝ) : EReal)

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v2_0)) (v1 : (c : Dev Cert.OddInIdeal.nD) → Buf (Elt Ideal) ((c.tc : Thread Cert.OddInIdeal.nD Cert.OddInIdeal.τ).loc Cert.OddInIdeal.main_v2_1)) (v2 : (c : Dev Cert.OddInIdeal.nD) → Buf (Elt Ideal) ((c.tc : Thread Cert.OddInIdeal.nD Cert.OddInIdeal.τ).loc Cert.OddInIdeal.main_v2_2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2_0) = v0 c
          ∧ r.2.mem ((c.tc : Thread Cert.OddInIdeal.nD Cert.OddInIdeal.τ).loc Cert.OddInIdeal.main_v2_1) = v1 c
          ∧ r.2.mem ((c.tc : Thread Cert.OddInIdeal.nD Cert.OddInIdeal.τ).loc Cert.OddInIdeal.main_v2_2) = v2 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v24) = v0 c
          ∧ r.2.mem ((c.tc : Thread Cert.OddInRefIdeal.nD Cert.OddInRefIdeal.τ).loc Cert.OddInRefIdeal.main_v25) = v1 c
          ∧ r.2.mem ((c.tc : Thread Cert.OddInRefIdeal.nD Cert.OddInRefIdeal.τ).loc Cert.OddInRefIdeal.main_v26) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def Claim : Prop :=
  ∃ (hFfnEven : Cert.FfnEven.Facts) (hFfnEvenIdeal : Cert.FfnEvenIdeal.Facts) (hFfnEvenRefIdeal : Cert.FfnEvenRefIdeal.Facts) (hFfnOdd : Cert.FfnOdd.Facts) (hFfnOddIdeal : Cert.FfnOddIdeal.Facts) (hFfnOddRefIdeal : Cert.FfnOddRefIdeal.Facts) (hFfnLast : Cert.FfnLast.Facts) (hFfnLastIdeal : Cert.FfnLastIdeal.Facts) (hFfnLastRefIdeal : Cert.FfnLastRefIdeal.Facts) (hAttn : Cert.Attn.Facts) (hAttnIdeal : Cert.AttnIdeal.Facts) (hAttnRefIdeal : Cert.AttnRefIdeal.Facts) (hOddIn : Cert.OddIn.Facts) (hOddInIdeal : Cert.OddInIdeal.Facts) (hOddInRefIdeal : Cert.OddInRefIdeal.Facts) (hPre_attn_finite : Cert.Pre_attn_finite.Facts),
    quiescent_FfnEven (hFfnEven := hFfnEven)
    ∧ quiescent_FfnEvenIdeal (hFfnEvenIdeal := hFfnEvenIdeal)
    ∧ quiescent_FfnEvenRefIdeal (hFfnEvenRefIdeal := hFfnEvenRefIdeal)
    ∧ quiescent_FfnOdd (hFfnOdd := hFfnOdd)
    ∧ quiescent_FfnOddIdeal (hFfnOddIdeal := hFfnOddIdeal)
    ∧ quiescent_FfnOddRefIdeal (hFfnOddRefIdeal := hFfnOddRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_OddIn (hOddIn := hOddIn)
    ∧ quiescent_OddInIdeal (hOddInIdeal := hOddInIdeal)
    ∧ quiescent_OddInRefIdeal (hOddInRefIdeal := hOddInRefIdeal)
    ∧ preserves_FfnEven_FfnEvenIdeal
    ∧ algebraic_FfnEvenIdeal_FfnEvenRefIdeal (hFfnEvenIdeal := hFfnEvenIdeal) (hFfnEvenRefIdeal := hFfnEvenRefIdeal)
    ∧ preserves_FfnOdd_FfnOddIdeal
    ∧ algebraic_FfnOddIdeal_FfnOddRefIdeal (hFfnOddIdeal := hFfnOddIdeal) (hFfnOddRefIdeal := hFfnOddRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_OddIn_OddInIdeal
    ∧ algebraic_OddInIdeal_OddInRefIdeal (hOddInIdeal := hOddInIdeal) (hOddInRefIdeal := hOddInRefIdeal)
-- ==== Pre_attn_finite.lean ====
abbrev S32768x1024 : Shape := ⟨2, ![32768, 1024]⟩
abbrev S8x16x1024x256 : Shape := ⟨4, ![8, 16, 1024, 256]⟩
abbrev S4x64 : Shape := ⟨2, ![4, 64]⟩
abbrev S128 : Shape := ⟨1, ![128]⟩
abbrev S32x8 : Shape := ⟨2, ![32, 8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x16x1024x256 : S_.BroadcastsInDim S8x16x1024x256 (![] : Fin 0 → Fin S8x16x1024x256.rank)
  reducesTo_S8x16x1024x256_S_d0_1_2_3 : S8x16x1024x256.ReducesTo [0, 1, 2, 3] S_
  bcast_S_S4x64 : S_.BroadcastsInDim S4x64 (![] : Fin 0 → Fin S4x64.rank)
  reducesTo_S4x64_S_d0_1 : S4x64.ReducesTo [0, 1] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_arg5 : FVec F S32x8 .f32) (main_v3 : IVec S_ 1) (main_v7 : IVec S_ 1) (main_v11 : IVec S_ 1) (main_v15 : IVec S_ 1) : IVec S_ 1 :=
  let main_v16 : FVec F S32x8 .f32 := Host.absf main_arg5
  let main_cst_6 : FVec F S_ .f32 := constant S_ .f32 0x7F800000#32
  let main_v17 : FVec F S32x8 .f32 := broadcastInDim S32x8 ![] bcast_S_S32x8 main_cst_6
  let main_v18 : IVec S32x8 1 := cmpf .olt main_v16 main_v17
  let main_c_7 : IVec S_ 1 := constantI S_ 1 1#1
  let main_v19 : IVec S_ 1 := (fun x v => Host.reduce IntOp.andi x v reducesTo_S32x8_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S32768x1024 .bf16) (main_arg1 : FVec F S32768x1024 .bf16) (main_arg2 : FVec F S8x16x1024x256 .bf16) (main_arg3 : FVec F S4x64 .f32) (main_arg4 : FVec F S128 .f32) (main_arg5 : FVec F S32x8 .f32) : IVec S_ 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .bf16 := Host.absf main_arg1
  let main_cst_0 : FVec F S_ .bf16 := constant S_ .bf16 0x7F80#16
  let main_v5 : FVec F S32768x1024 .bf16 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : FVec F S8x16x1024x256 .bf16 := Host.absf main_arg2
  let main_cst_2 : FVec F S_ .bf16 := constant S_ .bf16 0x7F80#16
  let main_v9 : FVec F S8x16x1024x256 .bf16 := broadcastInDim S8x16x1024x256 ![] bcast_S_S8x16x1024x256 main_cst_2
  let main_v10 : IVec S8x16x1024x256 1 := cmpf .olt main_v8 main_v9
  let main_c_3 : IVec S_ 1 := constantI S_ 1 1#1
  let main_v11 : IVec S_ 1 := (fun x v => Host.reduce IntOp.andi x v reducesTo_S8x16x1024x256_S_d0_1_2_3 h_S_) main_v10 main_c_3
  let main_v12 : FVec F S4x64 .f32 := Host.absf main_arg3
  let main_cst_4 : FVec F S_ .f32 := constant S_ .f32 0x7F800000#32
  let main_v13 : FVec F S4x64 .f32 := broadcastInDim S4x64 ![] bcast_S_S4x64 main_cst_4
  let main_v14 : IVec S4x64 1 := cmpf .olt main_v12 main_v13
  let main_c_5 : IVec S_ 1 := constantI S_ 1 1#1
  let main_v15 : IVec S_ 1 := (fun x v => Host.reduce IntOp.andi x v reducesTo_S4x64_S_d0_1 h_S_) main_v14 main_c_5
  fn_part1 (F := F) main_arg5 main_v3 main_v7 main_v11 main_v15
-- ==== FfnEven.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x512 : Shape := ⟨2, ![1024, 512]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnEvenRefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== FfnOdd.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x1024, .bf16⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOddRefIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== FfnLast.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 15
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnLastRefIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Attn.lean ====
abbrev S32768x1024 : Shape := ⟨2, ![32768, 1024]⟩
abbrev S8x16x1024x256 : Shape := ⟨4, ![8, 16, 1024, 256]⟩
abbrev S4x64 : Shape := ⟨2, ![4, 64]⟩
abbrev S128 : Shape := ⟨1, ![128]⟩
abbrev S32x8 : Shape := ⟨2, ![32, 8]⟩
abbrev S768 : Shape := ⟨1, ![768]⟩
abbrev S1024 : Shape := ⟨1, ![1024]⟩
abbrev S_ : Shape := ⟨0, ![]⟩
abbrev S1024x1 : Shape := ⟨2, ![1024, 1]⟩
abbrev S1024x8 : Shape := ⟨2, ![1024, 8]⟩
abbrev S8x1024 : Shape := ⟨2, ![8, 1024]⟩
abbrev S768x1 : Shape := ⟨2, ![768, 1]⟩
abbrev S8x768 : Shape := ⟨2, ![8, 768]⟩
abbrev S1x8x1x768 : Shape := ⟨4, ![1, 8, 1, 768]⟩
abbrev S1x8x256x768 : Shape := ⟨4, ![1, 8, 256, 768]⟩
abbrev S8x196608 : Shape := ⟨2, ![8, 196608]⟩
abbrev S8x196352 : Shape := ⟨2, ![8, 196352]⟩
abbrev S8x256x767 : Shape := ⟨3, ![8, 256, 767]⟩
abbrev S8x256x512 : Shape := ⟨3, ![8, 256, 512]⟩
abbrev S1x8 : Shape := ⟨2, ![1, 8]⟩
abbrev S8 : Shape := ⟨1, ![8]⟩
abbrev S8x1x1 : Shape := ⟨3, ![8, 1, 1]⟩
abbrev S8x1x256x512 : Shape := ⟨4, ![8, 1, 256, 512]⟩
abbrev S8x4x256x512 : Shape := ⟨4, ![8, 4, 256, 512]⟩
abbrev S8x4x256x1024 : Shape := ⟨4, ![8, 4, 256, 1024]⟩
abbrev S128x1 : Shape := ⟨2, ![128, 1]⟩
abbrev S128x512 : Shape := ⟨2, ![128, 512]⟩
abbrev S512x128 : Shape := ⟨2, ![512, 128]⟩
abbrev S4096x128 : Shape := ⟨2, ![4096, 128]⟩
abbrev S1x16x128x256 : Shape := ⟨4, ![1, 16, 128, 256]⟩
abbrev S1x4x256x1024 : Shape := ⟨4, ![1, 4, 256, 1024]⟩
abbrev S1x1024 : Shape := ⟨2, ![1, 1024]⟩
abbrev S144x1024 : Shape := ⟨2, ![144, 1024]⟩
abbrev S128x1024 : Shape := ⟨2, ![128, 1024]⟩
abbrev S2x256x1024 : Shape := ⟨3, ![2, 256, 1024]⟩
abbrev S2x1x1024 : Shape := ⟨3, ![2, 1, 1024]⟩
abbrev S1024x128 : Shape := ⟨2, ![1024, 128]⟩
abbrev S16x256 : Shape := ⟨2, ![16, 256]⟩
abbrev S256x1024 : Shape := ⟨2, ![256, 1024]⟩
abbrev S1x256x1024 : Shape := ⟨3, ![1, 256, 1024]⟩
abbrev S1x1x1024 : Shape := ⟨3, ![1, 1, 1024]⟩
abbrev S256x128 : Shape := ⟨2, ![256, 128]⟩
abbrev S128x128 : Shape := ⟨2, ![128, 128]⟩
abbrev S1x1x256x128 : Shape := ⟨4, ![1, 1, 256, 128]⟩
abbrev S1x128 : Shape := ⟨2, ![1, 128]⟩
abbrev S1x256x128 : Shape := ⟨3, ![1, 256, 128]⟩
abbrev S1x1x128 : Shape := ⟨3, ![1, 1, 128]⟩
abbrev S1x1x128x256 : Shape := ⟨4, ![1, 1, 128, 256]⟩
abbrev S128x256 : Shape := ⟨2, ![128, 256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 119
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S8x16x1024x256, .bf16⟩
  | .hbm, ⟨3, _⟩ => ⟨S4x64, .f32⟩
  | .hbm, ⟨4, _⟩ => ⟨S128, .f32⟩
  | .hbm, ⟨5, _⟩ => ⟨S32x8, .f32⟩
  | .hbm, ⟨6, _⟩ => ⟨S768, .i32⟩
  | .hbm, ⟨7, _⟩ => ⟨S768, .i1⟩
  | .hbm, ⟨8, _⟩ => ⟨S768, .i1⟩
  | .hbm, ⟨9, _⟩ => ⟨S768, .i32⟩
  | .hbm, ⟨10, _⟩ => ⟨S768, .i1⟩
  | .hbm, ⟨11, _⟩ => ⟨S768, .i1⟩
  | .hbm, ⟨12, _⟩ => ⟨S768, .i32⟩
  | .hbm, ⟨13, _⟩ => ⟨S768, .i1⟩
  | .hbm, ⟨14, _⟩ => ⟨S768, .i1⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x8, .f32⟩
  | .hbm, ⟨50, _⟩ => ⟨S8x1024, .f32⟩
  | .hbm, ⟨51, _⟩ => ⟨S_, .i32⟩
  | .hbm, ⟨52, _⟩ => ⟨S768, .i32⟩
  | .hbm, ⟨53, _⟩ => ⟨S768, .i32⟩
  | .hbm, ⟨54, _⟩ => ⟨S768, .i32⟩
  | .hbm, ⟨55, _⟩ => ⟨S768x1, .i32⟩
  | .hbm, ⟨56, _⟩ => ⟨S8x768, .f32⟩
  | .hbm, ⟨57, _⟩ => ⟨S_, .f32⟩
  | .hbm, ⟨58, _⟩ => ⟨S_, .f32⟩
  | .hbm, ⟨59, _⟩ => ⟨S8x768, .i1⟩
  | .hbm, ⟨60, _⟩ => ⟨S8x768, .f32⟩
  | .hbm, ⟨61, _⟩ => ⟨S8x768, .f32⟩
  | .hbm, ⟨62, _⟩ => ⟨S1x8x1x768, .f32⟩
  | .hbm, ⟨63, _⟩ => ⟨S1x8x256x768, .f32⟩
  | .hbm, ⟨64, _⟩ => ⟨S8x196608, .f32⟩
  | .hbm, ⟨65, _⟩ => ⟨S8x196352, .f32⟩
  | .hbm, ⟨66, _⟩ => ⟨S8x256x767, .f32⟩
  | .hbm, ⟨67, _⟩ => ⟨S8x256x512, .f32⟩
  | .hbm, ⟨68, _⟩ => ⟨S_, .i32⟩
  | .hbm, ⟨69, _⟩ => ⟨S768, .i32⟩
  | .hbm, ⟨70, _⟩ => ⟨S768, .i32⟩
  | .hbm, ⟨71, _⟩ => ⟨S768, .i32⟩
  | .hbm, ⟨72, _⟩ => ⟨S768x1, .i32⟩
  | .hbm, ⟨73, _⟩ => ⟨S8x768, .f32⟩
  | .hbm, ⟨74, _⟩ => ⟨S_, .f32⟩
  | .hbm, ⟨75, _⟩ => ⟨S_, .f32⟩
  | .hbm, ⟨76, _⟩ => ⟨S8x768, .i1⟩
  | .hbm, ⟨77, _⟩ => ⟨S8x768, .f32⟩
  | .hbm, ⟨78, _⟩ => ⟨S8x768, .f32⟩
  | .hbm, ⟨79, _⟩ => ⟨S1x8x1x768, .f32⟩
  | .hbm, ⟨80, _⟩ => ⟨S1x8x256x768, .f32⟩
  | .hbm, ⟨81, _⟩ => ⟨S8x196608, .f32⟩
  | .hbm, ⟨82, _⟩ => ⟨S8x196352, .f32⟩
  | .hbm, ⟨83, _⟩ => ⟨S8x256x767, .f32⟩
  | .hbm, ⟨84, _⟩ => ⟨S8x256x512, .f32⟩
  | .hbm, ⟨85, _⟩ => ⟨S_, .i32⟩
  | .hbm, ⟨86, _⟩ => ⟨S768, .i32⟩
  | .hbm, ⟨87, _⟩ => ⟨S768, .i32⟩
  | .hbm, ⟨88, _⟩ => ⟨S768, .i32⟩
  | .hbm, ⟨89, _⟩ => ⟨S768x1, .i32⟩
  | .hbm, ⟨90, _⟩ => ⟨S8x768, .f32⟩
  | .hbm, ⟨91, _⟩ => ⟨S_, .f32⟩
  | .hbm, ⟨92, _⟩ => ⟨S_, .f32⟩
  | .hbm, ⟨93, _⟩ => ⟨S8x768, .i1⟩
  | .hbm, ⟨94, _⟩ => ⟨S8x768, .f32⟩
  | .hbm, ⟨95, _⟩ => ⟨S8x768, .f32⟩
  | .hbm, ⟨96, _⟩ => ⟨S1x8x1x768, .f32⟩
  | .hbm, ⟨97, _⟩ => ⟨S1x8x256x768, .f32⟩
  | .hbm, ⟨98, _⟩ => ⟨S8x196608, .f32⟩
  | .hbm, ⟨99, _⟩ => ⟨S8x196352, .f32⟩
  | .hbm, ⟨100, _⟩ => ⟨S8x256x767, .f32⟩
  | .hbm, ⟨101, _⟩ => ⟨S8x256x512, .f32⟩
  | .hbm, ⟨102, _⟩ => ⟨S1x8, .f32⟩
  | .hbm, ⟨103, _⟩ => ⟨S8, .f32⟩
  | .hbm, ⟨104, _⟩ => ⟨S8x1x1, .f32⟩
  | .hbm, ⟨105, _⟩ => ⟨S8x256x512, .f32⟩
  | .hbm, ⟨106, _⟩ => ⟨S8x1x256x512, .f32⟩
  | .hbm, ⟨107, _⟩ => ⟨S8x1x256x512, .f32⟩
  | .hbm, ⟨108, _⟩ => ⟨S8x1x256x512, .f32⟩
  | .hbm, ⟨109, _⟩ => ⟨S8x1x256x512, .f32⟩
  | .hbm, ⟨110, _⟩ => ⟨S8x4x256x512, .f32⟩
  | .hbm, ⟨111, _⟩ => ⟨S8x4x256x1024, .f32⟩
  | .hbm, ⟨112, _⟩ => ⟨S_, .f32⟩
  | .hbm, ⟨113, _⟩ => ⟨S_, .f32⟩
  | .hbm, ⟨114, _⟩ => ⟨S8x4x256x1024, .f32⟩
  | .hbm, ⟨115, _⟩ => ⟨S8x4x256x1024, .f32⟩
  | .hbm, ⟨116, _⟩ => ⟨S128x1, .f32⟩
  | .hbm, ⟨117, _⟩ => ⟨S128x512, .f32⟩
  | .hbm, ⟨118, _⟩ => ⟨S32768x1024, .bf16⟩
  | .local _ .vmem, ⟨0, _⟩ => ⟨S4x64, .f32⟩
  | .local _ .vmem, ⟨1, _⟩ => ⟨S512x128, .bf16⟩
  | .local _ .vmem, ⟨2, _⟩ => ⟨S512x128, .bf16⟩
  | .local _ .vmem, ⟨3, _⟩ => ⟨S4096x128, .bf16⟩
  | .local _ .vmem, ⟨4, _⟩ => ⟨S4096x128, .bf16⟩
  | .local _ .vmem, ⟨5, _⟩ => ⟨S1x16x128x256, .bf16⟩
  | .local _ .vmem, ⟨6, _⟩ => ⟨S1x16x128x256, .bf16⟩
  | .local _ .vmem, ⟨7, _⟩ => ⟨S1x4x256x1024, .f32⟩
  | .local _ .vmem, ⟨8, _⟩ => ⟨S1x4x256x1024, .f32⟩
  | .local _ .vmem, ⟨9, _⟩ => ⟨S128x512, .f32⟩
  | .local _ .vmem, ⟨10, _⟩ => ⟨S512x128, .bf16⟩
  | .local _ .vmem, ⟨11, _⟩ => ⟨S512x128, .bf16⟩
  | .local _ .vmem, ⟨12, _⟩ => ⟨S1x1024, .f32⟩
  | .local _ .vmem, ⟨13, _⟩ => ⟨S144x1024, .f32⟩
  | .local _ .vmem, ⟨14, _⟩ => ⟨S128x1024, .bf16⟩
  | .local _ .vmem, ⟨15, _⟩ => ⟨S2x256x1024, .bf16⟩
  | .local _ .vmem, ⟨16, _⟩ => ⟨S2x1x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_v0 : Ref sig .tc := ⟨.hbm, 15, rfl⟩
abbrev main_c_8 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_9 : Ref sig .tc := ⟨.hbm, 24, rfl⟩
abbrev main_v7 : Ref sig .tc := ⟨.hbm, 25, rfl⟩
abbrev main_v8 : Ref sig .tc := ⟨.hbm, 26, rfl⟩
abbrev main_cst_10 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_11 : Ref sig .tc := ⟨.hbm, 31, rfl⟩
abbrev main_v12 : Ref sig .tc := ⟨.hbm, 32, rfl⟩
abbrev main_v13 : Ref sig .tc := ⟨.hbm, 33, rfl⟩
abbrev main_c_12 : Ref sig .tc := ⟨.hbm, 34, rfl⟩
abbrev main_v14 : Ref sig .tc := ⟨.hbm, 35, rfl⟩
abbrev main_v15 : Ref sig .tc := ⟨.hbm, 36, rfl⟩
abbrev main_c_13 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_14 : Ref sig .tc := ⟨.hbm, 41, rfl⟩
abbrev main_v19 : Ref sig .tc := ⟨.hbm, 42, rfl⟩
abbrev main_v20 : Ref sig .tc := ⟨.hbm, 43, rfl⟩
abbrev main_c_15 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_16 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_17 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_18 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_19 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_20 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_21 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_28 : BitVec 32 := 1#32
  ⟨c0_i32_26, v57, c1_i32_28⟩
def k0_mult1 (i : grid0.Coords) (k0_t1 : Fin (k0_t1_loop i).trips) : BitVec 32 :=
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let c256_i32 : BitVec 32 := 256#32
  let v121 : BitVec 32 := Scalar.muli v120 c256_i32
  v121
def k0_off1 (i : grid0.Coords) (k0_t1 : Fin (k0_t1_loop i).trips) : Fin 2 → Nat :=
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let c256_i32 : BitVec 32 := 256#32
  let v121 : BitVec 32 := Scalar.muli v120 c256_i32
  let v122 : BitVec 32 := v121
  let v123 : Index := Scalar.indexCast v122
  let c0_63 : Index := 0#32
  ![v123.toNat, 0]
def k0_off2 (i : grid0.Coords) (k0_t1 : Fin (k0_t1_loop i).trips) : Fin 4 → Nat :=
  let c0_68 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v130 : Index := Scalar.indexCast v127
  let c0_69 : Index := 0#32
  let c0_70 : Index := 0#32
  ![0, v130.toNat, 0, 0]
def k0_off3 (i : grid0.Coords) (k0_t1 : Fin (k0_t1_loop i).trips) : Fin 4 → Nat :=
  let c0_85 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v155 : Index := Scalar.indexCast v127
  let c0_86 : Index := 0#32
  let c128_87 : Index := 128#32
  ![0, v155.toNat, 0, 128]
def k0_off4 (i : grid0.Coords) (k0_t1 : Fin (k0_t1_loop i).trips) : Fin 4 → Nat :=
  let c0_101 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v180 : Index := Scalar.indexCast v127
  let c0_102 : Index := 0#32
  let c256_103 : Index := 256#32
  ![0, v180.toNat, 0, 256]
def k0_off5 (i : grid0.Coords) (k0_t1 : Fin (k0_t1_loop i).trips) : Fin 4 → Nat :=
  let c0_117 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v205 : Index := Scalar.indexCast v127
  let c0_118 : Index := 0#32
  let c384_119 : Index := 384#32
  ![0, v205.toNat, 0, 384]
def k0_off6 (i : grid0.Coords) (k0_t1 : Fin (k0_t1_loop i).trips) : Fin 4 → Nat :=
  let c0_133 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v230 : Index := Scalar.indexCast v127
  let c0_134 : Index := 0#32
  let c512_135 : Index := 512#32
  ![0, v230.toNat, 0, 512]
def k0_off7 (i : grid0.Coords) (k0_t1 : Fin (k0_t1_loop i).trips) : Fin 4 → Nat :=
  let c0_149 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v255 : Index := Scalar.indexCast v127
  let c0_150 : Index := 0#32
  let c640_151 : Index := 640#32
  ![0, v255.toNat, 0, 640]
def k0_off8 (i : grid0.Coords) (k0_t1 : Fin (k0_t1_loop i).trips) : Fin 4 → Nat :=
  let c0_165 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v280 : Index := Scalar.indexCast v127
  let c0_166 : Index := 0#32
  let c768_167 : Index := 768#32
  ![0, v280.toNat, 0, 768]
def k0_off9 (i : grid0.Coords) (k0_t1 : Fin (k0_t1_loop i).trips) : Fin 4 → Nat :=
  let c0_181 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let v126 : BitVec 32 := Scalar.subi v125 v120
  let c3_i32 : BitVec 32 := 3#32
  let v127 : BitVec 32 := Scalar.minsi v126 c3_i32
  let v305 : Index := Scalar.indexCast v127
  let c0_182 : Index := 0#32
  let c896_183 : Index := 896#32
  ![0, v305.toNat, 0, 896]
def k0_off10 (i : grid0.Coords) (k0_t1 : Fin (k0_t1_loop i).trips) : Fin 4 → Nat :=
  let c0_197 : Index := 0#32
  let c2_i32_62 : BitVec 32 := 2#32
  let c0_i32_26 : BitVec 32 := 0#32
  let c1_i32_28 : BitVec 32 := 1#32
  let arg15 : BitVec 32 := Scf.iv c0_i32_26 c1_i32_28 k0_t1
  let v120 : BitVec 32 := Scalar.muli c2_i32_62 arg15
  let c1_i32_195 : BitVec 32 := 1#32
  let v328 : BitVec 32 := Scalar.subi v120 c1_i32_195
  let c0_i32_196 : BitVec 32 := 0#32
  let v329 : BitVec 32 := Scalar.maxsi v328 c0_i32_196
  let v330 : Index := Scalar.indexCast v329
  let c0_198 : Index := 0#32
  let c0_199 : Index := 0#32
  ![0, v330.toNat, 0, 0]
def k0_mult2 (i : grid0.Coords) (k0_t1 : Fin (k0_t1_loop i).trips) : BitVec 32 :=
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let c256_i32_213 : BitVec 32 := 256#32
  let v348 : BitVec 32 := Scalar.muli v347 c256_i32_213
  v348
def k0_off11 (i : grid0.Coords) (k0_t1 : Fin (k0_t1_loop i).trips) : Fin 2 → Nat :=
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let c256_i32_213 : BitVec 32 := 256#32
  let v348 : BitVec 32 := Scalar.muli v347 c256_i32_213
  let v349 : BitVec 32 := v348
  let v350 : Index := Scalar.indexCast v349
  let c0_214 : Index := 0#32
  ![v350.toNat, 0]
def k0_off12 (i : grid0.Coords) (k0_t1 : Fin (k0_t1_loop i).trips) : Fin 4 → Nat :=
  let c0_220 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v357 : Index := Scalar.indexCast v354
  let c0_221 : Index := 0#32
  let c0_222 : Index := 0#32
  ![0, v357.toNat, 0, 0]
def k0_off13 (i : grid0.Coords) (k0_t1 : Fin (k0_t1_loop i).trips) : Fin 4 → Nat :=
  let c0_237 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v382 : Index := Scalar.indexCast v354
  let c0_238 : Index := 0#32
  let c128_239 : Index := 128#32
  ![0, v382.toNat, 0, 128]
def k0_off14 (i : grid0.Coords) (k0_t1 : Fin (k0_t1_loop i).trips) : Fin 4 → Nat :=
  let c0_254 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v407 : Index := Scalar.indexCast v354
  let c0_255 : Index := 0#32
  let c256_256 : Index := 256#32
  ![0, v407.toNat, 0, 256]
def k0_off15 (i : grid0.Coords) (k0_t1 : Fin (k0_t1_loop i).trips) : Fin 4 → Nat :=
  let c0_271 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v432 : Index := Scalar.indexCast v354
  let c0_272 : Index := 0#32
  let c384_273 : Index := 384#32
  ![0, v432.toNat, 0, 384]
def k0_off16 (i : grid0.Coords) (k0_t1 : Fin (k0_t1_loop i).trips) : Fin 4 → Nat :=
  let c0_288 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v457 : Index := Scalar.indexCast v354
  let c0_289 : Index := 0#32
  let c512_290 : Index := 512#32
  ![0, v457.toNat, 0, 512]
def k0_off17 (i : grid0.Coords) (k0_t1 : Fin (k0_t1_loop i).trips) : Fin 4 → Nat :=
  let c0_305 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v482 : Index := Scalar.indexCast v354
  let c0_306 : Index := 0#32
  let c640_307 : Index := 640#32
  ![0, v482.toNat, 0, 640]
def k0_off18 (i : grid0.Coords) (k0_t1 : Fin (k0_t1_loop i).trips) : Fin 4 → Nat :=
  let c0_322 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v507 : Index := Scalar.indexCast v354
  let c0_323 : Index := 0#32
  let c768_324 : Index := 768#32
  ![0, v507.toNat, 0, 768]
def k0_off19 (i : grid0.Coords) (k0_t1 : Fin (k0_t1_loop i).trips) : Fin 4 → Nat :=
  let c0_339 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v532 : Index := Scalar.indexCast v354
  let c0_340 : Index := 0#32
  let c896_341 : Index := 896#32
  ![0, v532.toNat, 0, 896]
def k0_off20 (i : grid0.Coords) (k0_t1 : Fin (k0_t1_loop i).trips) : Fin 4 → Nat :=
  let c0_355 : Index := 0#32
  let c2_i32_211 : BitVec 32 := 2#32
  let c0_i32_26 : BitVec 32 := 0#32
  let c1_i32_28 : BitVec 32 := 1#32
  let arg15 : BitVec 32 := Scf.iv c0_i32_26 c1_i32_28 k0_t1
  let v346 : BitVec 32 := Scalar.muli c2_i32_211 arg15
  let c1_i32_212 : BitVec 32 := 1#32
  let v347 : BitVec 32 := Scalar.addi v346 c1_i32_212
  let c1_i32_353 : BitVec 32 := 1#32
  let v555 : BitVec 32 := Scalar.subi v347 c1_i32_353
  let c0_i32_354 : BitVec 32 := 0#32
  let v556 : BitVec 32 := Scalar.maxsi v555 c0_i32_354
  let v557 : Index := Scalar.indexCast v556
  let c0_356 : Index := 0#32
  let c0_357 : Index := 0#32
  ![0, v557.toNat, 0, 0]
@[reducible] def k0_t2_loop (i : grid0.Coords) : Scf.Loop 32 :=
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let v54 : BitVec 32 := Scalar.addi c0_i32_26 v53
  let c1_i32_29 : BitVec 32 := 1#32
  ⟨v57, v54, c1_i32_29⟩
def k0_mult3 (i : grid0.Coords) (k0_t2 : Fin (k0_t2_loop i).trips) : BitVec 32 :=
  let c2_i32_62 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let c256_i32 : BitVec 32 := 256#32
  let v121 : BitVec 32 := Scalar.muli v120 c256_i32
  v121
def k0_off21 (i : grid0.Coords) (k0_t2 : Fin (k0_t2_loop i).trips) : Fin 2 → Nat :=
  let c2_i32_62 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let c256_i32 : BitVec 32 := 256#32
  let v121 : BitVec 32 := Scalar.muli v120 c256_i32
  let v122 : BitVec 32 := v121
  let v123 : Index := Scalar.indexCast v122
  let c0_63 : Index := 0#32
  ![v123.toNat, 0]
def k0_off22 (i : grid0.Coords) (k0_t2 : Fin (k0_t2_loop i).trips) : Fin 4 → Nat :=
  let c0_68 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v130 : Index := Scalar.indexCast v127
  let c0_69 : Index := 0#32
  let c0_70 : Index := 0#32
  ![0, v130.toNat, 0, 0]
def k0_off23 (i : grid0.Coords) (k0_t2 : Fin (k0_t2_loop i).trips) : Fin 4 → Nat :=
  let c0_85 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v155 : Index := Scalar.indexCast v127
  let c0_86 : Index := 0#32
  let c128_87 : Index := 128#32
  ![0, v155.toNat, 0, 128]
def k0_off24 (i : grid0.Coords) (k0_t2 : Fin (k0_t2_loop i).trips) : Fin 4 → Nat :=
  let c0_101 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v180 : Index := Scalar.indexCast v127
  let c0_102 : Index := 0#32
  let c256_103 : Index := 256#32
  ![0, v180.toNat, 0, 256]
def k0_off25 (i : grid0.Coords) (k0_t2 : Fin (k0_t2_loop i).trips) : Fin 4 → Nat :=
  let c0_117 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v205 : Index := Scalar.indexCast v127
  let c0_118 : Index := 0#32
  let c384_119 : Index := 384#32
  ![0, v205.toNat, 0, 384]
def k0_off26 (i : grid0.Coords) (k0_t2 : Fin (k0_t2_loop i).trips) : Fin 4 → Nat :=
  let c0_133 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v230 : Index := Scalar.indexCast v127
  let c0_134 : Index := 0#32
  let c512_135 : Index := 512#32
  ![0, v230.toNat, 0, 512]
def k0_off27 (i : grid0.Coords) (k0_t2 : Fin (k0_t2_loop i).trips) : Fin 4 → Nat :=
  let c0_149 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v255 : Index := Scalar.indexCast v127
  let c0_150 : Index := 0#32
  let c640_151 : Index := 640#32
  ![0, v255.toNat, 0, 640]
def k0_off28 (i : grid0.Coords) (k0_t2 : Fin (k0_t2_loop i).trips) : Fin 4 → Nat :=
  let c0_165 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v280 : Index := Scalar.indexCast v127
  let c0_166 : Index := 0#32
  let c768_167 : Index := 768#32
  ![0, v280.toNat, 0, 768]
def k0_off29 (i : grid0.Coords) (k0_t2 : Fin (k0_t2_loop i).trips) : Fin 4 → Nat :=
  let c0_181 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_64 : BitVec 32 := 1#32
  let v125 : BitVec 32 := Scalar.subi v1 c1_i32_64
  let c2_i32_62 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let v126 : BitVec 32 := Scalar.subi v125 v120
  let c3_i32 : BitVec 32 := 3#32
  let v127 : BitVec 32 := Scalar.minsi v126 c3_i32
  let v305 : Index := Scalar.indexCast v127
  let c0_182 : Index := 0#32
  let c896_183 : Index := 896#32
  ![0, v305.toNat, 0, 896]
def k0_off30 (i : grid0.Coords) (k0_t2 : Fin (k0_t2_loop i).trips) : Fin 4 → Nat :=
  let c0_197 : Index := 0#32
  let c2_i32_62 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v120 : BitVec 32 := Scalar.muli c2_i32_62 arg15
  let c1_i32_195 : BitVec 32 := 1#32
  let v328 : BitVec 32 := Scalar.subi v120 c1_i32_195
  let c0_i32_196 : BitVec 32 := 0#32
  let v329 : BitVec 32 := Scalar.maxsi v328 c0_i32_196
  let v330 : Index := Scalar.indexCast v329
  let c0_198 : Index := 0#32
  let c0_199 : Index := 0#32
  ![0, v330.toNat, 0, 0]
def k0_mult4 (i : grid0.Coords) (k0_t2 : Fin (k0_t2_loop i).trips) : BitVec 32 :=
  let c2_i32_211 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let c256_i32_213 : BitVec 32 := 256#32
  let v348 : BitVec 32 := Scalar.muli v347 c256_i32_213
  v348
def k0_off31 (i : grid0.Coords) (k0_t2 : Fin (k0_t2_loop i).trips) : Fin 2 → Nat :=
  let c2_i32_211 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let c256_i32_213 : BitVec 32 := 256#32
  let v348 : BitVec 32 := Scalar.muli v347 c256_i32_213
  let v349 : BitVec 32 := v348
  let v350 : Index := Scalar.indexCast v349
  let c0_214 : Index := 0#32
  ![v350.toNat, 0]
def k0_off32 (i : grid0.Coords) (k0_t2 : Fin (k0_t2_loop i).trips) : Fin 4 → Nat :=
  let c0_220 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v357 : Index := Scalar.indexCast v354
  let c0_221 : Index := 0#32
  let c0_222 : Index := 0#32
  ![0, v357.toNat, 0, 0]
def k0_off33 (i : grid0.Coords) (k0_t2 : Fin (k0_t2_loop i).trips) : Fin 4 → Nat :=
  let c0_237 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v382 : Index := Scalar.indexCast v354
  let c0_238 : Index := 0#32
  let c128_239 : Index := 128#32
  ![0, v382.toNat, 0, 128]
def k0_off34 (i : grid0.Coords) (k0_t2 : Fin (k0_t2_loop i).trips) : Fin 4 → Nat :=
  let c0_254 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v407 : Index := Scalar.indexCast v354
  let c0_255 : Index := 0#32
  let c256_256 : Index := 256#32
  ![0, v407.toNat, 0, 256]
def k0_off35 (i : grid0.Coords) (k0_t2 : Fin (k0_t2_loop i).trips) : Fin 4 → Nat :=
  let c0_271 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v432 : Index := Scalar.indexCast v354
  let c0_272 : Index := 0#32
  let c384_273 : Index := 384#32
  ![0, v432.toNat, 0, 384]
def k0_off36 (i : grid0.Coords) (k0_t2 : Fin (k0_t2_loop i).trips) : Fin 4 → Nat :=
  let c0_288 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v457 : Index := Scalar.indexCast v354
  let c0_289 : Index := 0#32
  let c512_290 : Index := 512#32
  ![0, v457.toNat, 0, 512]
def k0_off37 (i : grid0.Coords) (k0_t2 : Fin (k0_t2_loop i).trips) : Fin 4 → Nat :=
  let c0_305 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v482 : Index := Scalar.indexCast v354
  let c0_306 : Index := 0#32
  let c640_307 : Index := 640#32
  ![0, v482.toNat, 0, 640]
def k0_off38 (i : grid0.Coords) (k0_t2 : Fin (k0_t2_loop i).trips) : Fin 4 → Nat :=
  let c0_322 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v507 : Index := Scalar.indexCast v354
  let c0_323 : Index := 0#32
  let c768_324 : Index := 768#32
  ![0, v507.toNat, 0, 768]
def k0_off39 (i : grid0.Coords) (k0_t2 : Fin (k0_t2_loop i).trips) : Fin 4 → Nat :=
  let c0_339 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_215 : BitVec 32 := 1#32
  let v352 : BitVec 32 := Scalar.subi v1 c1_i32_215
  let c2_i32_211 : BitVec 32 := 2#32
  let c0_i32_26 : BitVec 32 := 0#32
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let v353 : BitVec 32 := Scalar.subi v352 v347
  let c3_i32_216 : BitVec 32 := 3#32
  let v354 : BitVec 32 := Scalar.minsi v353 c3_i32_216
  let v532 : Index := Scalar.indexCast v354
  let c0_340 : Index := 0#32
  let c896_341 : Index := 896#32
  ![0, v532.toNat, 0, 896]
def k0_off40 (i : grid0.Coords) (k0_t2 : Fin (k0_t2_loop i).trips) : Fin 4 → Nat :=
  let c0_355 : Index := 0#32
  let c2_i32_211 : BitVec 32 := 2#32
  let c0_i32_26 : BitVec 32 := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c0_i32 : BitVec 32 := 0#32
  let v37 : BitVec 1 := Scalar.cmpi .sgt v1 c0_i32
  let v38 : BitVec 32 := Scalar.extui v37
  let c0_i32_20 : BitVec 32 := 0#32
  let v39 : BitVec 1 := Scalar.cmpi .slt v1 c0_i32_20
  let v40 : BitVec 32 := Scalar.extui v39
  let v41 : BitVec 32 := Scalar.subi v38 v40
  let c2_i32_19 : BitVec 32 := 2#32
  let c0_i32_21 : BitVec 32 := 0#32
  let v42 : BitVec 1 := Scalar.cmpi .sgt c2_i32_19 c0_i32_21
  let v43 : BitVec 32 := Scalar.extui v42
  let c0_i32_22 : BitVec 32 := 0#32
  let v44 : BitVec 1 := Scalar.cmpi .slt c2_i32_19 c0_i32_22
  let v45 : BitVec 32 := Scalar.extui v44
  let v46 : BitVec 32 := Scalar.subi v43 v45
  let v47 : BitVec 1 := Scalar.cmpi .ne v41 v46
  let v48 : BitVec 32 := Scalar.remsi v1 c2_i32_19
  let c0_i32_23 : BitVec 32 := 0#32
  let v49 : BitVec 1 := Scalar.cmpi .ne v48 c0_i32_23
  let v50 : BitVec 1 := Scalar.andi v47 v49
  let v36 : BitVec 32 := Scalar.divsi v1 c2_i32_19
  let c1_i32_24 : BitVec 32 := 1#32
  let v51 : BitVec 32 := Scalar.subi v36 c1_i32_24
  let v52 : BitVec 32 := Scalar.select v50 v51 v36
  let v53 : BitVec 32 := Scalar.subi v52 c0_i32_26
  let c1_i32_27 : BitVec 32 := 1#32
  let v55 : BitVec 32 := Scalar.divsi v53 c1_i32_27
  let v56 : BitVec 32 := Scalar.muli v55 c1_i32_27
  let v57 : BitVec 32 := Scalar.addi c0_i32_26 v56
  let c1_i32_29 : BitVec 32 := 1#32
  let arg15 : BitVec 32 := Scf.iv v57 c1_i32_29 k0_t2
  let v346 : BitVec 32 := Scalar.muli c2_i32_211 arg15
  let c1_i32_212 : BitVec 32 := 1#32
  let v347 : BitVec 32 := Scalar.addi v346 c1_i32_212
  let c1_i32_353 : BitVec 32 := 1#32
  let v555 : BitVec 32 := Scalar.subi v347 c1_i32_353
  let c0_i32_354 : BitVec 32 := 0#32
  let v556 : BitVec 32 := Scalar.maxsi v555 c0_i32_354
  let v557 : Index := Scalar.indexCast v556
  let c0_356 : Index := 0#32
  let c0_357 : Index := 0#32
  ![0, v557.toNat, 0, 0]
def k0_off41 (i : grid0.Coords) : Fin 4 → Nat :=
  let c0_31 : Index := 0#32
  let c2_i32 : BitVec 32 := 2#32
  let arg2 : BitVec 32 := BitVec.ofNat 32 (i 2).val
  let c1_i32 : BitVec 32 := 1#32
  let v0 : BitVec 32 := Scalar.addi arg2 c1_i32
  let v1 : BitVec 32 := Scalar.muli c2_i32 v0
  let c1_i32_30 : BitVec 32 := 1#32
  let v58 : BitVec 32 := Scalar.subi v1 c1_i32_30
  let v59 : Index := Scalar.indexCast v58
  let c0_32 : Index := 0#32
  let c0_33 : Index := 0#32
  ![0, v59.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S32768x1024 : Shape := ⟨2, ![32768, 1024]⟩
abbrev S8x16x1024x256 : Shape := ⟨4, ![8, 16, 1024, 256]⟩
abbrev S4x64 : Shape := ⟨2, ![4, 64]⟩
abbrev S128 : Shape := ⟨1, ![128]⟩
abbrev S32x8 : Shape := ⟨2, ![32, 8]⟩
abbrev S8x4096x8x2x64 : Shape := ⟨5, ![8, 4096, 8, 2, 64]⟩
abbrev S2x8x8x4096x64 : Shape := ⟨5, ![2, 8, 8, 4096, 64]⟩
abbrev S8x16x8x128x256 : Shape := ⟨5, ![8, 16, 8, 128, 256]⟩
abbrev S8x8x16x256x128 : Shape := ⟨5, ![8, 8, 16, 256, 128]⟩
abbrev S8x8x4096x128 : Shape := ⟨4, ![8, 8, 4096, 128]⟩
abbrev S4096 : Shape := ⟨1, ![4096]⟩
abbrev S_ : Shape := ⟨0, ![]⟩
abbrev S4096x1 : Shape := ⟨2, ![4096, 1]⟩
abbrev S4096x8 : Shape := ⟨2, ![4096, 8]⟩
abbrev S1x4096 : Shape := ⟨2, ![1, 4096]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S1x64 : Shape := ⟨2, ![1, 64]⟩
abbrev S64 : Shape := ⟨1, ![64]⟩
abbrev S1x8x8x4096x64 : Shape := ⟨5, ![1, 8, 8, 4096, 64]⟩
abbrev S8x8x4096x64 : Shape := ⟨4, ![8, 8, 4096, 64]⟩
abbrev S8x8x4096x4096 : Shape := ⟨4, ![8, 8, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S1x1x1x128 : Shape := ⟨4, ![1, 1, 1, 128]⟩
abbrev S8x4096x8x128 : Shape := ⟨4, ![8, 4096, 8, 128]⟩

abbrev nBuf : Space → Nat
  | .hbm => 185
  | .vmem => 0
  | .smem => 0
  | _ => 0

abbrev hbmTy0_0 (i : Nat) : BufTy := match i % 128 with
  | 0 => ⟨S32768x1024, .bf16⟩
  | 1 => ⟨S32768x1024, .bf16⟩
  | 2 => ⟨S8x16x1024x256, .bf16⟩
  | 3 => ⟨S4x64, .f32⟩
  | 4 => ⟨S128, .f32⟩
  | 5 => ⟨S32x8, .f32⟩
  | 6 => ⟨S32768x1024, .f32⟩
  | 7 => ⟨S8x4096x8x2x64, .f32⟩
  | 8 => ⟨S2x8x8x4096x64, .f32⟩
  | 9 => ⟨S32768x1024, .f32⟩
  | 10 => ⟨S8x4096x8x2x64, .f32⟩
  | 11 => ⟨S2x8x8x4096x64, .f32⟩
  | 12 => ⟨S8x16x1024x256, .f32⟩
  | 13 => ⟨S8x16x8x128x256, .f32⟩
  | 14 => ⟨S8x8x16x256x128, .f32⟩
  | 15 => ⟨S8x8x4096x128, .f32⟩
  | 16 => ⟨S4096, .i32⟩
  | 17 => ⟨S_, .i32⟩
  | 18 => ⟨S4096, .i32⟩
  | 19 => ⟨S4096, .i32⟩
  | 20 => ⟨S4096, .f32⟩
  | 21 => ⟨S_, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .f32⟩
  | 28 => ⟨S_, .f32⟩
  | 29 => ⟨S4096, .f32⟩
  | 30 => ⟨S4096, .f32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x8, .f32⟩
  | 51 => ⟨S4096, .i32⟩
  | 52 => ⟨S4096x1, .i32⟩
  | 53 => ⟨S1x4096, .i32⟩
  | 54 => ⟨S4096x4096, .i32⟩
  | 55 => ⟨S4096x4096, .i32⟩
  | 56 => ⟨S4096x4096, .i32⟩
  | 57 => ⟨S_, .i32⟩
  | 58 => ⟨S4096x4096, .i32⟩
  | 59 => ⟨S4096x4096, .i1⟩
  | 60 => ⟨S_, .i32⟩
  | 61 => ⟨S_, .i32⟩
  | 62 => ⟨S_, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S_, .i32⟩
  | 69 => ⟨S4096x4096, .i32⟩
  | 70 => ⟨S4096x4096, .i1⟩
  | 71 => ⟨S_, .i32⟩
  | 72 => ⟨S4096x4096, .i32⟩
  | 73 => ⟨S4096x4096, .i32⟩
  | 74 => ⟨S4096x4096, .i32⟩
  | 75 => ⟨S4096x4096x1, .i32⟩
  | 76 => ⟨S4096x4096x8, .f32⟩
  | 77 => ⟨S8x4096x4096, .f32⟩
  | 78 => ⟨S1x64, .f32⟩
  | 79 => ⟨S64, .f32⟩
  | 80 => ⟨S1x64, .f32⟩
  | 81 => ⟨S64, .f32⟩
  | 82 => ⟨S64, .f32⟩
  | 83 => ⟨S_, .f32⟩
  | 84 => ⟨S_, .f32⟩
  | 85 => ⟨S_, .f32⟩
  | 86 => ⟨S1x64, .f32⟩
  | 87 => ⟨S64, .f32⟩
  | 88 => ⟨S1x64, .f32⟩
  | 89 => ⟨S64, .f32⟩
  | 90 => ⟨S64, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1x8x8x4096x64, .f32⟩
  | 98 => ⟨S8x8x4096x64, .f32⟩
  | 99 => ⟨S1x8x8x4096x64, .f32⟩
  | 100 => ⟨S8x8x4096x64, .f32⟩
  | 101 => ⟨S8x8x4096x4096, .f32⟩
  | 102 => ⟨S_, .f32⟩
  | 103 => ⟨S_, .f32⟩
  | 104 => ⟨S8x8x4096x4096, .f32⟩
  | 105 => ⟨S8x8x4096x4096, .f32⟩
  | 106 => ⟨S1x8x4096x4096, .f32⟩
  | 107 => ⟨S8x8x4096x4096, .f32⟩
  | 108 => ⟨S8x8x4096x4096, .f32⟩
  | 109 => ⟨S_, .f32⟩
  | 110 => ⟨S_, .f32⟩
  | 111 => ⟨S8x8x4096x4096, .i1⟩
  | 112 => ⟨S8x8x4096x4096, .f32⟩
  | 113 => ⟨S8x8x4096x4096, .f32⟩
  | 114 => ⟨S_, .f32⟩
  | 115 => ⟨S8x8x4096, .f32⟩
  | 116 => ⟨S_, .f32⟩
  | 117 => ⟨S8x8x4096, .f32⟩
  | 118 => ⟨S8x8x4096, .f32⟩
  | 119 => ⟨S8x8x4096x1, .f32⟩
  | 120 => ⟨S8x8x4096x4096, .f32⟩
  | 121 => ⟨S8x8x4096x4096, .f32⟩
  | 122 => ⟨S8x8x4096x4096, .f32⟩
  | 123 => ⟨S_, .f32⟩
  | 124 => ⟨S8x8x4096, .f32⟩
  | 125 => ⟨S8x8x4096x1, .f32⟩
  | 126 => ⟨S8x8x4096x4096, .f32⟩
  | 127 => ⟨S8x8x4096x4096, .f32⟩
  | _ => ⟨S32768x1024, .bf16⟩

abbrev hbmTy0_1 (i : Nat) : BufTy := match i % 128 with
  | 0 => ⟨S1x8x8x4096x64, .f32⟩
  | 1 => ⟨S8x8x4096x64, .f32⟩
  | 2 => ⟨S1x8x8x4096x64, .f32⟩
  | 3 => ⟨S8x8x4096x64, .f32⟩
  | 4 => ⟨S8x8x4096x4096, .f32⟩
  | 5 => ⟨S_, .f32⟩
  | 6 => ⟨S_, .f32⟩
  | 7 => ⟨S8x8x4096x4096, .f32⟩
  | 8 => ⟨S8x8x4096x4096, .f32⟩
  | 9 => ⟨S1x8x4096x4096, .f32⟩
  | 10 => ⟨S8x8x4096x4096, .f32⟩
  | 11 => ⟨S8x8x4096x4096, .f32⟩
  | 12 => ⟨S_, .f32⟩
  | 13 => ⟨S_, .f32⟩
  | 14 => ⟨S8x8x4096x4096, .i1⟩
  | 15 => ⟨S8x8x4096x4096, .f32⟩
  | 16 => ⟨S8x8x4096x4096, .f32⟩
  | 17 => ⟨S_, .f32⟩
  | 18 => ⟨S8x8x4096, .f32⟩
  | 19 => ⟨S_, .f32⟩
  | 20 => ⟨S8x8x4096, .f32⟩
  | 21 => ⟨S8x8x4096, .f32⟩
  | 22 => ⟨S8x8x4096x1, .f32⟩
  | 23 => ⟨S8x8x4096x4096, .f32⟩
  | 24 => ⟨S8x8x4096x4096, .f32⟩
  | 25 => ⟨S8x8x4096x4096, .f32⟩
  | 26 => ⟨S_, .f32⟩
  | 27 => ⟨S8x8x4096, .f32⟩
  | 28 => ⟨S8x8x4096x1, .f32⟩
  | 29 => ⟨S8x8x4096x4096, .f32⟩
  | 30 => ⟨S8x8x4096x4096, .f32⟩
  | 31 => ⟨S8x8x4096x4096, .f32⟩
  | 32 => ⟨S8x8x4096x4096, .f32⟩
  | 33 => ⟨S8x8x4096x4096, .f32⟩
  | 34 => ⟨S8x8x4096x128, .f32⟩
  | 35 => ⟨S8x8x4096x128, .f32⟩
  | 36 => ⟨S_, .f32⟩
  | 37 => ⟨S8x8x4096, .f32⟩
  | 38 => ⟨S8x8x4096x1, .f32⟩
  | 39 => ⟨S_, .f32⟩
  | 40 => ⟨S8x8x4096x1, .f32⟩
  | 41 => ⟨S8x8x4096x1, .f32⟩
  | 42 => ⟨S_, .f32⟩
  | 43 => ⟨S8x8x4096x1, .f32⟩
  | 44 => ⟨S8x8x4096x1, .f32⟩
  | 45 => ⟨S8x8x4096x1, .f32⟩
  | 46 => ⟨S8x8x4096x128, .f32⟩
  | 47 => ⟨S8x8x4096x128, .f32⟩
  | 48 => ⟨S1x1x1x128, .f32⟩
  | 49 => ⟨S8x8x4096x128, .f32⟩
  | 50 => ⟨S8x8x4096x128, .f32⟩
  | 51 => ⟨S_, .f32⟩
  | 52 => ⟨S8x8x4096x128, .f32⟩
  | 53 => ⟨S8x8x4096x128, .f32⟩
  | 54 => ⟨S8x4096x8x128, .f32⟩
  | 55 => ⟨S32768x1024, .f32⟩
  | 56 => ⟨S32768x1024, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_c_9 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_25 : Ref sig .tc := ⟨.hbm, 164, rfl⟩
abbrev main_v120 : Ref sig .tc := ⟨.hbm, 165, rfl⟩
abbrev main_v121 : Ref sig .tc := ⟨.hbm, 166, rfl⟩
abbrev main_cst_26 : Ref sig .tc := ⟨.hbm, 167, rfl⟩
abbrev main_v122 : Ref sig .tc := ⟨.hbm, 168, rfl⟩
abbrev main_v123 : Ref sig .tc := ⟨.hbm, 169, rfl⟩
abbrev main_cst_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_28 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]
-- ==== OddIn.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S8x16x1024x256 : Shape := ⟨4, ![8, 16, 1024, 256]⟩
abbrev S512x1024 : Shape := ⟨2, ![512, 1024]⟩
abbrev S1x2x1024x256 : Shape := ⟨4, ![1, 2, 1024, 256]⟩
abbrev S512 : Shape := ⟨1, ![512]⟩
abbrev S512x1 : Shape := ⟨2, ![512, 1]⟩
abbrev S512x3072 : Shape := ⟨2, ![512, 3072]⟩
abbrev S256x1024 : Shape := ⟨2, ![256, 1024]⟩
abbrev S1024x256 : Shape := ⟨2, ![1024, 256]⟩
abbrev S1x1x1024x256 : Shape := ⟨4, ![1, 1, 1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S32768x1024, .bf16⟩
  | .hbm, ⟨6, _⟩ => ⟨S32768x1024, .bf16⟩
  | .hbm, ⟨7, _⟩ => ⟨S8x16x1024x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x2x1024x256, .bf16⟩
  | .local _ .vmem, ⟨9, _⟩ => ⟨S1x2x1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddInIdeal.lean ====
variable {F : FTy → Type} [FloatOps F] [Named F]
def κ : String → Option EReal := fun
  | "scale_log2e" => some (((8 * (Real.log 2))⁻¹ : ℝ) : EReal)
  | _ => none
-- ==== OddInRefIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S8x16x256x1024 : Shape := ⟨4, ![8, 16, 256, 1024]⟩
abbrev S8x16x1024x256 : Shape := ⟨4, ![8, 16, 1024, 256]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S8x16x256x1024, .f32⟩
  | .hbm, ⟨31, _⟩ => ⟨S8x16x1024x256, .f32⟩
  | .hbm, ⟨32, _⟩ => ⟨S32768x1024, .bf16⟩
  | .hbm, ⟨33, _⟩ => ⟨S32768x1024, .bf16⟩
  | .hbm, ⟨34, _⟩ => ⟨S8x16x1024x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.FfnRow.lean ====
/- One token's row through a feed-forward block, written over the extended reals and free of any program:
   the out projection, the root mean square norm, the gated hidden layer, the whole row; and the sum over
   the hidden width taken in pieces of 256. -/
module

public import proofs.«01_k».proof.Proof.Gen.FfnEvenIdeal.Skeleton
public import Idealize.ShloMosaic.Lib.Pointwise

@[expose] public section

set_option maxRecDepth 16384

noncomputable section

namespace FfnRow

open Idealize.ShloMosaic

/-- A row divided by the root of its mean square (with the small constant under the root), times a gain. -/
def norm (X g : Fin 1024 → EReal) (j : Fin 1024) : EReal :=
  X j * Ideal.rsqrt (Ideal.div (∑ x, X x * X x) (Ideal.ofBits FTy.f32 1149239296#32) + Ideal.ofBits FTy.f32 897988541#32) * g j

/-- `z` times the logistic function of `z`. -/
def silu (z : EReal) : EReal := z * Ideal.div 1 (1 + Ideal.exp (-z))

/-- Hidden unit `k` of a normalised row `H`: the activated gate times the up projection. -/
def hid (H : Fin 1024 → EReal) (Wg Wu : Fin 1024 → Fin 2816 → EReal) (k : Fin 2816) : EReal :=
  silu (∑ x, H x * Wg x k) * ∑ x, H x * Wu x k

/-- The row after the block: the row itself plus the down projection of its hidden units. -/
def out (X g : Fin 1024 → EReal) (Wg Wu : Fin 1024 → Fin 2816 → EReal) (Wd : Fin 2816 → Fin 1024 → EReal)
    (j : Fin 1024) : EReal :=
  X j + ∑ k, hid (norm X g) Wg Wu k * Wd k j

/-- The row entering the block from two half-width attention outputs `o` and `p`. -/
def mix2 (X : Fin 1024 → EReal) (o p : Fin 512 → EReal) (W : Fin 1024 → Fin 1024 → EReal) (j : Fin 1024) : EReal :=
  X j + (∑ x : Fin 512, o x * W ⟨x, by omega⟩ j + ∑ x : Fin 512, p x * W ⟨512 + x, by omega⟩ j)

/-- The row entering the block from one full-width attention output. -/
def mix1 (X o : Fin 1024 → EReal) (W : Fin 1024 → Fin 1024 → EReal) (j : Fin 1024) : EReal :=
  X j + ∑ x, o x * W x j

/-- A function on the first `N` numbers, continued by zero. -/
def cont {N : Nat} (f : Fin N → EReal) (k : Nat) : EReal := if h : k < N then f ⟨k, h⟩ else 0

/-- Adding the piece of 256 terms that begins at `n` to the sum of the first `n` terms gives the sum of the
    first `n + 256`. -/
theorem piece (a : EReal) (f : Nat → EReal) (n : Nat) :
    (a + ∑ k ∈ Finset.range n, f k) + ∑ x : Fin 256, f (n + x) = a + ∑ k ∈ Finset.range (n + 256), f k := by
  rw [Finset.sum_range_add, Fin.sum_univ_eq_sum_range (fun x => f (n + x)) 256, add_assoc]

/-- Eleven pieces of 256 added one after the other to a start value are the sum over the 2816 hidden units. -/
theorem pieces (a : EReal) (f : Fin 2816 → EReal) :
    a + ∑ x : Fin 256, cont f (0 + x) + ∑ x : Fin 256, cont f (256 + x) + ∑ x : Fin 256, cont f (512 + x)
      + ∑ x : Fin 256, cont f (768 + x) + ∑ x : Fin 256, cont f (1024 + x) + ∑ x : Fin 256, cont f (1280 + x)
      + ∑ x : Fin 256, cont f (1536 + x) + ∑ x : Fin 256, cont f (1792 + x) + ∑ x : Fin 256, cont f (2048 + x)
      + ∑ x : Fin 256, cont f (2304 + x) + ∑ x : Fin 256, cont f (2560 + x) = a + ∑ k, f k := by
  have h0 : a + ∑ x : Fin 256, cont f (0 + x) = a + ∑ k ∈ Finset.range 256, cont f k := by
    have := piece a (cont f) 0
    simpa using this
  rw [h0, piece, piece, piece, piece, piece, piece, piece, piece, piece, piece]
  congr 1

end FfnRow

/-! ## The kernel's vector operations on a block of 1024 rows -/

namespace FfnBlock

open Idealize.ShloMosaic Cert.FfnEvenIdeal Cert.FfnEvenIdeal.Gen

/-- One hidden chunk added to the accumulator, read at an element: 256 hidden units of the row, the weights
    being the columns (rows, for the down projection) of the whole matrices from `n` on. -/
theorem chunk_apply (h : FVec Ideal S1024x1024 .bf16) (a : FVec Ideal S1024x1024 .f32)
    (wg wu : Vec Ideal S1024x2816 .bf16) (wd : Vec Ideal S2816x1024 .bf16) (n : Nat) (hn : n + 256 ≤ 2816)
    (i1 : ∀ a, (![0, n] : Fin 2 → Nat) a + S1024x256.size a ≤ S1024x2816.size a)
    (i2 : ∀ a, (![n, 0] : Fin 2 → Nat) a + S256x1024.size a ≤ S2816x1024.size a) (r j : Fin 1024) :
    k0_pay1 h a (View.ld wg (Rect.unit (s := S1024x2816) ![0, n] S1024x256.size i1))
        (View.ld wu (Rect.unit (s := S1024x2816) ![0, n] S1024x256.size i1))
        (View.ld wd (Rect.unit (s := S2816x1024) ![n, 0] S256x1024.size i2)) (ix2 r j)
      = a (ix2 r j) + ∑ x : Fin 256, FfnRow.cont (fun k =>
          FfnRow.hid (fun l => h (ix2 r l)) (fun l k => wg (ix2 l k)) (fun l k => wu (ix2 l k)) k * wd (ix2 k j)) (n + x) := by
  have e : ∀ x : Fin 256, n + (x : Nat) < 2816 := fun x => by omega
  pointwise [k0_pay1]
  simp only [FfnRow.cont, e, ↓reduceDIte, FfnRow.hid, FfnRow.silu, zero_sub]

/-- The eleven chunks of the hidden width, added one after the other to the row block `a`. -/
def stack (h : FVec Ideal S1024x1024 .bf16) (a : FVec Ideal S1024x1024 .f32)
    (wg wu : Vec Ideal S1024x2816 .bf16) (wd : Vec Ideal S2816x1024 .bf16) : FVec Ideal S1024x1024 .f32 :=
  let c (a : FVec Ideal S1024x1024 .f32) (n : Nat)
      (i1 : ∀ a, (![0, n] : Fin 2 → Nat) a + S1024x256.size a ≤ S1024x2816.size a)
      (i2 : ∀ a, (![n, 0] : Fin 2 → Nat) a + S256x1024.size a ≤ S2816x1024.size a) : FVec Ideal S1024x1024 .f32 :=
    k0_pay1 h a (View.ld wg (Rect.unit (s := S1024x2816) ![0, n] S1024x256.size i1))
      (View.ld wu (Rect.unit (s := S1024x2816) ![0, n] S1024x256.size i1))
      (View.ld wd (Rect.unit (s := S2816x1024) ![n, 0] S256x1024.size i2))
  c (c (c (c (c (c (c (c (c (c (c a
    0 inb_S1024x2816_S1024x256_0_0 inb_S2816x1024_S256x1024_0_0)
    256 inb_S1024x2816_S1024x256_0_256 inb_S2816x1024_S256x1024_256_0)
    512 inb_S1024x2816_S1024x256_0_512 inb_S2816x1024_S256x1024_512_0)
    768 inb_S1024x2816_S1024x256_0_768 inb_S2816x1024_S256x1024_768_0)
    1024 inb_S1024x2816_S1024x256_0_1024 inb_S2816x1024_S256x1024_1024_0)
    1280 inb_S1024x2816_S1024x256_0_1280 inb_S2816x1024_S256x1024_1280_0)
    1536 inb_S1024x2816_S1024x256_0_1536 inb_S2816x1024_S256x1024_1536_0)
    1792 inb_S1024x2816_S1024x256_0_1792 inb_S2816x1024_S256x1024_1792_0)
    2048 inb_S1024x2816_S1024x256_0_2048 inb_S2816x1024_S256x1024_2048_0)
    2304 inb_S1024x2816_S1024x256_0_2304 inb_S2816x1024_S256x1024_2304_0)
    2560 inb_S1024x2816_S1024x256_0_2560 inb_S2816x1024_S256x1024_2560_0

/-- The eleven chunks read at an element: the start value plus the sum over all hidden units. -/
theorem stack_apply (h : FVec Ideal S1024x1024 .bf16) (a : FVec Ideal S1024x1024 .f32)
    (wg wu : Vec Ideal S1024x2816 .bf16) (wd : Vec Ideal S2816x1024 .bf16) (r j : Fin 1024) :
    stack h a wg wu wd (ix2 r j) = a (ix2 r j) + ∑ k, FfnRow.hid (fun l => h (ix2 r l))
      (fun l k => wg (ix2 l k)) (fun l k => wu (ix2 l k)) k * wd (ix2 k j) := by
  unfold stack
  dsimp only
  rw [chunk_apply _ _ _ _ _ 2560 (by decide), chunk_apply _ _ _ _ _ 2304 (by decide), chunk_apply _ _ _ _ _ 2048 (by decide),
    chunk_apply _ _ _ _ _ 1792 (by decide), chunk_apply _ _ _ _ _ 1536 (by decide), chunk_apply _ _ _ _ _ 1280 (by decide),
    chunk_apply _ _ _ _ _ 1024 (by decide), chunk_apply _ _ _ _ _ 768 (by decide), chunk_apply _ _ _ _ _ 512 (by decide),
    chunk_apply _ _ _ _ _ 256 (by decide), chunk_apply _ _ _ _ _ 0 (by decide)]
  exact FfnRow.pieces _ _

end FfnBlock

end
-- ==== Proof.FfnEvenVal.lean ====
/- The feed-forward block after a pair of half-width attention outputs: the array the kernel leaves and the
   array the reference leaves are the same function of the arguments, row by row. -/
module

public import proofs.«01_k».proof.Proof.FfnRow
public import proofs.«01_k».proof.Proof.Gen.FfnEvenIdeal.Value
public import proofs.«01_k».proof.Proof.Gen.FfnEvenRefIdeal.Read
public import Idealize.ShloMosaic.Lib.Pointwise
public import Idealize.ShloMosaic.Lib.Pipeline.ValueKit
public import Idealize.ShloMosaic.Lib.Claim

@[expose] public section

set_option maxRecDepth 16384

noncomputable section

namespace FfnEvenVal

open Idealize.ShloMosaic Idealize.ShloMosaic.TcCoe Idealize.SL.Sem

/-- The block's result on whole arrays: row `i 0` of it is `FfnRow.out` of the mixed row. -/
def G (x : FVec Ideal Cert.FfnEvenRefIdeal.S32768x1024 .f32) (o p : FVec Ideal Cert.FfnEvenRefIdeal.S32768x512 .bf16)
    (w : FVec Ideal Cert.FfnEvenRefIdeal.S1024x1024 .f32) (g : FVec Ideal Cert.FfnEvenRefIdeal.S1024 .f32)
    (wg wu : FVec Ideal Cert.FfnEvenRefIdeal.S1024x2816 .f32) (wd : FVec Ideal Cert.FfnEvenRefIdeal.S2816x1024 .f32) :
    FVec Ideal Cert.FfnEvenRefIdeal.S32768x1024 .f32 := fun i =>
  FfnRow.out (FfnRow.mix2 (fun l => x (ix2 (i 0) l)) (fun l => o (ix2 (i 0) l)) (fun l => p (ix2 (i 0) l)) fun l k => w (ix2 l k))
    (fun l => g (ix1 l)) (fun l k => wg (ix2 l k)) (fun l k => wu (ix2 l k)) (fun k l => wd (ix2 k l)) (i 1)

namespace Kernel

open Cert.FfnEvenIdeal Cert.FfnEvenIdeal.Gen
open Idealize.ShloMosaic.Pipeline (Dat)

theorem hz : (![0, 0] : Fin 2 → Nat) = fun _ => 0 := funext fun a => by fin_cases a <;> rfl

/-- The rows entering the block, read at an element. -/
theorem mix_apply (o p : Vec Ideal S1024x512 .bf16) (x : Vec Ideal S1024x1024 .f32) (w : Vec Ideal S1024x1024 .bf16)
    (r j : Fin 1024) : k0_pay2 o p x w (ix2 r j)
      = FfnRow.mix2 (fun l => x (ix2 r l)) (fun l => o (ix2 r l)) (fun l => p (ix2 r l)) (fun l k => w (ix2 l k)) j := by
  pointwise [k0_pay2]
  rfl

/-- The normalised rows, read at an element. -/
theorem norm_apply (o p : Vec Ideal S1024x512 .bf16) (x : Vec Ideal S1024x1024 .f32) (w : Vec Ideal S1024x1024 .bf16)
    (g : Vec Ideal S1x1024 .f32) (r j : Fin 1024) : k0_pay3 o p x w g (ix2 r j)
      = FfnRow.norm (fun l => k0_pay2 o p x w (ix2 r l)) (fun l => g (ix2 0 l)) j := by
  unfold k0_pay3
  generalize k0_pay2 o p x w = X
  pointwise []
  rfl

/-- What a grid point writes: the rows entering the block and the eleven chunks on top of them. -/
theorem out_eq (x0 : Vec Ideal S1024x1024 .f32) (x1 x2 : Vec Ideal S1024x512 .bf16) (x3 : Vec Ideal S1024x1024 .bf16)
    (x4 : Vec Ideal S1x1024 .f32) (x5 x6 : Vec Ideal S1024x2816 .bf16) (x7 : Vec Ideal S2816x1024 .bf16) :
    out0_8 x0 x1 x2 x3 x4 x5 x6 x7 = FfnBlock.stack (k0_pay3 x1 x2 x0 x3 x4) (k0_pay2 x1 x2 x0 x3) x5 x6 x7 := by
  unfold out0_8 k0_pay22
  rw [View.canon_unit_zero hz, View.ld_unit_zero hz, View.ld_unit_zero hz, View.ld_unit_zero hz, View.ld_unit_zero hz,
    View.ld_unit_zero hz]
  rfl

/-- The same, read at an element. -/
theorem out_apply (x0 : Vec Ideal S1024x1024 .f32) (x1 x2 : Vec Ideal S1024x512 .bf16) (x3 : Vec Ideal S1024x1024 .bf16)
    (x4 : Vec Ideal S1x1024 .f32) (x5 x6 : Vec Ideal S1024x2816 .bf16) (x7 : Vec Ideal S2816x1024 .bf16) (r j : Fin 1024) :
    out0_8 x0 x1 x2 x3 x4 x5 x6 x7 (ix2 r j)
      = FfnRow.out (FfnRow.mix2 (fun l => x0 (ix2 r l)) (fun l => x1 (ix2 r l)) (fun l => x2 (ix2 r l)) fun l k => x3 (ix2 l k))
          (fun l => x4 (ix2 0 l)) (fun l k => x5 (ix2 l k)) (fun l k => x6 (ix2 l k)) (fun k l => x7 (ix2 k l)) j := by
  rw [out_eq, FfnBlock.stack_apply]
  simp only [norm_apply, mix_apply]
  rfl

variable (m : (ℓ : Loc nD τ sig) → Buf (Elt Ideal) ℓ)

/-- Where each window's block lies: the row blocks move with the grid point, the weights stay whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0])

/-- The array the kernel leaves. -/
theorem final (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  idx_vars y
  rw [out_apply]
  unfold G
  congr 1
  · congr 1
    · funext l; blk_ext [iblk, V, idx t]
    · funext l; blk_ext [iblk, V, idx t]
    · funext l; blk_ext [iblk, V, idx t]
    · funext l k; blk_ext! [iblk, V, idx t]
  · funext l; blk_ext! [iblk, V, idx t]
  · funext l k; blk_ext! [iblk, V, idx t]
  · funext l k; blk_ext! [iblk, V, idx t]
  · funext l k; blk_ext! [iblk, V, idx t]
  · apply Fin.ext
    blk_simp [idx t]

end Kernel

namespace Ref

open Cert.FfnEvenRefIdeal Cert.FfnEvenRefIdeal.Read

/-- The reference's rows entering the block. -/
theorem v4_apply (x0 : FVec Ideal S32768x1024 .f32) (x1 x2 : FVec Ideal S32768x512 .bf16) (x3 : FVec Ideal S1024x1024 .f32)
    (r : Fin 32768) (j : Fin 1024) : val_main_v4 (F := Ideal) x0 x1 x2 x3 (ix2 r j)
      = FfnRow.mix2 (fun l => x0 (ix2 r l)) (fun l => x1 (ix2 r l)) (fun l => x2 (ix2 r l)) (fun l k => x3 (ix2 l k)) j := by
  pointwise [val_main_v4, val_main_v3, val_main_v2, val_main_v1, val_main_v0]
  rfl

/-- The reference's normalised rows. -/
theorem v17_apply (x0 : FVec Ideal S32768x1024 .f32) (x1 x2 : FVec Ideal S32768x512 .bf16) (x3 : FVec Ideal S1024x1024 .f32)
    (x4 : FVec Ideal S1024 .f32) (r : Fin 32768) (j : Fin 1024) : val_main_v17 (F := Ideal) x0 x1 x2 x3 x4 (ix2 r j)
      = FfnRow.norm (fun l => val_main_v4 (F := Ideal) x0 x1 x2 x3 (ix2 r l)) (fun l => x4 (ix1 l)) j := by
  simp only [val_main_v17, val_main_v16, val_main_v15, val_main_v14, val_main_v13, val_main_v12, val_main_v11, val_main_v10,
    val_main_v9, val_main_v8, val_main_v7, val_main_v6, val_main_v5, val_main_cst, val_main_cst_0, val_main_cst_1]
  generalize val_main_v4 (F := Ideal) x0 x1 x2 x3 = X
  pointwise []
  rfl

/-- The reference's result is the same function of its arguments. -/
theorem v23_eq (x0 : FVec Ideal S32768x1024 .f32) (x1 x2 : FVec Ideal S32768x512 .bf16) (x3 : FVec Ideal S1024x1024 .f32)
    (x4 : FVec Ideal S1024 .f32) (x5 x6 : FVec Ideal S1024x2816 .f32) (x7 : FVec Ideal S2816x1024 .f32) :
    val_main_v23 (F := Ideal) x0 x1 x2 x3 x4 x5 x6 x7 = G x0 x1 x2 x3 x4 x5 x6 x7 := by
  funext i
  idx_vars i
  have e : val_main_v23 (F := Ideal) x0 x1 x2 x3 x4 x5 x6 x7 (ix2 i0 i1) = val_main_v4 (F := Ideal) x0 x1 x2 x3 (ix2 i0 i1)
      + ∑ k, FfnRow.hid (fun l => val_main_v17 (F := Ideal) x0 x1 x2 x3 x4 (ix2 i0 l)) (fun l k => x5 (ix2 l k))
          (fun l k => x6 (ix2 l k)) k * x7 (ix2 k i1) := by
    simp only [val_main_v23, val_main_v22, val_main_v21, val_main_v20, val_main_v19, val_main_v18, val_main_call0_v0,
      val_main_call0_v1, val_main_call0_v2, val_main_call0_v3, val_main_call0_v4, val_main_call0_v5, val_main_call0_cst,
      val_main_call0_cst_0]
    generalize val_main_v4 (F := Ideal) x0 x1 x2 x3 = X
    generalize val_main_v17 (F := Ideal) x0 x1 x2 x3 x4 = H
    pointwise []
    rfl
  rw [e]
  simp only [v17_apply, v4_apply]
  rfl

end Ref

end FfnEvenVal

end
-- ==== Proof.FfnOddVal.lean ====
/- The feed-forward block after one full-width attention output: the array the kernel leaves and the array the
   reference leaves are the same function of the arguments, row by row. -/
module

public import proofs.«01_k».proof.Proof.FfnRow
public import proofs.«01_k».proof.Proof.Gen.FfnOddIdeal.Value
public import proofs.«01_k».proof.Proof.Gen.FfnOddRefIdeal.Read
public import Idealize.ShloMosaic.Lib.Pointwise
public import Idealize.ShloMosaic.Lib.Pipeline.ValueKit
public import Idealize.ShloMosaic.Lib.Claim

@[expose] public section

set_option maxRecDepth 16384

noncomputable section

namespace FfnOddVal

open Idealize.ShloMosaic Idealize.ShloMosaic.TcCoe Idealize.SL.Sem

/-- The block's result on whole arrays: row `i 0` of it is `FfnRow.out` of the mixed row. -/
def G (x : FVec Ideal Cert.FfnOddRefIdeal.S32768x1024 .f32) (o : FVec Ideal Cert.FfnOddRefIdeal.S32768x1024 .bf16)
    (w : FVec Ideal Cert.FfnOddRefIdeal.S1024x1024 .f32) (g : FVec Ideal Cert.FfnOddRefIdeal.S1024 .f32)
    (wg wu : FVec Ideal Cert.FfnOddRefIdeal.S1024x2816 .f32) (wd : FVec Ideal Cert.FfnOddRefIdeal.S2816x1024 .f32) :
    FVec Ideal Cert.FfnOddRefIdeal.S32768x1024 .f32 := fun i =>
  FfnRow.out (FfnRow.mix1 (fun l => x (ix2 (i 0) l)) (fun l => o (ix2 (i 0) l)) fun l k => w (ix2 l k))
    (fun l => g (ix1 l)) (fun l k => wg (ix2 l k)) (fun l k => wu (ix2 l k)) (fun k l => wd (ix2 k l)) (i 1)

namespace Kernel

open Cert.FfnOddIdeal Cert.FfnOddIdeal.Gen
open Idealize.ShloMosaic.Pipeline (Dat)

theorem hz : (![0, 0] : Fin 2 → Nat) = fun _ => 0 := funext fun a => by fin_cases a <;> rfl

/-- The rows entering the block, read at an element. -/
theorem mix_apply (o : Vec Ideal S1024x1024 .bf16) (x : Vec Ideal S1024x1024 .f32) (w : Vec Ideal S1024x1024 .bf16)
    (r j : Fin 1024) : k0_pay2 o x w (ix2 r j)
      = FfnRow.mix1 (fun l => x (ix2 r l)) (fun l => o (ix2 r l)) (fun l k => w (ix2 l k)) j := by
  pointwise [k0_pay2]
  rfl

/-- The normalised rows, read at an element. -/
theorem norm_apply (o : Vec Ideal S1024x1024 .bf16) (x : Vec Ideal S1024x1024 .f32) (w : Vec Ideal S1024x1024 .bf16)
    (g : Vec Ideal S1x1024 .f32) (r j : Fin 1024) : k0_pay3 o x w g (ix2 r j)
      = FfnRow.norm (fun l => k0_pay2 o x w (ix2 r l)) (fun l => g (ix2 0 l)) j := by
  unfold k0_pay3
  generalize k0_pay2 o x w = X
  pointwise []
  rfl

/-- What a grid point writes: the rows entering the block and the eleven chunks on top of them. -/
theorem out_eq (x0 : Vec Ideal S1024x1024 .f32) (x1 x2 : Vec Ideal S1024x1024 .bf16)
    (x3 : Vec Ideal S1x1024 .f32) (x4 x5 : Vec Ideal S1024x2816 .bf16) (x6 : Vec Ideal S2816x1024 .bf16) :
    out0_7 x0 x1 x2 x3 x4 x5 x6 = FfnBlock.stack (k0_pay3 x1 x0 x2 x3) (k0_pay2 x1 x0 x2) x4 x5 x6 := by
  unfold out0_7 k0_pay23
  rw [View.canon_unit_zero hz, View.ld_unit_zero hz, View.ld_unit_zero hz, View.ld_unit_zero hz, View.ld_unit_zero hz]
  rfl

/-- The same, read at an element. -/
theorem out_apply (x0 : Vec Ideal S1024x1024 .f32) (x1 x2 : Vec Ideal S1024x1024 .bf16)
    (x3 : Vec Ideal S1x1024 .f32) (x4 x5 : Vec Ideal S1024x2816 .bf16) (x6 : Vec Ideal S2816x1024 .bf16) (r j : Fin 1024) :
    out0_7 x0 x1 x2 x3 x4 x5 x6 (ix2 r j)
      = FfnRow.out (FfnRow.mix1 (fun l => x0 (ix2 r l)) (fun l => x1 (ix2 r l)) fun l k => x2 (ix2 l k))
          (fun l => x3 (ix2 0 l)) (fun l k => x4 (ix2 l k)) (fun l k => x5 (ix2 l k)) (fun k l => x6 (ix2 k l)) j := by
  rw [out_eq]
  simp only [FfnBlock.stack_apply, norm_apply, mix_apply]
  rfl

variable (m : (ℓ : Loc nD τ sig) → Buf (Elt Ideal) ℓ)

/-- Where each window's block lies: the row blocks move with the grid point, the weights stay whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0])

/-- The array the kernel leaves. -/
theorem final (c : Dev nD) : (dats m 0 c).arrAt 7 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp
  rw [after0_7]
  idx_vars y
  rw [out_apply]
  unfold G
  congr 1
  · congr 1
    · funext l; blk_ext [iblk, V, idx t]
    · funext l; blk_ext [iblk, V, idx t]
    · funext l k; blk_ext! [iblk, V, idx t]
  · funext l; blk_ext! [iblk, V, idx t]
  · funext l k; blk_ext! [iblk, V, idx t]
  · funext l k; blk_ext! [iblk, V, idx t]
  · funext l k; blk_ext! [iblk, V, idx t]
  · apply Fin.ext
    blk_simp [idx t]

end Kernel

namespace Ref

open Cert.FfnOddRefIdeal Cert.FfnOddRefIdeal.Read

/-- The reference's rows entering the block. -/
theorem v2_apply (x0 : FVec Ideal S32768x1024 .f32) (x1 : FVec Ideal S32768x1024 .bf16) (x2 : FVec Ideal S1024x1024 .f32)
    (r : Fin 32768) (j : Fin 1024) : val_main_v2 (F := Ideal) x0 x1 x2 (ix2 r j)
      = FfnRow.mix1 (fun l => x0 (ix2 r l)) (fun l => x1 (ix2 r l)) (fun l k => x2 (ix2 l k)) j := by
  pointwise [val_main_v2, val_main_v1, val_main_v0]
  rfl

/-- The reference's normalised rows. -/
theorem v15_apply (x0 : FVec Ideal S32768x1024 .f32) (x1 : FVec Ideal S32768x1024 .bf16) (x2 : FVec Ideal S1024x1024 .f32)
    (x3 : FVec Ideal S1024 .f32) (r : Fin 32768) (j : Fin 1024) : val_main_v15 (F := Ideal) x0 x1 x2 x3 (ix2 r j)
      = FfnRow.norm (fun l => val_main_v2 (F := Ideal) x0 x1 x2 (ix2 r l)) (fun l => x3 (ix1 l)) j := by
  simp only [val_main_v15, val_main_v14, val_main_v13, val_main_v12, val_main_v11, val_main_v10,
    val_main_v9, val_main_v8, val_main_v7, val_main_v6, val_main_v5, val_main_v4, val_main_v3, val_main_cst, val_main_cst_0,
    val_main_cst_1]
  generalize val_main_v2 (F := Ideal) x0 x1 x2 = X
  pointwise []
  rfl

/-- The reference's row after the block, read at an element. -/
theorem v21_apply (x0 : FVec Ideal S32768x1024 .f32) (x1 : FVec Ideal S32768x1024 .bf16) (x2 : FVec Ideal S1024x1024 .f32)
    (x3 : FVec Ideal S1024 .f32) (x4 x5 : FVec Ideal S1024x2816 .f32) (x6 : FVec Ideal S2816x1024 .f32) (r : Fin 32768)
    (j : Fin 1024) : val_main_v21 (F := Ideal) x0 x1 x2 x3 x4 x5 x6 (ix2 r j)
      = FfnRow.out (FfnRow.mix1 (fun l => x0 (ix2 r l)) (fun l => x1 (ix2 r l)) fun l k => x2 (ix2 l k))
          (fun l => x3 (ix1 l)) (fun l k => x4 (ix2 l k)) (fun l k => x5 (ix2 l k)) (fun k l => x6 (ix2 k l)) j := by
  have e : val_main_v21 (F := Ideal) x0 x1 x2 x3 x4 x5 x6 (ix2 r j) = val_main_v2 (F := Ideal) x0 x1 x2 (ix2 r j)
      + ∑ k, FfnRow.hid (fun l => val_main_v15 (F := Ideal) x0 x1 x2 x3 (ix2 r l)) (fun l k => x4 (ix2 l k))
          (fun l k => x5 (ix2 l k)) k * x6 (ix2 k j) := by
    simp only [val_main_v21, val_main_v20, val_main_v19, val_main_v18, val_main_v17, val_main_v16, val_main_call0_v0,
      val_main_call0_v1, val_main_call0_v2, val_main_call0_v3, val_main_call0_v4, val_main_call0_v5, val_main_call0_cst,
      val_main_call0_cst_0]
    generalize val_main_v2 (F := Ideal) x0 x1 x2 = X
    generalize val_main_v15 (F := Ideal) x0 x1 x2 x3 = H
    pointwise []
    rfl
  rw [e]
  simp only [v15_apply, v2_apply]
  rfl

/-- The reference's result is the same function of its arguments. -/
theorem res_eq (x0 : FVec Ideal S32768x1024 .f32) (x1 : FVec Ideal S32768x1024 .bf16) (x2 : FVec Ideal S1024x1024 .f32)
    (x3 : FVec Ideal S1024 .f32) (x4 x5 : FVec Ideal S1024x2816 .f32) (x6 : FVec Ideal S2816x1024 .f32) :
    val_main_v21 (F := Ideal) x0 x1 x2 x3 x4 x5 x6 = G x0 x1 x2 x3 x4 x5 x6 := by
  funext i
  idx_vars i
  rw [v21_apply]
  rfl

end Ref

end FfnOddVal

end
-- ==== Proof.FfnLastVal.lean ====
/- The last feed-forward block, with the model's final norm behind it: the array the kernel leaves and the array the
   reference leaves are the same function of the arguments, row by row. -/
module

public import proofs.«01_k».proof.Proof.FfnRow
public import proofs.«01_k».proof.Proof.Gen.FfnLastIdeal.Value
public import proofs.«01_k».proof.Proof.Gen.FfnLastRefIdeal.Read
public import Idealize.ShloMosaic.Lib.Pointwise
public import Idealize.ShloMosaic.Lib.Pipeline.ValueKit
public import Idealize.ShloMosaic.Lib.Claim

@[expose] public section

set_option maxRecDepth 16384

noncomputable section

namespace FfnLastVal

open Idealize.ShloMosaic Idealize.ShloMosaic.TcCoe Idealize.SL.Sem

/-- The block's result on whole arrays: row `i 0` of it is the norm of `FfnRow.out` of the mixed row. -/
def G (x : FVec Ideal Cert.FfnLastRefIdeal.S32768x1024 .f32) (o : FVec Ideal Cert.FfnLastRefIdeal.S32768x1024 .bf16)
    (w : FVec Ideal Cert.FfnLastRefIdeal.S1024x1024 .f32) (g : FVec Ideal Cert.FfnLastRefIdeal.S1024 .f32)
    (wg wu : FVec Ideal Cert.FfnLastRefIdeal.S1024x2816 .f32) (wd : FVec Ideal Cert.FfnLastRefIdeal.S2816x1024 .f32)
    (gf : FVec Ideal Cert.FfnLastRefIdeal.S1024 .f32) :
    FVec Ideal Cert.FfnLastRefIdeal.S32768x1024 .f32 := fun i =>
  FfnRow.norm (FfnRow.out (FfnRow.mix1 (fun l => x (ix2 (i 0) l)) (fun l => o (ix2 (i 0) l)) fun l k => w (ix2 l k))
    (fun l => g (ix1 l)) (fun l k => wg (ix2 l k)) (fun l k => wu (ix2 l k)) (fun k l => wd (ix2 k l))) (fun l => gf (ix1 l)) (i 1)

namespace Kernel

open Cert.FfnLastIdeal Cert.FfnLastIdeal.Gen
open Idealize.ShloMosaic.Pipeline (Dat)

theorem hz : (![0, 0] : Fin 2 → Nat) = fun _ => 0 := funext fun a => by fin_cases a <;> rfl

/-- The rows entering the block, read at an element. -/
theorem mix_apply (o : Vec Ideal S1024x1024 .bf16) (x : Vec Ideal S1024x1024 .f32) (w : Vec Ideal S1024x1024 .bf16)
    (r j : Fin 1024) : k0_pay2 o x w (ix2 r j)
      = FfnRow.mix1 (fun l => x (ix2 r l)) (fun l => o (ix2 r l)) (fun l k => w (ix2 l k)) j := by
  pointwise [k0_pay2]
  rfl

/-- The normalised rows, read at an element. -/
theorem norm_apply (o : Vec Ideal S1024x1024 .bf16) (x : Vec Ideal S1024x1024 .f32) (w : Vec Ideal S1024x1024 .bf16)
    (g : Vec Ideal S1x1024 .f32) (r j : Fin 1024) : k0_pay3 o x w g (ix2 r j)
      = FfnRow.norm (fun l => k0_pay2 o x w (ix2 r l)) (fun l => g (ix2 0 l)) j := by
  unfold k0_pay3
  generalize k0_pay2 o x w = X
  pointwise []
  rfl

/-- The last norm of the model, as the kernel's vector operations on a block of 1024 rows. -/
def finalNorm (X : FVec Ideal S1024x1024 .f32) (g : Vec Ideal S1x1024 .f32) : FVec Ideal S1024x1024 .f32 :=
  mulf (mulf X (broadcastTo S1024x1024 (rsqrt (addf (divf (shapeCast S1024x1
      (multiReduction .add [1] S1024 (mulf X X) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
      broadcasts_S1024x1_S1024x1024))
    (broadcastTo S1024x1024 (shapeCast S1x1024 g shapeCasts_S1x1024_S1x1024) broadcasts_S1x1024_S1024x1024)

/-- The last norm, read at an element. -/
theorem finalNorm_apply (X : FVec Ideal S1024x1024 .f32) (g : Vec Ideal S1x1024 .f32) (r j : Fin 1024) :
    finalNorm X g (ix2 r j) = FfnRow.norm (fun l => X (ix2 r l)) (fun l => g (ix2 0 l)) j := by
  pointwise [finalNorm]
  rfl

/-- What a grid point writes: the rows entering the block and the eleven chunks on top of them, normalised. -/
theorem out_eq (x0 : Vec Ideal S1024x1024 .f32) (x1 x2 : Vec Ideal S1024x1024 .bf16)
    (x3 : Vec Ideal S1x1024 .f32) (x4 x5 : Vec Ideal S1024x2816 .bf16) (x6 : Vec Ideal S2816x1024 .bf16)
    (x7 : Vec Ideal S1x1024 .f32) :
    out0_8 x0 x1 x2 x3 x4 x5 x6 x7 = finalNorm (FfnBlock.stack (k0_pay3 x1 x0 x2 x3) (k0_pay2 x1 x0 x2) x4 x5 x6) x7 := by
  unfold out0_8 k0_pay23
  rw [View.canon_unit_zero hz, View.ld_unit_zero hz, View.ld_unit_zero hz, View.ld_unit_zero hz, View.ld_unit_zero hz,
    View.ld_unit_zero hz]
  rfl

/-- The same, read at an element. -/
theorem out_apply (x0 : Vec Ideal S1024x1024 .f32) (x1 x2 : Vec Ideal S1024x1024 .bf16)
    (x3 : Vec Ideal S1x1024 .f32) (x4 x5 : Vec Ideal S1024x2816 .bf16) (x6 : Vec Ideal S2816x1024 .bf16)
    (x7 : Vec Ideal S1x1024 .f32) (r j : Fin 1024) :
    out0_8 x0 x1 x2 x3 x4 x5 x6 x7 (ix2 r j)
      = FfnRow.norm (FfnRow.out (FfnRow.mix1 (fun l => x0 (ix2 r l)) (fun l => x1 (ix2 r l)) fun l k => x2 (ix2 l k))
          (fun l => x3 (ix2 0 l)) (fun l k => x4 (ix2 l k)) (fun l k => x5 (ix2 l k)) (fun k l => x6 (ix2 k l))) (fun l => x7 (ix2 0 l)) j := by
  rw [out_eq, finalNorm_apply]
  simp only [FfnBlock.stack_apply, norm_apply, mix_apply]
  rfl

variable (m : (ℓ : Loc nD τ sig) → Buf (Elt Ideal) ℓ)

/-- Where each window's block lies: the row blocks move with the grid point, the weights stay whole. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0])

/-- The array the kernel leaves. -/
theorem final (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  idx_vars y
  rw [out_apply]
  unfold G
  congr 1
  · funext j
    congr 1
    · congr 1
      · funext l; blk_ext [iblk, V, idx t]
      · funext l; blk_ext [iblk, V, idx t]
      · funext l k; blk_ext! [iblk, V, idx t]
    · funext l; blk_ext! [iblk, V, idx t]
    · funext l k; blk_ext! [iblk, V, idx t]
    · funext l k; blk_ext! [iblk, V, idx t]
    · funext l k; blk_ext! [iblk, V, idx t]
  · funext l; blk_ext! [iblk, V, idx t]
  · apply Fin.ext
    blk_simp [idx t]

end Kernel

namespace Ref

open Cert.FfnLastRefIdeal Cert.FfnLastRefIdeal.Read

/-- The reference's rows entering the block. -/
theorem v2_apply (x0 : FVec Ideal S32768x1024 .f32) (x1 : FVec Ideal S32768x1024 .bf16) (x2 : FVec Ideal S1024x1024 .f32)
    (r : Fin 32768) (j : Fin 1024) : val_main_v2 (F := Ideal) x0 x1 x2 (ix2 r j)
      = FfnRow.mix1 (fun l => x0 (ix2 r l)) (fun l => x1 (ix2 r l)) (fun l k => x2 (ix2 l k)) j := by
  pointwise [val_main_v2, val_main_v1, val_main_v0]
  rfl

/-- The reference's normalised rows. -/
theorem v15_apply (x0 : FVec Ideal S32768x1024 .f32) (x1 : FVec Ideal S32768x1024 .bf16) (x2 : FVec Ideal S1024x1024 .f32)
    (x3 : FVec Ideal S1024 .f32) (r : Fin 32768) (j : Fin 1024) : val_main_v15 (F := Ideal) x0 x1 x2 x3 (ix2 r j)
      = FfnRow.norm (fun l => val_main_v2 (F := Ideal) x0 x1 x2 (ix2 r l)) (fun l => x3 (ix1 l)) j := by
  simp only [val_main_v15, val_main_v14, val_main_v13, val_main_v12, val_main_v11, val_main_v10,
    val_main_v9, val_main_v8, val_main_v7, val_main_v6, val_main_v5, val_main_v4, val_main_v3, val_main_cst, val_main_cst_0,
    val_main_cst_1]
  generalize val_main_v2 (F := Ideal) x0 x1 x2 = X
  pointwise []
  rfl

/-- The reference's row after the block, read at an element. -/
theorem v21_apply (x0 : FVec Ideal S32768x1024 .f32) (x1 : FVec Ideal S32768x1024 .bf16) (x2 : FVec Ideal S1024x1024 .f32)
    (x3 : FVec Ideal S1024 .f32) (x4 x5 : FVec Ideal S1024x2816 .f32) (x6 : FVec Ideal S2816x1024 .f32) (r : Fin 32768)
    (j : Fin 1024) : val_main_v21 (F := Ideal) x0 x1 x2 x3 x4 x5 x6 (ix2 r j)
      = FfnRow.out (FfnRow.mix1 (fun l => x0 (ix2 r l)) (fun l => x1 (ix2 r l)) fun l k => x2 (ix2 l k))
          (fun l => x3 (ix1 l)) (fun l k => x4 (ix2 l k)) (fun l k => x5 (ix2 l k)) (fun k l => x6 (ix2 k l)) j := by
  have e : val_main_v21 (F := Ideal) x0 x1 x2 x3 x4 x5 x6 (ix2 r j) = val_main_v2 (F := Ideal) x0 x1 x2 (ix2 r j)
      + ∑ k, FfnRow.hid (fun l => val_main_v15 (F := Ideal) x0 x1 x2 x3 (ix2 r l)) (fun l k => x4 (ix2 l k))
          (fun l k => x5 (ix2 l k)) k * x6 (ix2 k j) := by
    simp only [val_main_v21, val_main_v20, val_main_v19, val_main_v18, val_main_v17, val_main_v16, val_main_call0_v0,
      val_main_call0_v1, val_main_call0_v2, val_main_call0_v3, val_main_call0_v4, val_main_call0_v5, val_main_call0_cst,
      val_main_call0_cst_0]
    generalize val_main_v2 (F := Ideal) x0 x1 x2 = X
    generalize val_main_v15 (F := Ideal) x0 x1 x2 x3 = H
    pointwise []
    rfl
  rw [e]
  simp only [v15_apply, v2_apply]
  rfl

/-- The reference's result is the same function of its arguments. -/
theorem res_eq (x0 : FVec Ideal S32768x1024 .f32) (x1 : FVec Ideal S32768x1024 .bf16) (x2 : FVec Ideal S1024x1024 .f32)
    (x3 : FVec Ideal S1024 .f32) (x4 x5 : FVec Ideal S1024x2816 .f32) (x6 : FVec Ideal S2816x1024 .f32) (x7 : FVec Ideal S1024 .f32) :
    val_main_v34 (F := Ideal) x0 x1 x2 x3 x4 x5 x6 x7 = G x0 x1 x2 x3 x4 x5 x6 x7 := by
  funext i
  idx_vars i
  have e : val_main_v34 (F := Ideal) x0 x1 x2 x3 x4 x5 x6 x7 (ix2 i0 i1)
      = FfnRow.norm (fun l => val_main_v21 (F := Ideal) x0 x1 x2 x3 x4 x5 x6 (ix2 i0 l)) (fun l => x7 (ix1 l)) i1 := by
    simp only [val_main_v34, val_main_v33, val_main_v32, val_main_v31, val_main_v30, val_main_v29, val_main_v28, val_main_v27,
      val_main_v26, val_main_v25, val_main_v24, val_main_v23, val_main_v22, val_main_cst_2, val_main_cst_3, val_main_cst_4]
    generalize val_main_v21 (F := Ideal) x0 x1 x2 x3 x4 x5 x6 = X
    pointwise []
    rfl
  rw [e]
  simp only [v21_apply]
  rfl

end Ref

end FfnLastVal

end
-- ==== Proof.FfnClaims.lean ====
/- The claims about the three feed-forward programs, from the generated frames and runs and the two sides'
   arrays being one function of the arguments. -/
module

public import proofs.«01_k».proof.Defs
public import proofs.«01_k».proof.Proof.Gen.FfnEven.Frame
public import proofs.«01_k».proof.Proof.Gen.FfnOdd.Frame
public import proofs.«01_k».proof.Proof.Gen.FfnLast.Frame
public import proofs.«01_k».proof.Proof.FfnEvenVal
public import proofs.«01_k».proof.Proof.FfnOddVal
public import proofs.«01_k».proof.Proof.FfnLastVal

@[expose] public section

set_option maxRecDepth 16384

noncomputable section

namespace FfnClaims

open Idealize.ShloMosaic Idealize.ShloMosaic.TcCoe Idealize.SL.Sem

/-- The even layer block's reference runs, leaves its arguments and has no semaphore. -/
theorem frameEvenRef : Cert.quiescent_FfnEvenRefIdeal := fun m ρ _ =>
  (θ_run Cert.FfnEvenRefIdeal.defs _ _).mono (fun r h => ⟨fun c => (h c).2,
    Idealize.ShloMosaic.sem_eq_zero_of_no_sems (by decide) r.2⟩) (Cert.FfnEvenRefIdeal.Value.run (F := Ideal) m ρ)

/-- The even layer block kernel and its reference leave equal results. -/
theorem valueEven : Cert.algebraic_FfnEvenIdeal_FfnEvenRefIdeal := by
  intro m ρ m' ρ' _ hagree
  refine ⟨fun c => _, (θ_run Cert.FfnEvenIdeal.defs _ _).mono
      (fun _ h c => ⟨(h c).1.trans (FfnEvenVal.Kernel.final m c), (h c).2⟩) (Cert.FfnEvenIdeal.Value.run_blocks m ρ),
    (θ_run Cert.FfnEvenRefIdeal.defs _ _).mono (fun _ h c => ⟨((h c).1.trans ((Cert.FfnEvenRefIdeal.Read.val_main_v23_eq m' c).trans
        (FfnEvenVal.Ref.v23_eq _ _ _ _ _ _ _ _))).trans ?_, (h c).2⟩)
      (Cert.FfnEvenRefIdeal.Value.run (F := Ideal) m' ρ')⟩
  obtain ⟨h0, h1, h2, h3, h4, h5, h6, h7⟩ := hagree c
  rw [h0, h1, h2, h3, h4, h5, h6, h7]

/-- The odd layer block's reference runs, leaves its arguments and has no semaphore. -/
theorem frameOddRef : Cert.quiescent_FfnOddRefIdeal := fun m ρ _ =>
  (θ_run Cert.FfnOddRefIdeal.defs _ _).mono (fun r h => ⟨fun c => (h c).2,
    Idealize.ShloMosaic.sem_eq_zero_of_no_sems (by decide) r.2⟩) (Cert.FfnOddRefIdeal.Value.run (F := Ideal) m ρ)

/-- The odd layer block kernel and its reference leave equal results. -/
theorem valueOdd : Cert.algebraic_FfnOddIdeal_FfnOddRefIdeal := by
  intro m ρ m' ρ' _ hagree
  refine ⟨fun c => _, (θ_run Cert.FfnOddIdeal.defs _ _).mono
      (fun _ h c => ⟨(h c).1.trans (FfnOddVal.Kernel.final m c), (h c).2⟩) (Cert.FfnOddIdeal.Value.run_blocks m ρ),
    (θ_run Cert.FfnOddRefIdeal.defs _ _).mono (fun _ h c => ⟨((h c).1.trans ((Cert.FfnOddRefIdeal.Read.val_main_v21_eq m' c).trans
        (FfnOddVal.Ref.res_eq _ _ _ _ _ _ _))).trans ?_, (h c).2⟩)
      (Cert.FfnOddRefIdeal.Value.run (F := Ideal) m' ρ')⟩
  obtain ⟨h0, h1, h2, h3, h4, h5, h6⟩ := hagree c
  rw [h0, h1, h2, h3, h4, h5, h6]

/-- The last layer block's reference runs, leaves its arguments and has no semaphore. -/
theorem frameLastRef : Cert.quiescent_FfnLastRefIdeal := fun m ρ _ =>
  (θ_run Cert.FfnLastRefIdeal.defs _ _).mono (fun r h => ⟨fun c => (h c).2,
    Idealize.ShloMosaic.sem_eq_zero_of_no_sems (by decide) r.2⟩) (Cert.FfnLastRefIdeal.Value.run (F := Ideal) m ρ)

/-- The last layer block kernel and its reference leave equal results. -/
theorem valueLast : Cert.algebraic_FfnLastIdeal_FfnLastRefIdeal := by
  intro m ρ m' ρ' _ hagree
  refine ⟨fun c => _, (θ_run Cert.FfnLastIdeal.defs _ _).mono
      (fun _ h c => ⟨(h c).1.trans (FfnLastVal.Kernel.final m c), (h c).2⟩) (Cert.FfnLastIdeal.Value.run_blocks m ρ),
    (θ_run Cert.FfnLastRefIdeal.defs _ _).mono (fun _ h c => ⟨((h c).1.trans ((Cert.FfnLastRefIdeal.Read.val_main_v34_eq m' c).trans
        (FfnLastVal.Ref.res_eq _ _ _ _ _ _ _ _))).trans ?_, (h c).2⟩)
      (Cert.FfnLastRefIdeal.Value.run (F := Ideal) m' ρ')⟩
  obtain ⟨h0, h1, h2, h3, h4, h5, h6, h7⟩ := hagree c
  rw [h0, h1, h2, h3, h4, h5, h6, h7]

end FfnClaims

end
-- ==== Proof.AttnFrame.lean ====
/- The frame of the differential attention call: every fair execution terminates, the argument arrays end as they
   were launched, and the semaphore counters end at zero. The output block is left unnamed here. -/
module

public import proofs.«01_k».proof.Proof.Gen.Attn.Frame
public import proofs.«01_k».proof.Proof.Gen.Attn.Loops

@[expose] public section

set_option maxRecDepth 16384

noncomputable section

namespace AttnFrame

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a scratch buffer holds between two grid points: the whole buffer, at some contents. -/
theorem scratch_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

set_option maxHeartbeats 4000000 in
/-- One grid point from any contents of the scratch and of the output: the body runs to its end, and gives back the
    inputs as they were and the other buffers at some contents. -/
theorem body_runs (c : Dev nD) (i : grid0.Coords)
    (arg3 : Memref sig .tc .vmem S4x64 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S1x16x128x256 .bf16) (harg6 : arg6.IsWhole)
    (arg7 : Memref sig .tc .vmem S1x4x256x1024 .f32) (harg7 : arg7.IsWhole) (arg8 : Memref sig .tc .vmem S128x512 .f32) (harg8 : arg8.IsWhole)
    (arg9 : Memref sig .tc .vmem S512x128 .bf16) (harg9 : arg9.IsWhole) (arg10 : Memref sig .tc .vmem S1x1024 .f32) (harg10 : arg10.IsWhole)
    (arg11 : Memref sig .tc .vmem S144x1024 .f32) (harg11 : arg11.IsWhole) (arg12 : Memref sig .tc .vmem S128x1024 .bf16) (harg12 : arg12.IsWhole)
    (arg13 : Memref sig .tc .vmem S2x256x1024 .bf16) (harg13 : arg13.IsWhole) (arg14 : Memref sig .tc .vmem S2x1x1024 .f32) (harg14 : arg14.IsWhole)
    (x0 : Vec F S4x64 .f32) (x1 : Vec F S512x128 .bf16) (x2 : Vec F S4096x128 .bf16) (x3 : Vec F S1x16x128x256 .bf16)
    (x4 : Vec F S1x4x256x1024 .f32) (x5 : Vec F S128x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E
          (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [k0_part27_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _, _; isplitr; swap; · iexact H6
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

/-- The one output window is forgotten: nothing reads it back. -/
def forgets : Fin 7 → Bool := fun w => w.val == 6

/-- The proof data: each input's staging buffer at its block, the output unnamed, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays of the proof data are those of the region's start. -/
theorem arrays (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]

set_option maxHeartbeats 4000000 in
/-- The body at every grid point, between the proof data's invariants. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare d))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ (∃ d, owns (c : Thread nD τ) (st0_6 t) fullShare d))) := by
  unfold bodyAt0
  simp only [before0_0_of m (dats m 0 c) (arrays m c 0) (left_0 m c) t, before0_1_of m (dats m 0 c) (arrays m c 1) (left_1 m c) t,
    before0_2_of m (dats m 0 c) (arrays m c 2) (left_2 m c) t, before0_3_of m (dats m 0 c) (arrays m c 3) (left_3 m c) t,
    before0_4_of m (dats m 0 c) (arrays m c 4) (left_4 m c) t, before0_5_of m (dats m 0 c) (arrays m c 5) (left_5 m c) t]
  rw [show (dats m 0 c).owesAt () t.succ = (dats m 0 c).owesAt () t.castSucc from rfl,
    left_0, left_1, left_2, left_3, left_4, left_5,
    show (dats m 0 c).Φ t.succ = Pipeline.ΦA spec0 c from rfl, show (dats m 0 c).Φ t.castSucc = Pipeline.ΦA spec0 c from rfl, scratch_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (body_runs c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline. -/
theorem obligation (c : Dev nD) : BodyObligation (dats (F := F) m 0 c) (defs₀ (F := F)) Variants.none () Set.univ forgets := fun t => by
  rw [bigSep_W0, bigSep_W0, show defs₀ (F := F) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
/-- The launch: every input array of the pipeline ends unchanged, and every semaphore counter is at zero. -/
theorem launched : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := arrays m)
    (hin := fun _ => Idealize.SL.BI.Entails.refl _) (hout := fun _ => Idealize.SL.BI.Entails.refl _)

set_option maxHeartbeats 4000000 in
/-- The frame of the call: it terminates, its arguments end as launched, and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(Pipeline.RDat.FramePost.arr_in h.1 c 1 rfl).trans ((arrays m c 1).trans (V_main_arg0 m c)),
      (Pipeline.RDat.FramePost.arr_in h.1 c 2 rfl).trans ((arrays m c 2).trans (V_main_arg1 m c)),
      (Pipeline.RDat.FramePost.arr_in h.1 c 3 rfl).trans ((arrays m c 3).trans (V_main_arg2 m c)),
      (Pipeline.RDat.FramePost.arr_in h.1 c 0 rfl).trans ((arrays m c 0).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (launched m ρ)

end AttnFrame

end
-- ==== Proof.AttnStage.lean ====
/- One key block of the attention kernel's loop, in plain values: the scores, the running maximum, the exponentials
   and the decay, each stored by column groups of 128. -/
module

public import proofs.«01_k».proof.Proof.Gen.AttnIdeal.Loops
public import Idealize.ShloMosaic.Lib.Pointwise
public import Idealize.ShloMosaic.Lib.Pipeline.ValueKit

@[expose] public section

set_option maxRecDepth 16384

noncomputable section

namespace AttnStage

open Cert.AttnIdeal Cert.AttnIdeal.Gen
open Idealize.ShloMosaic Idealize.ShloMosaic.TcCoe

/-- The score of key row `r` of a block against query column `c`: the product plus the bias tile's entry. -/
def score (kb : Vec Ideal S256x128 .bf16) (Q : Vec Ideal S128x1024 .bf16) (B : Vec Ideal S1x4x256x1024 .f32) (t : Fin 4) (r : Fin 256) (c : Fin 1024) : EReal :=
  ∑ d : Fin 128, kb (ix2 r d) * Q (ix2 d c) + B (ix4 0 t r c)

/-- The running maximum of a column after the block's scores `S`. -/
def maxN (S : Fin 256 → Fin 1024 → EReal) (m : Fin 1024 → EReal) (c : Fin 1024) : EReal :=
  max (m c) (Finset.fold max (Ideal.ofBits FTy.f32 4286578688#32) (fun r => S r c) Finset.univ)

/-- The exponentials of a block against the maximum after it. -/
def expN (S : Fin 256 → Fin 1024 → EReal) (m : Fin 1024 → EReal) (r : Fin 256) (c : Fin 1024) : EReal :=
  FloatOps.exp2 (F := Ideal) (φ := .f32) (S r c - maxN S m c)

/-- The decay of what was accumulated before the block. -/
def decN (S : Fin 256 → Fin 1024 → EReal) (m : Fin 1024 → EReal) (c : Fin 1024) : EReal :=
  FloatOps.exp2 (F := Ideal) (φ := .f32) (m c - maxN S m c)

section Pieces

variable {kb : Vec Ideal S256x128 .bf16} {Q : Vec Ideal S128x1024 .bf16} {B : Vec Ideal S1x4x256x1024 .f32} {W : Vec Ideal S1x1024 .f32} {ms : Vec Ideal S1x128 .f32}
  {n s : Nat} {t : Fin 4} {boff : Fin 4 → Nat}

/-- A column group's store of the maximum. -/
theorem max_piece (hb : boff = ![0, t.val, 0, n]) (inbq) (inbb) (inbm) (inbo)
    (hms : ms = View.ld W (Rect.unit (s := S1x1024) ![0,n] S1x128.size inbm)) (x : S1x128.Idx) :
    k0_pay6 kb (View.ld Q (Rect.unit (s := S128x1024) ![0,n] S128x128.size inbq)) (View.ld B (Rect.unit (s := S1x4x256x1024) boff S1x1x256x128.size inbb)) ms x
      = maxN (score kb Q B t) (fun c => W (ix2 0 c)) ((Rect.unit (s := S1x1024) ![0,n] S1x128.size inbo).emb x 1) := by
  subst hb hms
  idx_vars x
  have h : n + 128 ≤ 1024 := inbm 1
  rw [show (Rect.unit (s := S1x1024) ![0,n] S1x128.size inbo).emb (ix2 x0 x1) 1 = ⟨n + x1.val, (by omega : n + x1.val < 1024)⟩ from Fin.ext (by blk_simp)]
  pointwise [k0_pay6, k0_pay3, k0_pay2]
  rfl

/-- A column group's store of the exponentials, in slot `s`. -/
theorem exp_piece (hb : boff = ![0, t.val, 0, n]) (inbq) (inbb) (inbm) (inbo)
    (hms : ms = View.ld W (Rect.unit (s := S1x1024) ![0,n] S1x128.size inbm)) (x : S1x256x128.Idx) :
    k0_pay4 kb (View.ld Q (Rect.unit (s := S128x1024) ![0,n] S128x128.size inbq)) (View.ld B (Rect.unit (s := S1x4x256x1024) boff S1x1x256x128.size inbb)) ms x
      = expN (score kb Q B t) (fun c => W (ix2 0 c)) ((Rect.unit (s := S2x256x1024) ![s,0,n] S1x256x128.size inbo).emb x 1) ((Rect.unit (s := S2x256x1024) ![s,0,n] S1x256x128.size inbo).emb x 2) := by
  subst hb hms
  idx_vars x
  have h : n + 128 ≤ 1024 := inbm 1
  rw [show (Rect.unit (s := S2x256x1024) ![s,0,n] S1x256x128.size inbo).emb (ix3 x0 x1 x2) 1 = x1 from Fin.ext (by blk_simp),
    show (Rect.unit (s := S2x256x1024) ![s,0,n] S1x256x128.size inbo).emb (ix3 x0 x1 x2) 2 = ⟨n + x2.val, (by omega : n + x2.val < 1024)⟩ from Fin.ext (by blk_simp)]
  pointwise [k0_pay4, k0_pay3, k0_pay2]
  rfl

/-- A column group's store of the decay, in slot `s`. -/
theorem dec_piece (hb : boff = ![0, t.val, 0, n]) (inbq) (inbb) (inbm) (inbo)
    (hms : ms = View.ld W (Rect.unit (s := S1x1024) ![0,n] S1x128.size inbm)) (x : S1x1x128.Idx) :
    k0_pay5 kb (View.ld Q (Rect.unit (s := S128x1024) ![0,n] S128x128.size inbq)) (View.ld B (Rect.unit (s := S1x4x256x1024) boff S1x1x256x128.size inbb)) ms x
      = decN (score kb Q B t) (fun c => W (ix2 0 c)) ((Rect.unit (s := S2x1x1024) ![s,0,n] S1x1x128.size inbo).emb x 2) := by
  subst hb hms
  idx_vars x
  have h : n + 128 ≤ 1024 := inbm 1
  rw [show (Rect.unit (s := S2x1x1024) ![s,0,n] S1x1x128.size inbo).emb (ix3 x0 x1 x2) 2 = ⟨n + x2.val, (by omega : n + x2.val < 1024)⟩ from Fin.ext (by blk_simp)]
  pointwise [k0_pay5, k0_pay3, k0_pay2]
  rfl

/-- The three stores again, where the maximum is known by columns. -/
theorem max_piece_by (Mp : Fin 1024 → EReal) (hb : boff = ![0, t.val, 0, n]) (inbq) (inbb) (inbm) (inbo)
    (hms : ms = View.ld (fun y : S1x1024.Idx => Mp (y 1)) (Rect.unit (s := S1x1024) ![0,n] S1x128.size inbm)) (x : S1x128.Idx) :
    k0_pay6 kb (View.ld Q (Rect.unit (s := S128x1024) ![0,n] S128x128.size inbq)) (View.ld B (Rect.unit (s := S1x4x256x1024) boff S1x1x256x128.size inbb)) ms x
      = maxN (score kb Q B t) Mp ((Rect.unit (s := S1x1024) ![0,n] S1x128.size inbo).emb x 1) :=
  max_piece (W := fun y : S1x1024.Idx => Mp (y 1)) hb inbq inbb inbm inbo hms x

theorem exp_piece_by (Mp : Fin 1024 → EReal) (hb : boff = ![0, t.val, 0, n]) (inbq) (inbb) (inbm) (inbo)
    (hms : ms = View.ld (fun y : S1x1024.Idx => Mp (y 1)) (Rect.unit (s := S1x1024) ![0,n] S1x128.size inbm)) (x : S1x256x128.Idx) :
    k0_pay4 kb (View.ld Q (Rect.unit (s := S128x1024) ![0,n] S128x128.size inbq)) (View.ld B (Rect.unit (s := S1x4x256x1024) boff S1x1x256x128.size inbb)) ms x
      = expN (score kb Q B t) Mp ((Rect.unit (s := S2x256x1024) ![s,0,n] S1x256x128.size inbo).emb x 1) ((Rect.unit (s := S2x256x1024) ![s,0,n] S1x256x128.size inbo).emb x 2) :=
  exp_piece (W := fun y : S1x1024.Idx => Mp (y 1)) hb inbq inbb inbm inbo hms x

theorem dec_piece_by (Mp : Fin 1024 → EReal) (hb : boff = ![0, t.val, 0, n]) (inbq) (inbb) (inbm) (inbo)
    (hms : ms = View.ld (fun y : S1x1024.Idx => Mp (y 1)) (Rect.unit (s := S1x1024) ![0,n] S1x128.size inbm)) (x : S1x1x128.Idx) :
    k0_pay5 kb (View.ld Q (Rect.unit (s := S128x1024) ![0,n] S128x128.size inbq)) (View.ld B (Rect.unit (s := S1x4x256x1024) boff S1x1x256x128.size inbb)) ms x
      = decN (score kb Q B t) Mp ((Rect.unit (s := S2x1x1024) ![s,0,n] S1x1x128.size inbo).emb x 2) :=
  dec_piece (W := fun y : S1x1024.Idx => Mp (y 1)) hb inbq inbb inbm inbo hms x

end Pieces

section Regrouped

/-! The column groups' stores are one computation, cut differently from group to group. -/

variable (kb : Vec Ideal S256x128 .bf16) (q : Vec Ideal S128x128 .bf16) (b : Vec Ideal S1x1x256x128 .f32) (ms : Vec Ideal S1x128 .f32)

theorem max2_0 : k0_pay49 kb q b ms = k0_pay6 kb q b ms := rfl
theorem max2_1 : k0_pay56 (k0_pay50 kb q) (k0_pay51 b) ms = k0_pay6 kb q b ms := rfl
theorem max2_2 : k0_pay62 (k0_pay58 kb q b ms) = k0_pay6 kb q b ms := rfl
theorem max2_3 : k0_pay67 (k0_pay64 kb q b ms) = k0_pay6 kb q b ms := rfl
theorem max2_4 : k0_pay72 kb q b ms = k0_pay6 kb q b ms := rfl
theorem max2_5 : k0_pay79 (k0_pay73 kb q) (k0_pay74 b) ms = k0_pay6 kb q b ms := rfl
theorem max2_6 : k0_pay85 (k0_pay81 kb q b ms) = k0_pay6 kb q b ms := rfl
theorem max2_7 : k0_pay184 (k0_pay87 kb q b ms) = k0_pay6 kb q b ms := rfl
theorem exp2_0 : k0_pay47 kb q b ms = k0_pay4 kb q b ms := rfl
theorem exp2_1 : k0_pay54 (k0_pay50 kb q) (k0_pay51 b) ms = k0_pay4 kb q b ms := rfl
theorem exp2_2 : k0_pay60 (k0_pay59 kb q b ms) = k0_pay4 kb q b ms := rfl
theorem exp2_3 : k0_pay65 kb q b ms = k0_pay4 kb q b ms := rfl
theorem exp2_4 : k0_pay70 kb q b ms = k0_pay4 kb q b ms := rfl
theorem exp2_5 : k0_pay77 (k0_pay73 kb q) (k0_pay74 b) ms = k0_pay4 kb q b ms := rfl
theorem exp2_6 : k0_pay83 (k0_pay82 kb q b ms) = k0_pay4 kb q b ms := rfl
theorem exp2_7 : k0_pay88 kb q b ms = k0_pay4 kb q b ms := rfl
theorem dec2_0 : k0_pay48 kb q b ms = k0_pay5 kb q b ms := rfl
theorem dec2_1 : k0_pay55 (k0_pay50 kb q) (k0_pay51 b) ms = k0_pay5 kb q b ms := rfl
theorem dec2_2 : k0_pay61 ms (k0_pay58 kb q b ms) = k0_pay5 kb q b ms := rfl
theorem dec2_3 : k0_pay66 kb q b ms = k0_pay5 kb q b ms := rfl
theorem dec2_4 : k0_pay71 kb q b ms = k0_pay5 kb q b ms := rfl
theorem dec2_5 : k0_pay78 (k0_pay73 kb q) (k0_pay74 b) ms = k0_pay5 kb q b ms := rfl
theorem dec2_6 : k0_pay84 ms (k0_pay81 kb q b ms) = k0_pay5 kb q b ms := rfl
theorem dec2_7 : k0_pay89 kb q b ms = k0_pay5 kb q b ms := rfl
theorem exp1_0 : k0_pay4 kb q b ms = k0_pay4 kb q b ms := rfl
theorem exp1_1 : k0_pay9 kb q b ms = k0_pay4 kb q b ms := rfl
theorem exp1_2 : k0_pay14 (k0_pay12 kb q b) ms = k0_pay4 kb q b ms := rfl
theorem exp1_3 : k0_pay19 kb q b ms = k0_pay4 kb q b ms := rfl
theorem exp1_4 : k0_pay25 kb q b ms = k0_pay4 kb q b ms := rfl
theorem exp1_5 : k0_pay30 kb q b ms = k0_pay4 kb q b ms := rfl
theorem exp1_6 : k0_pay35 (k0_pay33 kb q b) ms = k0_pay4 kb q b ms := rfl
theorem exp1_7 : k0_pay40 kb q b ms = k0_pay4 kb q b ms := rfl
theorem dec1_0 : k0_pay5 kb q b ms = k0_pay5 kb q b ms := rfl
theorem dec1_1 : k0_pay10 kb q b ms = k0_pay5 kb q b ms := rfl
theorem dec1_2 : k0_pay15 (k0_pay12 kb q b) ms = k0_pay5 kb q b ms := rfl
theorem dec1_3 : k0_pay21 (k0_pay20 kb q b ms) = k0_pay5 kb q b ms := rfl
theorem dec1_4 : k0_pay26 kb q b ms = k0_pay5 kb q b ms := rfl
theorem dec1_5 : k0_pay31 kb q b ms = k0_pay5 kb q b ms := rfl
theorem dec1_6 : k0_pay36 (k0_pay33 kb q b) ms = k0_pay5 kb q b ms := rfl
theorem dec1_7 : k0_pay42 (k0_pay41 kb q b ms) = k0_pay5 kb q b ms := rfl

end Regrouped

/-- The accumulate step: the decayed sums plus the value block, with a row of ones below it, against the exponentials. -/
def accN (V : Fin 128 → Fin 256 → EReal) (a : Fin 1024 → EReal) (p : Fin 256 → Fin 1024 → EReal) (acc : Fin 144 → Fin 1024 → EReal)
    (e : Fin 144) (c : Fin 1024) : EReal :=
  a c * acc e c + ∑ x : Fin 256, (if h : e.val < 128 then V ⟨e.val, h⟩ x else 1) * p x c

/-- The accumulate step's store. -/
theorem acc_store (vb : Vec Ideal S1x1x128x256 .bf16) (a : Vec Ideal S1x1x1024 .f32) (acc : Vec Ideal S144x1024 .f32) (p : Vec Ideal S1x256x1024 .bf16)
    (e : Fin 144) (c : Fin 1024) :
    k0_pay44 (F := Ideal) k0_pay181 vb a acc p (ix2 e c)
      = accN (fun e x => vb (ix4 0 0 e x)) (fun c => a (ix3 0 0 c)) (fun r c => p (ix3 0 r c)) (fun e c => acc (ix2 e c)) e c := by
  pointwise [k0_pay44, k0_pay181]
  unfold accN
  congr 1

end AttnStage

end
-- ==== Proof.AttnTrip.lean ====
/- One trip of the attention kernel's loop, in plain values: two key blocks, the state before to the state after. -/
module

public import proofs.«01_k».proof.Proof.AttnStage

@[expose] public section

set_option maxRecDepth 16384

noncomputable section

namespace AttnTrip

open Cert.AttnIdeal Cert.AttnIdeal.Gen AttnStage
open Idealize.ShloMosaic Idealize.ShloMosaic.TcCoe

/-- The first loop goes through the pairs of key blocks up to the one the query block lies in. -/
theorem trips1 (i : grid0.Coords) : (k0_t1_loop i).trips = (i 2).val + 1 := by
  unfold Scf.Loop.trips
  simp only [k0_t1_loop]
  generalize i 2 = v
  revert v
  decide +kernel

/-- The second loop, which would take a remaining odd block, never runs. -/
theorem trips2 (i : grid0.Coords) : (k0_t2_loop i).trips = 0 := by
  unfold Scf.Loop.trips
  simp only [k0_t2_loop]
  generalize i 2 = v
  revert v
  decide +kernel

/-- The bias tile of key block `j` for query block `n`: its distance in blocks, at most 3. -/
def tile (n j : ℕ) : Fin 4 := Fin.ofNat 4 (min (2 * n + 1 - j) 3)

theorem trip_le {i : grid0.Coords} (k : Fin (k0_t1_loop i).trips) : k.val ≤ (i 2).val := by
  have h := lt_of_lt_of_eq k.isLt (trips1 i); omega

/-- The tile's index of a trip's first block, as the kernel computes it. -/
theorem tile1 {i : grid0.Coords} (k : Fin (k0_t1_loop i).trips) : k0_off2 i k = ![0, (tile (i 2).val (2 * k.val)).val, 0, 0] := by
  have h := trip_le k
  unfold k0_off2
  dsimp only
  generalize k.val = a at h
  refine congrArg (fun z => ![0, z, 0, 0]) ?_
  generalize i 2 = v at h
  obtain ⟨b, rfl⟩ : ∃ b : Fin 8, b.val = a := ⟨⟨a, by have := v.isLt; have : grid0.bound 2 = 8 := rfl; omega⟩, rfl⟩
  revert v b
  decide +kernel

/-- The tile's index of a trip's second block. -/
theorem tile2 {i : grid0.Coords} (k : Fin (k0_t1_loop i).trips) : k0_off12 i k = ![0, (tile (i 2).val (2 * k.val + 1)).val, 0, 0] := by
  have h := trip_le k
  unfold k0_off12
  dsimp only
  generalize k.val = a at h
  refine congrArg (fun z => ![0, z, 0, 0]) ?_
  generalize i 2 = v at h
  obtain ⟨b, rfl⟩ : ∃ b : Fin 8, b.val = a := ⟨⟨a, by have := v.isLt; have : grid0.bound 2 = 8 := rfl; omega⟩, rfl⟩
  revert v b
  decide +kernel

/-- The other column groups of the first block read the same tile. -/
theorem off_of {f : Fin 4 → Nat} {t n : Nat} (g : Fin 4 → Nat) (hf : f = ![0, t, 0, 0]) (hg : g = ![0, f 1, 0, n]) : g = ![0, t, 0, n] := by
  subst hf; exact hg

/-- The rows of the two key blocks, and the value blocks of the accumulate steps. -/
theorem rows {i : grid0.Coords} (k : Fin (k0_t1_loop i).trips) :
    k0_off1 i k = ![256 * (2 * k.val), 0] ∧ k0_off11 i k = ![256 * (2 * k.val + 1), 0]
      ∧ k0_off10 i k = ![0, 2 * k.val - 1, 0, 0] ∧ k0_off20 i k = ![0, 2 * k.val, 0, 0] := by
  have h := trip_le k
  unfold k0_off1 k0_off11 k0_off10 k0_off20
  dsimp only
  generalize k.val = a at h
  generalize i 2 = v at h
  obtain ⟨b, rfl⟩ : ∃ b : Fin 8, b.val = a := ⟨⟨a, by have := v.isLt; have : grid0.bound 2 = 8 := rfl; omega⟩, rfl⟩
  refine ⟨congrArg (fun z => ![z, 0]) ?_, congrArg (fun z => ![z, 0]) ?_, congrArg (fun z => ![0, z, 0, 0]) ?_, congrArg (fun z => ![0, z, 0, 0]) ?_⟩
  all_goals (clear h; revert b; decide +kernel)

/-- The value block of the last accumulate step. -/
theorem lastRow (i : grid0.Coords) : k0_off41 i = ![0, 2 * (i 2).val + 1, 0, 0] := by
  unfold k0_off41
  dsimp only
  refine congrArg (fun z => ![0, z, 0, 0]) ?_
  generalize i 2 = v
  revert v
  decide +kernel

variable (i : grid0.Coords)
    (arg5 : Memref sig .tc .vmem S4096x128 .bf16) (arg6 : Memref sig .tc .vmem S1x16x128x256 .bf16)
    (arg7 : Memref sig .tc .vmem S1x4x256x1024 .f32) (arg10 : Memref sig .tc .vmem S1x1024 .f32)
    (arg11 : Memref sig .tc .vmem S144x1024 .f32) (arg12 : Memref sig .tc .vmem S128x1024 .bf16)
    (arg13 : Memref sig .tc .vmem S2x256x1024 .bf16) (arg14 : Memref sig .tc .vmem S2x1x1024 .f32)
    (X5 : BufTy.Contents (Elt Ideal) arg5.view.ty) (X6 : BufTy.Contents (Elt Ideal) arg6.view.ty) (X7 : BufTy.Contents (Elt Ideal) arg7.view.ty)
    (X12 : BufTy.Contents (Elt Ideal) arg12.view.ty) (k : Fin (k0_t1_loop i).trips)
    (f10 : BufTy.Contents (Elt Ideal) arg10.view.ty) (f11 : BufTy.Contents (Elt Ideal) arg11.view.ty)
    (f13 : BufTy.Contents (Elt Ideal) arg13.view.ty) (f14 : BufTy.Contents (Elt Ideal) arg14.view.ty)

/-- The scores of the trip's first block. -/
def sc1 : Fin 256 → Fin 1024 → EReal :=
  score (trip_k0_t1.sl.r i arg5 X5 k) (arg12.view.read (Elt Ideal) X12) (arg7.view.read (Elt Ideal) X7) (tile (i 2).val (2 * k.val))

/-- The scores of the trip's second block. -/
def sc2 : Fin 256 → Fin 1024 → EReal :=
  score (trip_k0_t1.sl.r_7 i arg5 X5 k) (arg12.view.read (Elt Ideal) X12) (arg7.view.read (Elt Ideal) X7) (tile (i 2).val (2 * k.val + 1))

/-- The maximum before the trip. -/
def m0 (c : Fin 1024) : EReal := arg10.view.read (Elt Ideal) f10 (ix2 0 c)

/-- The maximum between the trip's two blocks. -/
def m1 : Fin 1024 → EReal := maxN (sc1 i arg5 arg7 arg12 X5 X7 X12 k) (m0 arg10 f10)

/-- What the first block's stores leave of the maximum. -/
theorem max_first (y : S1x1024.Idx) :
    View.canon (trip_k0_t1.sl.HW_arg10_8 i arg5 arg7 arg10 arg12 X5 X7 X12 k f10) y = m1 i arg5 arg7 arg10 arg12 X5 X7 X12 k f10 (y 1) := by
  have ht := tile1 k
  refine View.canon_apply_of_pieces (Val := Elt Ideal) (S := S1x1024) (e := .f32) (G := fun y => m1 i arg5 arg7 arg10 arg12 X5 X7 X12 k f10 (y 1)) _ ?_ y ?_
  · unfold trip_k0_t1.sl.HW_arg10_8
    simp only [List.forall_mem_cons, List.not_mem_nil, false_implies, implies_true, and_true]
    refine ⟨?_, ?_, ?_, ?_, ?_, ?_, ?_, ?_⟩
    · exact max_piece (off_of _ ht rfl) _ _ _ _ rfl
    · exact max_piece (off_of _ ht rfl) _ _ _ _ rfl
    · exact max_piece (off_of _ ht rfl) _ _ _ _ rfl
    · exact max_piece (off_of _ ht rfl) _ _ _ _ rfl
    · exact max_piece (off_of _ ht rfl) _ _ _ _ rfl
    · exact max_piece (off_of _ ht rfl) _ _ _ _ rfl
    · exact max_piece (off_of _ ht rfl) _ _ _ _ rfl
    · exact max_piece ht _ _ _ _ rfl
  · unfold trip_k0_t1.sl.HW_arg10_8
    simp only [List.exists_mem_cons_iff, Rect.mem_set_unit, List.not_mem_nil, false_and, exists_false, or_false]
    idx_vars y
    simp only [Fin.forall_fin_two, Matrix.cons_val_zero, Matrix.cons_val_one, show ix2 y0 y1 0 = y0 from rfl, show ix2 y0 y1 1 = y1 from rfl]
    omega

/-- A load of the maximum during the second block, at columns the second block has not stored yet, reads the first
    block's maximum. -/
def Kept (L : List (View.Piece (Elt Ideal) S1x1024 .f32)) (n : ℕ) : Prop :=
  ∀ y : S1x1024.Idx, n ≤ (y 1).val → View.canon L y = m1 i arg5 arg7 arg10 arg12 X5 X7 X12 k f10 (y 1)

/-- One more group stored leaves the groups after it. -/
theorem kept_cons {L : List (View.Piece (Elt Ideal) S1x1024 .f32)} {n : ℕ} (inb) (w : S1x128.Idx → Elt Ideal .f32)
    (h : Kept i arg5 arg7 arg10 arg12 X5 X7 X12 k f10 L n) :
    Kept i arg5 arg7 arg10 arg12 X5 X7 X12 k f10 (⟨Rect.unit ![0, n] S1x128.size inb, w⟩ :: L) (n + 128) := by
  intro y hy
  rw [← h y (by omega), View.canon_cons]
  refine Rect.overlay_of_not_mem _ _ _ ?_
  rw [Rect.mem_set_unit]
  intro hc
  have := (hc 1).2
  have e : (![0, n] : Fin 2 → Nat) 1 + S1x128.size 1 = n + 128 := rfl
  omega

/-- What such a load reads. -/
theorem kept_load {L : List (View.Piece (Elt Ideal) S1x1024 .f32)} {n : ℕ} (inb)
    (h : Kept i arg5 arg7 arg10 arg12 X5 X7 X12 k f10 L n) :
    arg10.view.readCov L (Rect.unit (s := S1x1024) ![0, n] S1x128.size inb).toLoadRect
      = View.ld (fun y : S1x1024.Idx => m1 i arg5 arg7 arg10 arg12 X5 X7 X12 k f10 (y 1)) (Rect.unit ![0, n] S1x128.size inb) := by
  rw [View.readCov_eq_canon']
  funext j
  refine h _ ?_
  show n ≤ n + 1 * (j 1).val
  omega

theorem kept8 : Kept i arg5 arg7 arg10 arg12 X5 X7 X12 k f10 (trip_k0_t1.sl.HW_arg10_8 i arg5 arg7 arg10 arg12 X5 X7 X12 k f10) 0 :=
  fun y _ => max_first i arg5 arg7 arg10 arg12 X5 X7 X12 k f10 y
theorem kept9 : Kept i arg5 arg7 arg10 arg12 X5 X7 X12 k f10 (trip_k0_t1.sl.HW_arg10_9 i arg5 arg7 arg10 arg12 X5 X7 X12 k f10) 128 :=
  kept_cons i arg5 arg7 arg10 arg12 X5 X7 X12 k f10 (n := 0) _ _ (kept8 i arg5 arg7 arg10 arg12 X5 X7 X12 k f10)
theorem kept10 : Kept i arg5 arg7 arg10 arg12 X5 X7 X12 k f10 (trip_k0_t1.sl.HW_arg10_10 i arg5 arg7 arg10 arg12 X5 X7 X12 k f10) 256 :=
  kept_cons i arg5 arg7 arg10 arg12 X5 X7 X12 k f10 (n := 128) _ _ (kept9 i arg5 arg7 arg10 arg12 X5 X7 X12 k f10)
theorem kept11 : Kept i arg5 arg7 arg10 arg12 X5 X7 X12 k f10 (trip_k0_t1.sl.HW_arg10_11 i arg5 arg7 arg10 arg12 X5 X7 X12 k f10) 384 :=
  kept_cons i arg5 arg7 arg10 arg12 X5 X7 X12 k f10 (n := 256) _ _ (kept10 i arg5 arg7 arg10 arg12 X5 X7 X12 k f10)
theorem kept12 : Kept i arg5 arg7 arg10 arg12 X5 X7 X12 k f10 (trip_k0_t1.sl.HW_arg10_12 i arg5 arg7 arg10 arg12 X5 X7 X12 k f10) 512 :=
  kept_cons i arg5 arg7 arg10 arg12 X5 X7 X12 k f10 (n := 384) _ _ (kept11 i arg5 arg7 arg10 arg12 X5 X7 X12 k f10)
theorem kept13 : Kept i arg5 arg7 arg10 arg12 X5 X7 X12 k f10 (trip_k0_t1.sl.HW_arg10_13 i arg5 arg7 arg10 arg12 X5 X7 X12 k f10) 640 :=
  kept_cons i arg5 arg7 arg10 arg12 X5 X7 X12 k f10 (n := 512) _ _ (kept12 i arg5 arg7 arg10 arg12 X5 X7 X12 k f10)
theorem kept14 : Kept i arg5 arg7 arg10 arg12 X5 X7 X12 k f10 (trip_k0_t1.sl.HW_arg10_14 i arg5 arg7 arg10 arg12 X5 X7 X12 k f10) 768 :=
  kept_cons i arg5 arg7 arg10 arg12 X5 X7 X12 k f10 (n := 640) _ _ (kept13 i arg5 arg7 arg10 arg12 X5 X7 X12 k f10)
theorem kept15 : Kept i arg5 arg7 arg10 arg12 X5 X7 X12 k f10 (trip_k0_t1.sl.HW_arg10_15 i arg5 arg7 arg10 arg12 X5 X7 X12 k f10) 896 :=
  kept_cons i arg5 arg7 arg10 arg12 X5 X7 X12 k f10 (n := 768) _ _ (kept14 i arg5 arg7 arg10 arg12 X5 X7 X12 k f10)

/-- Eight stores in front of a list, split off. -/
theorem eight {α : Type*} (a b c d e f g h : α) (L : List α) : a :: b :: c :: d :: e :: f :: g :: h :: L = [a, b, c, d, e, f, g, h] ++ L := rfl

variable (c : Dev nD) (arg3 : Memref sig .tc .vmem S4x64 .f32) (harg3 : arg3.IsWhole) (arg4 : Memref sig .tc .vmem S512x128 .bf16) (harg4 : arg4.IsWhole)
    (harg5 : arg5.IsWhole) (harg6 : arg6.IsWhole) (harg7 : arg7.IsWhole)
    (arg8 : Memref sig .tc .vmem S128x512 .f32) (harg8 : arg8.IsWhole)
    (arg9 : Memref sig .tc .vmem S512x128 .bf16) (harg9 : arg9.IsWhole) (harg10 : arg10.IsWhole) (harg11 : arg11.IsWhole) (harg12 : arg12.IsWhole)
    (harg13 : arg13.IsWhole) (harg14 : arg14.IsWhole) (v1 : BitVec 32)

/-- The trip's stores, as the loop's invariant lists them. -/
abbrev stores := tripL_k0_t1 (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 k f10 f11 f13 f14

set_option maxHeartbeats 1000000 in
/-- The maximum after the trip. -/
theorem max_after (y : S1x1024.Idx) :
    arg10.view.read (Elt Ideal) (arg10.view.writes (Elt Ideal) f10 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).1) y
      = maxN (sc2 i arg5 arg7 arg12 X5 X7 X12 k) (m1 i arg5 arg7 arg10 arg12 X5 X7 X12 k f10) (y 1) := by
  have ht := tile2 k
  unfold stores tripL_k0_t1 trip_k0_t1
  dsimp only
  unfold trip_k0_t1.sl.HW_arg10_15 trip_k0_t1.sl.HW_arg10_14 trip_k0_t1.sl.HW_arg10_13 trip_k0_t1.sl.HW_arg10_12 trip_k0_t1.sl.HW_arg10_11 trip_k0_t1.sl.HW_arg10_10 trip_k0_t1.sl.HW_arg10_9
  rw [eight, View.writes_append, View.read_writes_apply_eq_canon]
  · refine View.canon_apply_of_pieces (Val := Elt Ideal) (S := S1x1024) (e := .f32)
      (G := fun y => maxN (sc2 i arg5 arg7 arg12 X5 X7 X12 k) (m1 i arg5 arg7 arg10 arg12 X5 X7 X12 k f10) (y 1)) _ ?_ y ?_
    · simp only [List.forall_mem_cons, List.not_mem_nil, false_implies, implies_true, and_true]
      refine ⟨?_, ?_, ?_, ?_, ?_, ?_, ?_, ?_⟩
      · intro x; exact (congrFun (max2_7 _ _ _ _) x).trans (max_piece_by (m1 i arg5 arg7 arg10 arg12 X5 X7 X12 k f10) (off_of _ ht rfl) _ _ _ _ (kept_load i arg5 arg7 arg10 arg12 X5 X7 X12 k f10 _ (kept15 i arg5 arg7 arg10 arg12 X5 X7 X12 k f10)) x)
      · intro x; exact (congrFun (max2_6 _ _ _ _) x).trans (max_piece_by (m1 i arg5 arg7 arg10 arg12 X5 X7 X12 k f10) (off_of _ ht rfl) _ _ _ _ (kept_load i arg5 arg7 arg10 arg12 X5 X7 X12 k f10 _ (kept14 i arg5 arg7 arg10 arg12 X5 X7 X12 k f10)) x)
      · intro x; exact (congrFun (max2_5 _ _ _ _) x).trans (max_piece_by (m1 i arg5 arg7 arg10 arg12 X5 X7 X12 k f10) (off_of _ ht rfl) _ _ _ _ (kept_load i arg5 arg7 arg10 arg12 X5 X7 X12 k f10 _ (kept13 i arg5 arg7 arg10 arg12 X5 X7 X12 k f10)) x)
      · intro x; exact (congrFun (max2_4 _ _ _ _) x).trans (max_piece_by (m1 i arg5 arg7 arg10 arg12 X5 X7 X12 k f10) (off_of _ ht rfl) _ _ _ _ (kept_load i arg5 arg7 arg10 arg12 X5 X7 X12 k f10 _ (kept12 i arg5 arg7 arg10 arg12 X5 X7 X12 k f10)) x)
      · intro x; exact (congrFun (max2_3 _ _ _ _) x).trans (max_piece_by (m1 i arg5 arg7 arg10 arg12 X5 X7 X12 k f10) (off_of _ ht rfl) _ _ _ _ (kept_load i arg5 arg7 arg10 arg12 X5 X7 X12 k f10 _ (kept11 i arg5 arg7 arg10 arg12 X5 X7 X12 k f10)) x)
      · intro x; exact (congrFun (max2_2 _ _ _ _) x).trans (max_piece_by (m1 i arg5 arg7 arg10 arg12 X5 X7 X12 k f10) (off_of _ ht rfl) _ _ _ _ (kept_load i arg5 arg7 arg10 arg12 X5 X7 X12 k f10 _ (kept10 i arg5 arg7 arg10 arg12 X5 X7 X12 k f10)) x)
      · intro x; exact (congrFun (max2_1 _ _ _ _) x).trans (max_piece_by (m1 i arg5 arg7 arg10 arg12 X5 X7 X12 k f10) (off_of _ ht rfl) _ _ _ _ (kept_load i arg5 arg7 arg10 arg12 X5 X7 X12 k f10 _ (kept9 i arg5 arg7 arg10 arg12 X5 X7 X12 k f10)) x)
      · intro x; exact (congrFun (max2_0 _ _ _ _) x).trans (max_piece_by (m1 i arg5 arg7 arg10 arg12 X5 X7 X12 k f10) ht _ _ _ _ (kept_load i arg5 arg7 arg10 arg12 X5 X7 X12 k f10 _ (kept8 i arg5 arg7 arg10 arg12 X5 X7 X12 k f10)) x)
    · simp only [List.exists_mem_cons_iff, Rect.mem_set_unit, List.not_mem_nil, false_and, exists_false, or_false]
      idx_vars y
      simp only [Fin.forall_fin_two, Matrix.cons_val_zero, Matrix.cons_val_one, show ix2 y0 y1 0 = y0 from rfl, show ix2 y0 y1 1 = y1 from rfl]
      omega
  · simp only [List.exists_mem_cons_iff, Rect.mem_set_unit, List.not_mem_nil, false_and, exists_false, or_false]
    idx_vars y
    simp only [Fin.forall_fin_two, Matrix.cons_val_zero, Matrix.cons_val_one, show ix2 y0 y1 0 = y0 from rfl, show ix2 y0 y1 1 = y1 from rfl]
    omega

/-- The exponentials the trip leaves in the two slots. -/
def exps (y : S2x256x1024.Idx) : EReal :=
  if (y 0).val = 0 then expN (sc1 i arg5 arg7 arg12 X5 X7 X12 k) (m0 arg10 f10) (y 1) (y 2)
  else expN (sc2 i arg5 arg7 arg12 X5 X7 X12 k) (m1 i arg5 arg7 arg10 arg12 X5 X7 X12 k f10) (y 1) (y 2)

/-- The decays the trip leaves in the two slots. -/
def decs (y : S2x1x1024.Idx) : EReal :=
  if (y 0).val = 0 then decN (sc1 i arg5 arg7 arg12 X5 X7 X12 k) (m0 arg10 f10) (y 2)
  else decN (sc2 i arg5 arg7 arg12 X5 X7 X12 k) (m1 i arg5 arg7 arg10 arg12 X5 X7 X12 k f10) (y 2)

/-- A store of slot 0 is the first block's. -/
theorem exps0 {n : ℕ} (inb) {v : EReal} (x : S1x256x128.Idx)
    (h : v = expN (sc1 i arg5 arg7 arg12 X5 X7 X12 k) (m0 arg10 f10) ((Rect.unit (s := S2x256x1024) ![0,0,n] S1x256x128.size inb).emb x 1) ((Rect.unit (s := S2x256x1024) ![0,0,n] S1x256x128.size inb).emb x 2)) :
    v = exps i arg5 arg7 arg10 arg12 X5 X7 X12 k f10 ((Rect.unit (s := S2x256x1024) ![0,0,n] S1x256x128.size inb).emb x) := by
  refine h.trans (if_pos ?_).symm
  have := (x 0).isLt
  have e : S1x256x128.size 0 = 1 := rfl
  show 0 + 1 * (x 0).val = 0
  omega

/-- A store of slot 1 is the second block's. -/
theorem exps1 {n : ℕ} (inb) {v : EReal} (x : S1x256x128.Idx)
    (h : v = expN (sc2 i arg5 arg7 arg12 X5 X7 X12 k) (m1 i arg5 arg7 arg10 arg12 X5 X7 X12 k f10) ((Rect.unit (s := S2x256x1024) ![1,0,n] S1x256x128.size inb).emb x 1) ((Rect.unit (s := S2x256x1024) ![1,0,n] S1x256x128.size inb).emb x 2)) :
    v = exps i arg5 arg7 arg10 arg12 X5 X7 X12 k f10 ((Rect.unit (s := S2x256x1024) ![1,0,n] S1x256x128.size inb).emb x) := by
  refine h.trans (if_neg ?_).symm
  show ¬ (1 + 1 * (x 0).val = 0)
  omega

theorem decs0 {n : ℕ} (inb) {v : EReal} (x : S1x1x128.Idx)
    (h : v = decN (sc1 i arg5 arg7 arg12 X5 X7 X12 k) (m0 arg10 f10) ((Rect.unit (s := S2x1x1024) ![0,0,n] S1x1x128.size inb).emb x 2)) :
    v = decs i arg5 arg7 arg10 arg12 X5 X7 X12 k f10 ((Rect.unit (s := S2x1x1024) ![0,0,n] S1x1x128.size inb).emb x) := by
  refine h.trans (if_pos ?_).symm
  have := (x 0).isLt
  have e : S1x1x128.size 0 = 1 := rfl
  show 0 + 1 * (x 0).val = 0
  omega

theorem decs1 {n : ℕ} (inb) {v : EReal} (x : S1x1x128.Idx)
    (h : v = decN (sc2 i arg5 arg7 arg12 X5 X7 X12 k) (m1 i arg5 arg7 arg10 arg12 X5 X7 X12 k f10) ((Rect.unit (s := S2x1x1024) ![1,0,n] S1x1x128.size inb).emb x 2)) :
    v = decs i arg5 arg7 arg10 arg12 X5 X7 X12 k f10 ((Rect.unit (s := S2x1x1024) ![1,0,n] S1x1x128.size inb).emb x) := by
  refine h.trans (if_neg ?_).symm
  show ¬ (1 + 1 * (x 0).val = 0)
  omega

/-- The trip's stores of the exponentials cover both slots. -/
theorem cover13 (y : S2x256x1024.Idx) : ∃ p ∈ trip_k0_t1.sl.HW_arg13_16 i arg5 arg7 arg10 arg12 X5 X7 X12 k f10, y ∈ p.1.set := by
  unfold trip_k0_t1.sl.HW_arg13_16
  simp only [List.exists_mem_cons_iff, Rect.mem_set_unit, List.not_mem_nil, false_and, exists_false, or_false]
  idx_vars y
  simp only [Fin.forall_fin_succ, Fin.forall_fin_zero, Fin.succ_zero_eq_one, Fin.succ_one_eq_two, Matrix.cons_val_zero, Matrix.cons_val_one, Matrix.cons_val,
    show ix3 y0 y1 y2 0 = y0 from rfl, show ix3 y0 y1 y2 1 = y1 from rfl, show ix3 y0 y1 y2 2 = y2 from rfl, and_true]
  have := y1.isLt
  have := y2.isLt
  rcases (by omega : y0.val = 0 ∨ y0.val = 1) with h | h
  all_goals (simp only [h]; omega)

set_option maxHeartbeats 1000000 in
/-- What the trip's stores of the exponentials hold. -/
theorem exps_canon (y : S2x256x1024.Idx) :
    View.canon (trip_k0_t1.sl.HW_arg13_16 i arg5 arg7 arg10 arg12 X5 X7 X12 k f10) y = exps i arg5 arg7 arg10 arg12 X5 X7 X12 k f10 y := by
  have h1 := tile1 k
  have h2 := tile2 k
  refine View.canon_apply_of_pieces (Val := Elt Ideal) (S := S2x256x1024) (e := .bf16) (G := exps i arg5 arg7 arg10 arg12 X5 X7 X12 k f10) _ ?_ y (cover13 i arg5 arg7 arg10 arg12 X5 X7 X12 k f10 y)
  unfold trip_k0_t1.sl.HW_arg13_16
  simp only [List.forall_mem_cons, List.not_mem_nil, false_implies, implies_true, and_true]
  refine ⟨?_, ?_, ?_, ?_, ?_, ?_, ?_, ?_, ?_, ?_, ?_, ?_, ?_, ?_, ?_, ?_⟩
  · intro x; exact exps1 i arg5 arg7 arg10 arg12 X5 X7 X12 k f10 _ x ((congrFun (exp2_7 _ _ _ _) x).trans (exp_piece_by (s := 1) (m1 i arg5 arg7 arg10 arg12 X5 X7 X12 k f10) (off_of _ h2 rfl) _ _ _ _ (kept_load i arg5 arg7 arg10 arg12 X5 X7 X12 k f10 _ (kept15 i arg5 arg7 arg10 arg12 X5 X7 X12 k f10)) x))
  · intro x; exact exps1 i arg5 arg7 arg10 arg12 X5 X7 X12 k f10 _ x ((congrFun (exp2_6 _ _ _ _) x).trans (exp_piece_by (s := 1) (m1 i arg5 arg7 arg10 arg12 X5 X7 X12 k f10) (off_of _ h2 rfl) _ _ _ _ (kept_load i arg5 arg7 arg10 arg12 X5 X7 X12 k f10 _ (kept14 i arg5 arg7 arg10 arg12 X5 X7 X12 k f10)) x))
  · intro x; exact exps1 i arg5 arg7 arg10 arg12 X5 X7 X12 k f10 _ x ((congrFun (exp2_5 _ _ _ _) x).trans (exp_piece_by (s := 1) (m1 i arg5 arg7 arg10 arg12 X5 X7 X12 k f10) (off_of _ h2 rfl) _ _ _ _ (kept_load i arg5 arg7 arg10 arg12 X5 X7 X12 k f10 _ (kept13 i arg5 arg7 arg10 arg12 X5 X7 X12 k f10)) x))
  · intro x; exact exps1 i arg5 arg7 arg10 arg12 X5 X7 X12 k f10 _ x ((congrFun (exp2_4 _ _ _ _) x).trans (exp_piece_by (s := 1) (m1 i arg5 arg7 arg10 arg12 X5 X7 X12 k f10) (off_of _ h2 rfl) _ _ _ _ (kept_load i arg5 arg7 arg10 arg12 X5 X7 X12 k f10 _ (kept12 i arg5 arg7 arg10 arg12 X5 X7 X12 k f10)) x))
  · intro x; exact exps1 i arg5 arg7 arg10 arg12 X5 X7 X12 k f10 _ x ((congrFun (exp2_3 _ _ _ _) x).trans (exp_piece_by (s := 1) (m1 i arg5 arg7 arg10 arg12 X5 X7 X12 k f10) (off_of _ h2 rfl) _ _ _ _ (kept_load i arg5 arg7 arg10 arg12 X5 X7 X12 k f10 _ (kept11 i arg5 arg7 arg10 arg12 X5 X7 X12 k f10)) x))
  · intro x; exact exps1 i arg5 arg7 arg10 arg12 X5 X7 X12 k f10 _ x ((congrFun (exp2_2 _ _ _ _) x).trans (exp_piece_by (s := 1) (m1 i arg5 arg7 arg10 arg12 X5 X7 X12 k f10) (off_of _ h2 rfl) _ _ _ _ (kept_load i arg5 arg7 arg10 arg12 X5 X7 X12 k f10 _ (kept10 i arg5 arg7 arg10 arg12 X5 X7 X12 k f10)) x))
  · intro x; exact exps1 i arg5 arg7 arg10 arg12 X5 X7 X12 k f10 _ x ((congrFun (exp2_1 _ _ _ _) x).trans (exp_piece_by (s := 1) (m1 i arg5 arg7 arg10 arg12 X5 X7 X12 k f10) (off_of _ h2 rfl) _ _ _ _ (kept_load i arg5 arg7 arg10 arg12 X5 X7 X12 k f10 _ (kept9 i arg5 arg7 arg10 arg12 X5 X7 X12 k f10)) x))
  · intro x; exact exps1 i arg5 arg7 arg10 arg12 X5 X7 X12 k f10 _ x ((congrFun (exp2_0 _ _ _ _) x).trans (exp_piece_by (s := 1) (m1 i arg5 arg7 arg10 arg12 X5 X7 X12 k f10) h2 _ _ _ _ (kept_load i arg5 arg7 arg10 arg12 X5 X7 X12 k f10 _ (kept8 i arg5 arg7 arg10 arg12 X5 X7 X12 k f10)) x))
  · intro x; exact exps0 i arg5 arg7 arg10 arg12 X5 X7 X12 k f10 _ x ((congrFun (exp1_7 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_6 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_5 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_4 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_3 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_2 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_1 _ _ _ _) x).trans (exp_piece (s := 0) (W := arg10.view.read (Elt Ideal) f10) (off_of _ h1 rfl) _ _ _ _ rfl x))
  · intro x; exact exps0 i arg5 arg7 arg10 arg12 X5 X7 X12 k f10 _ x ((congrFun (exp1_0 _ _ _ _) x).trans (exp_piece (s := 0) (W := arg10.view.read (Elt Ideal) f10) h1 _ _ _ _ rfl x))

/-- The trip's stores of the decays cover both slots. -/
theorem cover14 (y : S2x1x1024.Idx) : ∃ p ∈ trip_k0_t1.sl.HW_arg14_16 i arg5 arg7 arg10 arg12 X5 X7 X12 k f10, y ∈ p.1.set := by
  unfold trip_k0_t1.sl.HW_arg14_16
  simp only [List.exists_mem_cons_iff, Rect.mem_set_unit, List.not_mem_nil, false_and, exists_false, or_false]
  idx_vars y
  simp only [Fin.forall_fin_succ, Fin.forall_fin_zero, Fin.succ_zero_eq_one, Fin.succ_one_eq_two, Matrix.cons_val_zero, Matrix.cons_val_one, Matrix.cons_val,
    show ix3 y0 y1 y2 0 = y0 from rfl, show ix3 y0 y1 y2 1 = y1 from rfl, show ix3 y0 y1 y2 2 = y2 from rfl, and_true]
  have := y1.isLt
  have := y2.isLt
  rcases (by omega : y0.val = 0 ∨ y0.val = 1) with h | h
  all_goals (simp only [h]; omega)

set_option maxHeartbeats 1000000 in
/-- What the trip's stores of the decays hold. -/
theorem decs_canon (y : S2x1x1024.Idx) :
    View.canon (trip_k0_t1.sl.HW_arg14_16 i arg5 arg7 arg10 arg12 X5 X7 X12 k f10) y = decs i arg5 arg7 arg10 arg12 X5 X7 X12 k f10 y := by
  have h1 := tile1 k
  have h2 := tile2 k
  refine View.canon_apply_of_pieces (Val := Elt Ideal) (S := S2x1x1024) (e := .f32) (G := decs i arg5 arg7 arg10 arg12 X5 X7 X12 k f10) _ ?_ y (cover14 i arg5 arg7 arg10 arg12 X5 X7 X12 k f10 y)
  unfold trip_k0_t1.sl.HW_arg14_16
  simp only [List.forall_mem_cons, List.not_mem_nil, false_implies, implies_true, and_true]
  refine ⟨?_, ?_, ?_, ?_, ?_, ?_, ?_, ?_, ?_, ?_, ?_, ?_, ?_, ?_, ?_, ?_⟩
  · intro x; exact decs1 i arg5 arg7 arg10 arg12 X5 X7 X12 k f10 _ x ((congrFun (dec2_7 _ _ _ _) x).trans (dec_piece_by (s := 1) (m1 i arg5 arg7 arg10 arg12 X5 X7 X12 k f10) (off_of _ h2 rfl) _ _ _ _ (kept_load i arg5 arg7 arg10 arg12 X5 X7 X12 k f10 _ (kept15 i arg5 arg7 arg10 arg12 X5 X7 X12 k f10)) x))
  · intro x; exact decs1 i arg5 arg7 arg10 arg12 X5 X7 X12 k f10 _ x ((congrFun (dec2_6 _ _ _ _) x).trans (dec_piece_by (s := 1) (m1 i arg5 arg7 arg10 arg12 X5 X7 X12 k f10) (off_of _ h2 rfl) _ _ _ _ (kept_load i arg5 arg7 arg10 arg12 X5 X7 X12 k f10 _ (kept14 i arg5 arg7 arg10 arg12 X5 X7 X12 k f10)) x))
  · intro x; exact decs1 i arg5 arg7 arg10 arg12 X5 X7 X12 k f10 _ x ((congrFun (dec2_5 _ _ _ _) x).trans (dec_piece_by (s := 1) (m1 i arg5 arg7 arg10 arg12 X5 X7 X12 k f10) (off_of _ h2 rfl) _ _ _ _ (kept_load i arg5 arg7 arg10 arg12 X5 X7 X12 k f10 _ (kept13 i arg5 arg7 arg10 arg12 X5 X7 X12 k f10)) x))
  · intro x; exact decs1 i arg5 arg7 arg10 arg12 X5 X7 X12 k f10 _ x ((congrFun (dec2_4 _ _ _ _) x).trans (dec_piece_by (s := 1) (m1 i arg5 arg7 arg10 arg12 X5 X7 X12 k f10) (off_of _ h2 rfl) _ _ _ _ (kept_load i arg5 arg7 arg10 arg12 X5 X7 X12 k f10 _ (kept12 i arg5 arg7 arg10 arg12 X5 X7 X12 k f10)) x))
  · intro x; exact decs1 i arg5 arg7 arg10 arg12 X5 X7 X12 k f10 _ x ((congrFun (dec2_3 _ _ _ _) x).trans (dec_piece_by (s := 1) (m1 i arg5 arg7 arg10 arg12 X5 X7 X12 k f10) (off_of _ h2 rfl) _ _ _ _ (kept_load i arg5 arg7 arg10 arg12 X5 X7 X12 k f10 _ (kept11 i arg5 arg7 arg10 arg12 X5 X7 X12 k f10)) x))
  · intro x; exact decs1 i arg5 arg7 arg10 arg12 X5 X7 X12 k f10 _ x ((congrFun (dec2_2 _ _ _ _) x).trans (dec_piece_by (s := 1) (m1 i arg5 arg7 arg10 arg12 X5 X7 X12 k f10) (off_of _ h2 rfl) _ _ _ _ (kept_load i arg5 arg7 arg10 arg12 X5 X7 X12 k f10 _ (kept10 i arg5 arg7 arg10 arg12 X5 X7 X12 k f10)) x))
  · intro x; exact decs1 i arg5 arg7 arg10 arg12 X5 X7 X12 k f10 _ x ((congrFun (dec2_1 _ _ _ _) x).trans (dec_piece_by (s := 1) (m1 i arg5 arg7 arg10 arg12 X5 X7 X12 k f10) (off_of _ h2 rfl) _ _ _ _ (kept_load i arg5 arg7 arg10 arg12 X5 X7 X12 k f10 _ (kept9 i arg5 arg7 arg10 arg12 X5 X7 X12 k f10)) x))
  · intro x; exact decs1 i arg5 arg7 arg10 arg12 X5 X7 X12 k f10 _ x ((congrFun (dec2_0 _ _ _ _) x).trans (dec_piece_by (s := 1) (m1 i arg5 arg7 arg10 arg12 X5 X7 X12 k f10) h2 _ _ _ _ (kept_load i arg5 arg7 arg10 arg12 X5 X7 X12 k f10 _ (kept8 i arg5 arg7 arg10 arg12 X5 X7 X12 k f10)) x))
  · intro x; exact decs0 i arg5 arg7 arg10 arg12 X5 X7 X12 k f10 _ x ((congrFun (dec1_7 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_6 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_5 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_4 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_3 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_2 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_1 _ _ _ _) x).trans (dec_piece (s := 0) (W := arg10.view.read (Elt Ideal) f10) (off_of _ h1 rfl) _ _ _ _ rfl x))
  · intro x; exact decs0 i arg5 arg7 arg10 arg12 X5 X7 X12 k f10 _ x ((congrFun (dec1_0 _ _ _ _) x).trans (dec_piece (s := 0) (W := arg10.view.read (Elt Ideal) f10) h1 _ _ _ _ rfl x))

/-- The exponentials after the trip. -/
theorem exps_after (y : S2x256x1024.Idx) :
    arg13.view.read (Elt Ideal) (arg13.view.writes (Elt Ideal) f13 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.2.1) y
      = exps i arg5 arg7 arg10 arg12 X5 X7 X12 k f10 y := by
  unfold stores tripL_k0_t1 trip_k0_t1
  dsimp only
  rw [View.read_writes_apply_eq_canon _ _ _ _ (cover13 i arg5 arg7 arg10 arg12 X5 X7 X12 k f10 y)]
  exact exps_canon i arg5 arg7 arg10 arg12 X5 X7 X12 k f10 y

/-- The decays after the trip. -/
theorem decs_after (y : S2x1x1024.Idx) :
    arg14.view.read (Elt Ideal) (arg14.view.writes (Elt Ideal) f14 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.2.2) y
      = decs i arg5 arg7 arg10 arg12 X5 X7 X12 k f10 y := by
  unfold stores tripL_k0_t1 trip_k0_t1
  dsimp only
  rw [View.read_writes_apply_eq_canon _ _ _ _ (cover14 i arg5 arg7 arg10 arg12 X5 X7 X12 k f10 y)]
  exact decs_canon i arg5 arg7 arg10 arg12 X5 X7 X12 k f10 y

end AttnTrip

end
-- ==== Proof.AttnAcc.lean ====
/- The accumulate steps of one trip, and the trip's state as a whole. -/
module

public import proofs.«01_k».proof.Proof.AttnTrip

@[expose] public section

set_option maxRecDepth 16384

noncomputable section

namespace AttnTrip

open Cert.AttnIdeal Cert.AttnIdeal.Gen AttnStage
open Idealize.ShloMosaic Idealize.ShloMosaic.TcCoe

variable (i : grid0.Coords)
    (arg5 : Memref sig .tc .vmem S4096x128 .bf16) (arg6 : Memref sig .tc .vmem S1x16x128x256 .bf16)
    (arg7 : Memref sig .tc .vmem S1x4x256x1024 .f32) (arg10 : Memref sig .tc .vmem S1x1024 .f32)
    (arg11 : Memref sig .tc .vmem S144x1024 .f32) (arg12 : Memref sig .tc .vmem S128x1024 .bf16)
    (arg13 : Memref sig .tc .vmem S2x256x1024 .bf16) (arg14 : Memref sig .tc .vmem S2x1x1024 .f32)
    (X5 : BufTy.Contents (Elt Ideal) arg5.view.ty) (X6 : BufTy.Contents (Elt Ideal) arg6.view.ty) (X7 : BufTy.Contents (Elt Ideal) arg7.view.ty)
    (X12 : BufTy.Contents (Elt Ideal) arg12.view.ty) (k : Fin (k0_t1_loop i).trips)
    (f10 : BufTy.Contents (Elt Ideal) arg10.view.ty) (f11 : BufTy.Contents (Elt Ideal) arg11.view.ty)
    (f13 : BufTy.Contents (Elt Ideal) arg13.view.ty) (f14 : BufTy.Contents (Elt Ideal) arg14.view.ty)

variable (c : Dev nD) (arg3 : Memref sig .tc .vmem S4x64 .f32) (harg3 : arg3.IsWhole) (arg4 : Memref sig .tc .vmem S512x128 .bf16) (harg4 : arg4.IsWhole)
    (harg5 : arg5.IsWhole) (harg6 : arg6.IsWhole) (harg7 : arg7.IsWhole)
    (arg8 : Memref sig .tc .vmem S128x512 .f32) (harg8 : arg8.IsWhole)
    (arg9 : Memref sig .tc .vmem S512x128 .bf16) (harg9 : arg9.IsWhole) (harg10 : arg10.IsWhole) (harg11 : arg11.IsWhole) (harg12 : arg12.IsWhole)
    (harg13 : arg13.IsWhole) (harg14 : arg14.IsWhole) (v1 : BitVec 32)

/-- The value block `j` of the transposed values. -/
def vblk (V : Vec Ideal S1x16x128x256 .bf16) (j : ℕ) (e : Fin 128) (x : Fin 256) : EReal := V (ix4 0 (Fin.ofNat 16 j) e x)

theorem vblk_ld (V : Vec Ideal S1x16x128x256 .bf16) {off : Fin 4 → Nat} {n : Nat} (hn : n < 16) (ho : off = ![0, n, 0, 0]) (inb) (e : Fin 128) (x : Fin 256) :
    View.ld V (Rect.unit (s := S1x16x128x256) off S1x1x128x256.size inb) (ix4 0 0 e x) = vblk V n e x := by
  subst ho
  refine congrArg V (funext fun a => Fin.ext ?_)
  fin_cases a
  · rfl
  · show n + 1 * 0 = n % 16
    omega
  · show 0 + 1 * e.val = e.val
    omega
  · show 0 + 1 * x.val = x.val
    omega

/-- A load of a slot of the exponentials. -/
theorem slot13 {W : Vec Ideal S2x256x1024 .bf16} (s : Fin 2) (inb) (r : Fin 256) (c : Fin 1024) :
    View.ld W (Rect.unit (s := S2x256x1024) ![s.val, 0, 0] S1x256x1024.size inb) (ix3 0 r c) = W (ix3 s r c) := by
  refine congrArg W (funext fun a => Fin.ext ?_)
  fin_cases a
  · show s.val + 1 * 0 = s.val
    omega
  · show 0 + 1 * r.val = r.val
    omega
  · show 0 + 1 * c.val = c.val
    omega

/-- A load of a slot of the decays. -/
theorem slot14 {W : Vec Ideal S2x1x1024 .f32} (s : Fin 2) (inb) (c : Fin 1024) :
    View.ld W (Rect.unit (s := S2x1x1024) ![s.val, 0, 0] S1x1x1024.size inb) (ix3 0 0 c) = W (ix3 s 0 c) := by
  refine congrArg W (funext fun a => Fin.ext ?_)
  fin_cases a
  · show s.val + 1 * 0 = s.val
    omega
  · rfl
  · show 0 + 1 * c.val = c.val
    omega

theorem zero2 : (![0, 0] : Fin 2 → Nat) = fun _ => 0 := by
  funext a; fin_cases a <;> rfl

/-- The sums after a trip's first accumulate step. -/
def acc1 : Fin 144 → Fin 1024 → EReal :=
  accN (vblk (arg6.view.read (Elt Ideal) X6) (2 * k.val - 1)) (fun c => arg14.view.read (Elt Ideal) f14 (ix3 1 0 c))
    (fun r c => arg13.view.read (Elt Ideal) f13 (ix3 1 r c)) (fun e c => arg11.view.read (Elt Ideal) f11 (ix2 e c))

/-- The first accumulate step's store. -/
theorem acc_first (e : Fin 144) (c : Fin 1024) :
    View.canon (trip_k0_t1.sl.HW_arg11_1 (F := Ideal) i arg6 arg11 arg13 arg14 k0_pay181 X6 k f11 f13 f14) (ix2 e c) = acc1 i arg6 arg11 arg13 arg14 X6 k f11 f13 f14 e c := by
  unfold trip_k0_t1.sl.HW_arg11_1
  rw [View.canon_unit_zero zero2, acc_store]
  have hk := trip_le k
  have hb : (i 2).val < 8 := (i 2).isLt
  unfold acc1
  congr 1
  · funext e x
    exact vblk_ld (arg6.view.read (Elt Ideal) X6) (by omega) (rows k).2.2.1 _ e x
  · funext c
    exact slot14 (W := arg14.view.read (Elt Ideal) f14) 1 _ c
  · funext r c
    exact slot13 (W := arg13.view.read (Elt Ideal) f13) 1 _ r c
  · funext e c
    rw [View.readAt_eq_ld, View.ld_unit_zero zero2]

/-- The sums after the trip. -/
theorem acc_after (e : Fin 144) (c' : Fin 1024) :
    arg11.view.read (Elt Ideal) (arg11.view.writes (Elt Ideal) f11 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.1) (ix2 e c')
      = accN (vblk (arg6.view.read (Elt Ideal) X6) (2 * k.val)) (decN (sc1 i arg5 arg7 arg12 X5 X7 X12 k) (m0 arg10 f10))
          (expN (sc1 i arg5 arg7 arg12 X5 X7 X12 k) (m0 arg10 f10)) (acc1 i arg6 arg11 arg13 arg14 X6 k f11 f13 f14) e c' := by
  have hk := trip_le k
  have hb : (i 2).val < 8 := (i 2).isLt
  unfold stores tripL_k0_t1 trip_k0_t1
  dsimp only
  rw [View.read_writes_apply_eq_canon _ _ _ _ ⟨_, List.mem_cons_self, by
    rw [Rect.mem_set_unit]; intro a; fin_cases a
    · exact ⟨Nat.zero_le _, by show e.val < 0 + 144; omega⟩
    · exact ⟨Nat.zero_le _, by show c'.val < 0 + 1024; omega⟩⟩]
  rw [View.canon_cons_unit_zero zero2]
  show k0_pay44 (F := Ideal) k0_pay181 _ _ _ _ _ = _
  rw [acc_store]
  congr 1
  · funext e x
    exact vblk_ld (arg6.view.read (Elt Ideal) X6) (by omega) (rows k).2.2.2 _ e x
  · funext c
    unfold trip_k0_t1.sl.v561
    rw [View.readCov_eq_canon']
    refine (slot14 (W := View.canon (trip_k0_t1.sl.HW_arg14_16 i arg5 arg7 arg10 arg12 X5 X7 X12 k f10)) 0 _ c).trans ?_
    rw [decs_canon]
    rfl
  · funext r c
    unfold trip_k0_t1.sl.v566
    rw [View.readCov_eq_canon']
    refine (slot13 (W := View.canon (trip_k0_t1.sl.HW_arg13_16 i arg5 arg7 arg10 arg12 X5 X7 X12 k f10)) 0 _ r c).trans ?_
    rw [exps_canon]
    rfl
  · funext e c
    unfold trip_k0_t1.sl.v563
    rw [View.readCov_eq_canon', ← acc_first]
    exact congrFun (View.ld_unit_zero (X := View.canon (trip_k0_t1.sl.HW_arg11_1 (F := Ideal) i arg6 arg11 arg13 arg14 k0_pay181 X6 k f11 f13 f14)) zero2 _) (ix2 e c)

end AttnTrip

end
-- ==== Proof.AttnLoop.lean ====
/- The attention kernel's loop as a whole: what the scratch buffers hold after each pair of key blocks. -/
module

public import proofs.«01_k».proof.Proof.AttnAcc

@[expose] public section

set_option maxRecDepth 16384

noncomputable section

namespace AttnTrip

open Cert.AttnIdeal Cert.AttnIdeal.Gen AttnStage
open Idealize.ShloMosaic Idealize.ShloMosaic.TcCoe

section Sequence

variable (n : ℕ) (K : Vec Ideal S4096x128 .bf16) (V : Vec Ideal S1x16x128x256 .bf16) (Q : Vec Ideal S128x1024 .bf16) (B : Vec Ideal S1x4x256x1024 .f32)

/-- The scores of key block `j` for query block `n`. -/
def sc (j : ℕ) (r : Fin 256) (c : Fin 1024) : EReal :=
  ∑ d : Fin 128, K (ix2 (Fin.ofNat 4096 (256 * j + r.val)) d) * Q (ix2 d c) + B (ix4 0 (tile n j) r c)

/-- The running maximum before key block `j`. -/
def mx : ℕ → Fin 1024 → EReal
  | 0 => fun _ => Ideal.ofBits FTy.f32 4286578688#32
  | j + 1 => maxN (sc n K Q B j) (mx j)

/-- The exponentials of the key block before `j`; none before the first. -/
def pv : ℕ → Fin 256 → Fin 1024 → EReal
  | 0 => fun _ _ => 0
  | j + 1 => expN (sc n K Q B j) (mx n K Q B j)

/-- The decay that belongs to them. -/
def dv : ℕ → Fin 1024 → EReal
  | 0 => fun _ => 1
  | j + 1 => decN (sc n K Q B j) (mx n K Q B j)

/-- The sums before step `j`: one block behind the maximum. -/
def ac : ℕ → Fin 144 → Fin 1024 → EReal
  | 0 => fun _ _ => 0
  | j + 1 => accN (vblk V (j - 1)) (dv n K Q B j) (pv n K Q B j) (ac j)

end Sequence

variable (i : grid0.Coords)
    (arg5 : Memref sig .tc .vmem S4096x128 .bf16) (arg6 : Memref sig .tc .vmem S1x16x128x256 .bf16)
    (arg7 : Memref sig .tc .vmem S1x4x256x1024 .f32) (arg10 : Memref sig .tc .vmem S1x1024 .f32)
    (arg11 : Memref sig .tc .vmem S144x1024 .f32) (arg12 : Memref sig .tc .vmem S128x1024 .bf16)
    (arg13 : Memref sig .tc .vmem S2x256x1024 .bf16) (arg14 : Memref sig .tc .vmem S2x1x1024 .f32)
    (X5 : BufTy.Contents (Elt Ideal) arg5.view.ty) (X6 : BufTy.Contents (Elt Ideal) arg6.view.ty) (X7 : BufTy.Contents (Elt Ideal) arg7.view.ty)
    (X12 : BufTy.Contents (Elt Ideal) arg12.view.ty) (k : Fin (k0_t1_loop i).trips)
    (f10 : BufTy.Contents (Elt Ideal) arg10.view.ty) (f11 : BufTy.Contents (Elt Ideal) arg11.view.ty)
    (f13 : BufTy.Contents (Elt Ideal) arg13.view.ty) (f14 : BufTy.Contents (Elt Ideal) arg14.view.ty)

variable (c : Dev nD) (arg3 : Memref sig .tc .vmem S4x64 .f32) (harg3 : arg3.IsWhole) (arg4 : Memref sig .tc .vmem S512x128 .bf16) (harg4 : arg4.IsWhole)
    (harg5 : arg5.IsWhole) (harg6 : arg6.IsWhole) (harg7 : arg7.IsWhole)
    (arg8 : Memref sig .tc .vmem S128x512 .f32) (harg8 : arg8.IsWhole)
    (arg9 : Memref sig .tc .vmem S512x128 .bf16) (harg9 : arg9.IsWhole) (harg10 : arg10.IsWhole) (harg11 : arg11.IsWhole) (harg12 : arg12.IsWhole)
    (harg13 : arg13.IsWhole) (harg14 : arg14.IsWhole) (v1 : BitVec 32)

/-- The key block a load of the keys reads. -/
theorem kblk_ld (K : Vec Ideal S4096x128 .bf16) {off : Fin 2 → Nat} {n : Nat} (hn : n < 16) (ho : off = ![256 * n, 0]) (inb) (r : Fin 256) (d : Fin 128) :
    View.ld K (Rect.unit (s := S4096x128) off S256x128.size inb) (ix2 r d) = K (ix2 (Fin.ofNat 4096 (256 * n + r.val)) d) := by
  subst ho
  refine congrArg K (funext fun a => Fin.ext ?_)
  fin_cases a
  · show 256 * n + 1 * r.val = (256 * n + r.val) % 4096
    omega
  · show 0 + 1 * d.val = d.val
    omega

theorem sc1_eq : sc1 i arg5 arg7 arg12 X5 X7 X12 k
    = sc (i 2).val (arg5.view.read (Elt Ideal) X5) (arg12.view.read (Elt Ideal) X12) (arg7.view.read (Elt Ideal) X7) (2 * k.val) := by
  have hk := trip_le k
  have hb : (i 2).val < 8 := (i 2).isLt
  funext r c
  unfold sc1 sc score trip_k0_t1.sl.r
  refine congrArg (· + _) (Finset.sum_congr rfl fun d _ => congrArg (· * _) ?_)
  exact kblk_ld (arg5.view.read (Elt Ideal) X5) (by omega) (rows k).1 _ r d

theorem sc2_eq : sc2 i arg5 arg7 arg12 X5 X7 X12 k
    = sc (i 2).val (arg5.view.read (Elt Ideal) X5) (arg12.view.read (Elt Ideal) X12) (arg7.view.read (Elt Ideal) X7) (2 * k.val + 1) := by
  have hk := trip_le k
  have hb : (i 2).val < 8 := (i 2).isLt
  funext r c
  unfold sc2 sc score trip_k0_t1.sl.r_7
  refine congrArg (· + _) (Finset.sum_congr rfl fun d _ => congrArg (· * _) ?_)
  exact kblk_ld (arg5.view.read (Elt Ideal) X5) (by omega) (rows k).2.1 _ r d

/-- The scratch buffers hold the state before key block `j`. -/
structure Holds (j : ℕ) (g10 : BufTy.Contents (Elt Ideal) arg10.view.ty) (g11 : BufTy.Contents (Elt Ideal) arg11.view.ty)
    (g13 : BufTy.Contents (Elt Ideal) arg13.view.ty) (g14 : BufTy.Contents (Elt Ideal) arg14.view.ty) : Prop where
  max : ∀ c, arg10.view.read (Elt Ideal) g10 (ix2 0 c) = mx (i 2).val (arg5.view.read (Elt Ideal) X5) (arg12.view.read (Elt Ideal) X12) (arg7.view.read (Elt Ideal) X7) j c
  acc : ∀ e c, arg11.view.read (Elt Ideal) g11 (ix2 e c) = ac (i 2).val (arg5.view.read (Elt Ideal) X5) (arg6.view.read (Elt Ideal) X6) (arg12.view.read (Elt Ideal) X12) (arg7.view.read (Elt Ideal) X7) j e c
  exp : ∀ r c, arg13.view.read (Elt Ideal) g13 (ix3 1 r c) = pv (i 2).val (arg5.view.read (Elt Ideal) X5) (arg12.view.read (Elt Ideal) X12) (arg7.view.read (Elt Ideal) X7) j r c
  dec : ∀ c, arg14.view.read (Elt Ideal) g14 (ix3 1 0 c) = dv (i 2).val (arg5.view.read (Elt Ideal) X5) (arg12.view.read (Elt Ideal) X12) (arg7.view.read (Elt Ideal) X7) j c

/-- One trip takes the state two blocks on. -/
theorem trip_holds (h : Holds i arg5 arg6 arg7 arg10 arg11 arg12 arg13 arg14 X5 X6 X7 X12 (2 * k.val) f10 f11 f13 f14) :
    Holds i arg5 arg6 arg7 arg10 arg11 arg12 arg13 arg14 X5 X6 X7 X12 (2 * (k.val + 1))
      (arg10.view.writes (Elt Ideal) f10 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).1)
      (arg11.view.writes (Elt Ideal) f11 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.1)
      (arg13.view.writes (Elt Ideal) f13 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.2.1)
      (arg14.view.writes (Elt Ideal) f14 (stores i arg5 arg6 arg7 arg10 arg11 arg12 arg13 arg14 X5 X6 X7 X12 k f10 f11 f13 f14 c arg3 harg3 arg4 harg4 harg5 harg6 harg7 arg8 harg8 arg9 harg9 harg10 harg11 harg12 harg13 harg14 v1).2.2.2) := by
  have e0 : m0 arg10 f10 = mx (i 2).val (arg5.view.read (Elt Ideal) X5) (arg12.view.read (Elt Ideal) X12) (arg7.view.read (Elt Ideal) X7) (2 * k.val) :=
    funext h.max
  have e1 : m1 i arg5 arg7 arg10 arg12 X5 X7 X12 k f10 = mx (i 2).val (arg5.view.read (Elt Ideal) X5) (arg12.view.read (Elt Ideal) X12) (arg7.view.read (Elt Ideal) X7) (2 * k.val + 1) := by
    unfold m1
    rw [sc1_eq, e0, mx]
  have ea : acc1 i arg6 arg11 arg13 arg14 X6 k f11 f13 f14 = ac (i 2).val (arg5.view.read (Elt Ideal) X5) (arg6.view.read (Elt Ideal) X6) (arg12.view.read (Elt Ideal) X12) (arg7.view.read (Elt Ideal) X7) (2 * k.val + 1) := by
    unfold acc1
    rw [ac, ← funext h.dec, ← funext fun r => funext (h.exp r), ← funext fun e => funext (h.acc e)]
  refine ⟨fun c' => ?_, fun e c' => ?_, fun r c' => ?_, fun c' => ?_⟩
  · rw [max_after, sc2_eq, e1]
    rfl
  · rw [acc_after, sc1_eq, e0, ea]
    rfl
  · rw [exps_after, exps, if_neg (by show ¬ (1 = 0); decide), sc2_eq, e1]
    rfl
  · rw [decs_after, decs, if_neg (by show ¬ (1 = 0); decide), sc2_eq, e1]
    rfl

/-- The trips before `k`, and the state before key block `2k`. -/
theorem loop_holds (G10 : BufTy.Contents (Elt Ideal) arg10.view.ty) (G11 : BufTy.Contents (Elt Ideal) arg11.view.ty)
    (G13 : BufTy.Contents (Elt Ideal) arg13.view.ty) (G14 : BufTy.Contents (Elt Ideal) arg14.view.ty)
    (h : Holds i arg5 arg6 arg7 arg10 arg11 arg12 arg13 arg14 X5 X6 X7 X12 0 G10 G11 G13 G14) (k : ℕ) (hk : k ≤ (k0_t1_loop i).trips) :
    Holds i arg5 arg6 arg7 arg10 arg11 arg12 arg13 arg14 X5 X6 X7 X12 (2 * k)
      (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 G10 G11 G13 G14 k).1)
      (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 G10 G11 G13 G14 k).2.1)
      (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 G10 G11 G13 G14 k).2.2.1)
      (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 G10 G11 G13 G14 k).2.2.2) := by
  induction k with
  | zero => exact h
  | succ k ih =>
    have hs := pb_k0_t1_succ (F := Ideal) Variants.none c none i arg3 harg3 arg4 harg4 arg5 harg5 arg6 harg6 arg7 harg7 arg8 harg8 arg9 harg9 arg10 harg10 arg11 harg11 arg12 harg12 arg13 harg13 arg14 harg14 v1 k0_pay181 X5 X6 X7 X12 G10 G11 G13 G14 ⟨k, hk⟩
    rw [hs]
    dsimp only
    rw [View.writes_append, View.writes_append, View.writes_append, View.writes_append]
    exact trip_holds i arg5 arg6 arg7 arg10 arg11 arg12 arg13 arg14 X5 X6 X7 X12 ⟨k, hk⟩ _ _ _ _ c arg3 harg3 arg4 harg4 harg5 harg6 harg7 arg8 harg8 arg9 harg9 harg10 harg11 harg12 harg13 harg14 v1 (ih (by omega))

end AttnTrip

end
-- ==== Proof.AttnState.lean ====
/- The scratch buffers of the attention kernel before and after its loop, and the output block of a grid point. -/
module

public import proofs.«01_k».proof.Proof.AttnLoop

@[expose] public section

set_option maxRecDepth 16384

noncomputable section

namespace AttnBody

open Cert.AttnIdeal Cert.AttnIdeal.Gen AttnTrip AttnStage
open Idealize.ShloMosaic Idealize.ShloMosaic.TcCoe

/-- The query block as the loop reads it: transposed, the two halves of the heads in separate rows. -/
def qq (x1 : Vec Ideal S512x128 .bf16) : Vec Ideal S128x1024 .bf16 := k0_pay178 x1

/-- The sums at the end of a grid point. -/
def sums (i : grid0.Coords) (x1 : Vec Ideal S512x128 .bf16) (x2 : Vec Ideal S4096x128 .bf16) (x3 : Vec Ideal S1x16x128x256 .bf16)
    (x4 : Vec Ideal S1x4x256x1024 .f32) : Vec Ideal S144x1024 .f32 :=
  fun y => ac (i 2).val x2 x3 (qq x1) x4 (2 * (i 2).val + 3) (y 0) (y 1)

/-- The output block of a grid point. -/
def outBlk (i : grid0.Coords) (x0 : Vec Ideal S4x64 .f32) (x1 : Vec Ideal S512x128 .bf16) (x2 : Vec Ideal S4096x128 .bf16) (x3 : Vec Ideal S1x16x128x256 .bf16)
    (x4 : Vec Ideal S1x4x256x1024 .f32) (x5 : Vec Ideal S128x512 .f32) : Vec Ideal S512x128 .bf16 :=
  k0_pay1 (k0_pay191 x0 (View.ld (sums i x1 x2 x3 x4) (Rect.unit ![0, 0] S128x1024.size inb_S144x1024_S128x1024_0_0))
      (View.ld (sums i x1 x2 x3 x4) (Rect.unit ![128, 0] S1x1024.size inb_S144x1024_S1x1024_128_0)))
    (k0_pay192 x0 (View.ld (sums i x1 x2 x3 x4) (Rect.unit ![0, 0] S128x1024.size inb_S144x1024_S128x1024_0_0))
      (View.ld (sums i x1 x2 x3 x4) (Rect.unit ![128, 0] S1x1024.size inb_S144x1024_S1x1024_128_0)))
    (FloatOps.ofBits FTy.f32 1124073472#32) x5

/-- A buffer after one store of all of it. -/
theorem whole_read {S : Shape} {e : EltTy} {sp : Space} (v : Memref sig .tc sp S e) (f : BufTy.Contents (Elt Ideal) v.view.ty) {off : Fin S.rank → Nat}
    (hz : off = fun _ => 0) (inb) (w : S.Idx → Elt Ideal e) :
    v.view.read (Elt Ideal) (v.view.writes (Elt Ideal) f [⟨Rect.unit off S.size inb, w⟩]) = w := by
  subst hz
  rw [View.read_writes_eq_canon, View.canon_unit_zero rfl]
  intro y
  refine ⟨_, List.mem_cons_self, ?_⟩
  rw [Rect.mem_set_unit]
  exact fun a => ⟨Nat.zero_le _, by have := (y a).isLt; omega⟩

/-- The rows of slot 1 of the exponentials. -/
theorem in13 (r : Fin 256) (c : Fin 1024) : ix3 1 r c ∈ (Rect.unit (s := S2x256x1024) ![1, 0, 0] S1x256x1024.size inb_S2x256x1024_S1x256x1024_1_0_0).set := by
  rw [Rect.mem_set_unit]; intro a; fin_cases a
  · exact ⟨by show 1 ≤ 1; omega, by show 1 < 1 + 1; omega⟩
  · exact ⟨Nat.zero_le _, by show r.val < 0 + 256; omega⟩
  · exact ⟨Nat.zero_le _, by show c.val < 0 + 1024; omega⟩

/-- The row of slot 1 of the decays. -/
theorem in14 (c : Fin 1024) : ix3 1 0 c ∈ (Rect.unit (s := S2x1x1024) ![1, 0, 0] S1x1x1024.size inb_S2x1x1024_S1x1x1024_1_0_0).set := by
  rw [Rect.mem_set_unit]; intro a; fin_cases a
  · exact ⟨by show 1 ≤ 1; omega, by show 1 < 1 + 1; omega⟩
  · exact ⟨Nat.zero_le _, by show 0 < 0 + 1; omega⟩
  · exact ⟨Nat.zero_le _, by show c.val < 0 + 1024; omega⟩

/-- All of the sums. -/
theorem in11 (e : Fin 144) (c : Fin 1024) : ix2 e c ∈ (Rect.unit (s := S144x1024) ![0, 0] S144x1024.size inb_S144x1024_S144x1024_0_0).set := by
  rw [Rect.mem_set_unit]; intro a; fin_cases a
  · exact ⟨Nat.zero_le _, by show e.val < 0 + 144; omega⟩
  · exact ⟨Nat.zero_le _, by show c.val < 0 + 1024; omega⟩

/-- What a list of stores shows where its earliest store lies is what the buffer then holds. -/
theorem canon_state {S : Shape} {e : EltTy} {sp : Space} (v : Memref sig .tc sp S e) (f : BufTy.Contents (Elt Ideal) v.view.ty)
    (L : List (View.Piece (Elt Ideal) S e)) (p : View.Piece (Elt Ideal) S e) (y : S.Idx) (h : y ∈ p.1.set) :
    View.canon (L ++ [p]) y = v.view.read (Elt Ideal) (v.view.writes (Elt Ideal) (v.view.writes (Elt Ideal) f [p]) L) y := by
  rw [← View.writes_append, View.read_writes_apply_eq_canon _ _ _ _ ⟨p, by simp, h⟩]

/-- The store of slot 1 of the decays before the loop. -/
def first14 : View.Piece (Elt Ideal) S2x1x1024 .f32 := ⟨Rect.unit ![1, 0, 0] S1x1x1024.size inb_S2x1x1024_S1x1x1024_1_0_0, k0_pay183 (F := Ideal)⟩

/-- The store of slot 1 of the exponentials before the loop. -/
def first13 : View.Piece (Elt Ideal) S2x256x1024 .bf16 := ⟨Rect.unit ![1, 0, 0] S1x256x1024.size inb_S2x256x1024_S1x256x1024_1_0_0, k0_pay182 (F := Ideal)⟩

/-- The store of the sums before the loop. -/
def first11 : View.Piece (Elt Ideal) S144x1024 .f32 := ⟨Rect.unit ![0, 0] S144x1024.size inb_S144x1024_S144x1024_0_0, k0_pay180 (F := Ideal)⟩

theorem state14 (v : Memref sig .tc .vmem S2x1x1024 .f32) (f : BufTy.Contents (Elt Ideal) v.view.ty) (L : List (View.Piece (Elt Ideal) S2x1x1024 .f32)) (c : Fin 1024) :
    v.view.readCov (L ++ [first14]) (Rect.unit (s := S2x1x1024) ![1, 0, 0] S1x1x1024.size inb_S2x1x1024_S1x1x1024_1_0_0).toLoadRect (ix3 0 0 c)
      = v.view.read (Elt Ideal) (v.view.writes (Elt Ideal) (v.view.writes (Elt Ideal) f [first14]) L) (ix3 1 0 c) := by
  rw [View.readCov_eq_canon', ← canon_state v f L first14 (ix3 1 0 c) (in14 c)]
  generalize View.canon (L ++ [first14]) = W
  exact slot14 (W := W) 1 _ c

theorem state13 (v : Memref sig .tc .vmem S2x256x1024 .bf16) (f : BufTy.Contents (Elt Ideal) v.view.ty) (L : List (View.Piece (Elt Ideal) S2x256x1024 .bf16)) (r : Fin 256) (c : Fin 1024) :
    v.view.readCov (L ++ [first13]) (Rect.unit (s := S2x256x1024) ![1, 0, 0] S1x256x1024.size inb_S2x256x1024_S1x256x1024_1_0_0).toLoadRect (ix3 0 r c)
      = v.view.read (Elt Ideal) (v.view.writes (Elt Ideal) (v.view.writes (Elt Ideal) f [first13]) L) (ix3 1 r c) := by
  rw [View.readCov_eq_canon', ← canon_state v f L first13 (ix3 1 r c) (in13 r c)]
  generalize View.canon (L ++ [first13]) = W
  exact slot13 (W := W) 1 _ r c

theorem state11 (v : Memref sig .tc .vmem S144x1024 .f32) (f : BufTy.Contents (Elt Ideal) v.view.ty) (L : List (View.Piece (Elt Ideal) S144x1024 .f32)) (e : Fin 144) (c : Fin 1024) :
    v.view.readCov (L ++ [first11]) (Rect.unit (s := S144x1024) ![0, 0] S144x1024.size inb_S144x1024_S144x1024_0_0).toLoadRect (ix2 e c)
      = v.view.read (Elt Ideal) (v.view.writes (Elt Ideal) (v.view.writes (Elt Ideal) f [first11]) L) (ix2 e c) := by
  rw [View.readCov_eq_canon', ← canon_state v f L first11 (ix2 e c) (in11 e c)]
  generalize View.canon (L ++ [first11]) = W
  exact congrFun (View.ld_unit_zero (X := W) zero2 _) (ix2 e c)

/-- The last accumulate step is the loop's, cut differently. -/
theorem last_pay (vb : Vec Ideal S1x1x128x256 .bf16) (a : Vec Ideal S1x1x1024 .f32) (acc : Vec Ideal S144x1024 .f32) (p : Vec Ideal S1x256x1024 .bf16) :
    k0_pay190 (F := Ideal) (k0_pay188 k0_pay181 vb) (k0_pay189 a) acc p = k0_pay44 k0_pay181 vb a acc p := rfl

/-- The state before the first key block. -/
theorem starts (i : grid0.Coords)
    (arg5 : Memref sig .tc .vmem S4096x128 .bf16) (arg6 : Memref sig .tc .vmem S1x16x128x256 .bf16)
    (arg7 : Memref sig .tc .vmem S1x4x256x1024 .f32) (arg10 : Memref sig .tc .vmem S1x1024 .f32)
    (arg11 : Memref sig .tc .vmem S144x1024 .f32) (arg12 : Memref sig .tc .vmem S128x1024 .bf16)
    (arg13 : Memref sig .tc .vmem S2x256x1024 .bf16) (arg14 : Memref sig .tc .vmem S2x1x1024 .f32)
    (X5 : BufTy.Contents (Elt Ideal) arg5.view.ty) (X6 : BufTy.Contents (Elt Ideal) arg6.view.ty) (X7 : BufTy.Contents (Elt Ideal) arg7.view.ty)
    (X12 : BufTy.Contents (Elt Ideal) arg12.view.ty) (j10) (j11) (j13) (j14) :
    Holds i arg5 arg6 arg7 arg10 arg11 arg12 arg13 arg14 X5 X6 X7 X12 0
      (arg10.view.writes (Elt Ideal) j10 [⟨Rect.unit ![0, 0] S1x1024.size inb_S1x1024_S1x1024_0_0, k0_pay179 (F := Ideal)⟩])
      (arg11.view.writes (Elt Ideal) j11 [⟨Rect.unit ![0, 0] S144x1024.size inb_S144x1024_S144x1024_0_0, k0_pay180 (F := Ideal)⟩])
      (arg13.view.writes (Elt Ideal) j13 [⟨Rect.unit ![1, 0, 0] S1x256x1024.size inb_S2x256x1024_S1x256x1024_1_0_0, k0_pay182 (F := Ideal)⟩])
      (arg14.view.writes (Elt Ideal) j14 [⟨Rect.unit ![1, 0, 0] S1x1x1024.size inb_S2x1x1024_S1x1x1024_1_0_0, k0_pay183 (F := Ideal)⟩]) := by
  refine ⟨fun c => ?_, fun e c => ?_, fun r c => ?_, fun c => ?_⟩
  · rw [whole_read arg10 _ zero2]
    pointwise [k0_pay179]
    rfl
  · rw [whole_read arg11 _ zero2]
    pointwise [k0_pay180]
    rfl
  · show arg13.view.read (Elt Ideal) (arg13.view.writes (Elt Ideal) j13 [first13]) (ix3 1 r c) = 0
    rw [View.read_writes_apply_eq_canon _ _ _ _ ⟨first13, List.mem_cons_self, in13 r c⟩]
    refine View.canon_apply_of_pieces (Val := Elt Ideal) (S := S2x256x1024) (e := .bf16) (G := fun _ => (0 : EReal)) [first13] ?_ _ ⟨first13, List.mem_cons_self, in13 r c⟩
    intro p hp x
    obtain rfl := List.mem_singleton.mp hp
    revert x
    intro (x : S1x256x1024.Idx)
    show k0_pay182 (F := Ideal) x = 0
    idx_vars x
    pointwise [k0_pay182]
  · show arg14.view.read (Elt Ideal) (arg14.view.writes (Elt Ideal) j14 [first14]) (ix3 1 0 c) = 1
    rw [View.read_writes_apply_eq_canon _ _ _ _ ⟨first14, List.mem_cons_self, in14 c⟩]
    refine View.canon_apply_of_pieces (Val := Elt Ideal) (S := S2x1x1024) (e := .f32) (G := fun _ => (1 : EReal)) [first14] ?_ _ ⟨first14, List.mem_cons_self, in14 c⟩
    intro p hp x
    obtain rfl := List.mem_singleton.mp hp
    revert x
    intro (x : S1x1x1024.Idx)
    show k0_pay183 (F := Ideal) x = 1
    idx_vars x
    pointwise [k0_pay183]

end AttnBody

end
-- ==== Proof.AttnFlash.lean ====
/- The running sums of the loop in closed form: each is the sum of the values against the plain powers of two of the
   scores, divided by the power of two of the running maximum. -/
module

public import proofs.«01_k».proof.Proof.AttnState

@[expose] public section

set_option maxRecDepth 16384

noncomputable section

namespace AttnFlash

open Cert.AttnIdeal Cert.AttnIdeal.Gen AttnTrip AttnStage
open Idealize.ShloMosaic Idealize.ShloMosaic.TcCoe

/-- The weight of a score: two to its power, zero for a masked one. -/
def wt (s : EReal) : ℝ := (Ideal.exp2 s).toReal

theorem wt_bot : wt ⊥ = 0 := by simp [wt]

theorem wt_coe (r : ℝ) : wt (r : EReal) = 2 ^ r := by simp [wt]

/-- A weight against a maximum is the weight times a power of the maximum. -/
theorem exp2_sub {s : EReal} (hs : s ≠ ⊤) (m : ℝ) : Ideal.exp2 (s - (m : EReal)) = ((wt s * 2 ^ (-m) : ℝ) : EReal) := by
  induction s using EReal.rec with
  | bot => rw [EReal.bot_sub, Ideal.exp2_bot, wt_bot, zero_mul, EReal.coe_zero]
  | coe r =>
    rw [← EReal.coe_sub, Ideal.exp2_coe, wt_coe, sub_eq_add_neg, ← Real.rpow_add (by norm_num)]
    rfl
  | top => exact absurd rfl hs

theorem neg_inf : Ideal.ofBits FTy.f32 4286578688#32 = (⊥ : EReal) := by simp [Ideal.ofBits, Ideal.ieee]

/-- The sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Columns

variable (n : ℕ) (K : Vec Ideal S4096x128 .bf16) (V : Vec Ideal S1x16x128x256 .bf16) (Q : Vec Ideal S128x1024 .bf16) (B : Vec Ideal S1x4x256x1024 .f32)
  (c : Fin 1024)

theorem mx_ne_top (hS : ∀ j r, sc n K Q B j r c ≠ ⊤) : ∀ j, mx n K Q B j c ≠ ⊤
  | 0 => by show Ideal.ofBits FTy.f32 4286578688#32 ≠ ⊤; rw [neg_inf]; exact bot_ne_top
  | j + 1 => by
    show max (mx n K Q B j c) (Finset.fold max (Ideal.ofBits FTy.f32 4286578688#32) (fun r => sc n K Q B j r c) Finset.univ) ≠ ⊤
    rw [neg_inf]
    refine ne_of_lt (max_lt (lt_top_iff_ne_top.2 (mx_ne_top hS j)) ?_)
    rw [Finset.fold_max_lt]
    exact ⟨bot_lt_top, fun r _ => lt_top_iff_ne_top.2 (hS j r)⟩

theorem mx_ne_bot (h0 : ∃ r, sc n K Q B 0 r c ≠ ⊥) : ∀ j, mx n K Q B (j + 1) c ≠ ⊥
  | 0 => by
    obtain ⟨r, hr⟩ := h0
    show max (mx n K Q B 0 c) (Finset.fold max (Ideal.ofBits FTy.f32 4286578688#32) (fun r => sc n K Q B 0 r c) Finset.univ) ≠ ⊥
    refine ne_bot_of_le_ne_bot hr (le_max_of_le_right ?_)
    rw [Finset.le_fold_max]
    exact Or.inr ⟨r, Finset.mem_univ r, le_rfl⟩
  | j + 1 => ne_bot_of_le_ne_bot (mx_ne_bot h0 j) (le_max_left _ _)

/-- After the first block the maximum is a real number. -/
theorem mx_real (hS : ∀ j r, sc n K Q B j r c ≠ ⊤) (h0 : ∃ r, sc n K Q B 0 r c ≠ ⊥) (j : ℕ) : ∃ m : ℝ, mx n K Q B (j + 1) c = (m : EReal) :=
  ⟨_, (EReal.coe_toReal (mx_ne_top n K Q B c hS _) (mx_ne_bot n K Q B c h0 j)).symm⟩

/-- The sums after a block, relative to the maximum. -/
theorem ac_eq (e : Fin 144) (v : ℕ → Fin 256 → ℝ) (hv : ∀ j x, (if h : e.val < 128 then vblk V j ⟨e.val, h⟩ x else 1) = ((v j x : ℝ) : EReal))
    (hS : ∀ j r, sc n K Q B j r c ≠ ⊤) (h0 : ∃ r, sc n K Q B 0 r c ≠ ⊥) (j : ℕ) : ∀ m : ℝ, mx n K Q B (j + 1) c = (m : EReal) →
    ac n K V Q B (j + 2) e c = (((∑ i ∈ Finset.range (j + 1), ∑ x, v i x * wt (sc n K Q B i x c)) * 2 ^ (-m) : ℝ) : EReal) := by
  have hp : ∀ j x (m : ℝ), mx n K Q B (j + 1) c = (m : EReal) → pv n K Q B (j + 1) x c = ((wt (sc n K Q B j x c) * 2 ^ (-m) : ℝ) : EReal) := fun j x m hm => by
    show Ideal.exp2 (sc n K Q B j x c - mx n K Q B (j + 1) c) = _
    rw [hm, exp2_sub (hS j x)]
  have hstep : ∀ j (m : ℝ), mx n K Q B (j + 1) c = (m : EReal) →
      (∑ x : Fin 256, (if h : e.val < 128 then vblk V j ⟨e.val, h⟩ x else 1) * pv n K Q B (j + 1) x c)
        = (((∑ x, v j x * wt (sc n K Q B j x c)) * 2 ^ (-m) : ℝ) : EReal) := fun j m hm => by
    rw [Finset.sum_mul, coe_sum]
    refine Finset.sum_congr rfl fun x _ => ?_
    rw [hv, hp j x m hm, ← EReal.coe_mul, mul_assoc]
  have hone : ac n K V Q B 1 e c = 0 := by
    show (1 : EReal) * 0 + ∑ x : Fin 256, (if h : e.val < 128 then vblk V 0 ⟨e.val, h⟩ x else 1) * (0 : EReal) = 0
    simp
  induction j with
  | zero =>
    intro m hm
    show dv n K Q B 1 c * ac n K V Q B 1 e c + ∑ x : Fin 256, (if h : e.val < 128 then vblk V 0 ⟨e.val, h⟩ x else 1) * pv n K Q B 1 x c = _
    rw [hone, mul_zero, zero_add, hstep 0 m hm, Finset.sum_range_one]
  | succ j ih =>
    intro m hm
    obtain ⟨m', hm'⟩ := mx_real n K Q B c hS h0 j
    show dv n K Q B (j + 2) c * ac n K V Q B (j + 2) e c + ∑ x : Fin 256, (if h : e.val < 128 then vblk V (j + 1) ⟨e.val, h⟩ x else 1) * pv n K Q B (j + 2) x c = _
    rw [ih m' hm', hstep (j + 1) m hm, show dv n K Q B (j + 2) c = ((2 ^ (m' - m) : ℝ) : EReal) from ?_, ← EReal.coe_mul, ← EReal.coe_add,
      Finset.sum_range_succ _ (j + 1)]
    · congr 1
      rw [sub_eq_add_neg, Real.rpow_add (by norm_num)]
      have h : (2 : ℝ) ^ m' * 2 ^ (-m') = 1 := by rw [← Real.rpow_add (by norm_num)]; simp
      linear_combination (∑ i ∈ Finset.range (j + 1), ∑ x, v i x * wt (sc n K Q B i x c)) * 2 ^ (-m) * h
    · show Ideal.exp2 (mx n K Q B (j + 1) c - mx n K Q B (j + 2) c) = _
      rw [hm', hm, exp2_sub (EReal.coe_ne_top _), wt_coe, sub_eq_add_neg, Real.rpow_add (by norm_num)]

/-- A sum divided by the row of ones: the maximum is gone. -/
theorem ratio (e : Fin 144) (v : ℕ → Fin 256 → ℝ) (hv : ∀ j x, (if h : e.val < 128 then vblk V j ⟨e.val, h⟩ x else 1) = ((v j x : ℝ) : EReal))
    (hS : ∀ j r, sc n K Q B j r c ≠ ⊤) (h0 : ∃ r, sc n K Q B 0 r c ≠ ⊥) (j : ℕ) :
    ac n K V Q B (j + 2) e c * Ideal.div 1 (ac n K V Q B (j + 2) 128 c)
      = (((∑ i ∈ Finset.range (j + 1), ∑ x, v i x * wt (sc n K Q B i x c)) / (∑ i ∈ Finset.range (j + 1), ∑ x, wt (sc n K Q B i x c)) : ℝ) : EReal) := by
  obtain ⟨m, hm⟩ := mx_real n K Q B c hS h0 j
  rw [ac_eq n K V Q B c e v hv hS h0 j m hm, ac_eq n K V Q B c 128 (fun _ _ => 1) (fun _ _ => rfl) hS h0 j m hm]
  simp only [one_mul]
  have hw : ∀ s : EReal, 0 ≤ wt s := fun s => by
    induction s using EReal.rec with
    | bot => exact wt_bot.ge
    | coe r => rw [wt_coe]; positivity
    | top => simp [wt]
  have hz : 0 < ∑ i ∈ Finset.range (j + 1), ∑ x, wt (sc n K Q B i x c) := by
    obtain ⟨r, hr⟩ := h0
    refine Finset.sum_pos' (fun i _ => Finset.sum_nonneg fun x _ => hw _) ⟨0, by simp, Finset.sum_pos' (fun x _ => hw _) ⟨r, Finset.mem_univ r, ?_⟩⟩
    rw [← EReal.coe_toReal (hS 0 r) hr, wt_coe]
    positivity
  have hm0 : (0 : ℝ) < 2 ^ (-m) := by positivity
  rw [Ideal.div, if_neg (by exact_mod_cast (mul_pos hz hm0).ne'), one_mul, ← EReal.coe_inv, ← EReal.coe_mul]
  congr 1
  field_simp

end Columns

end AttnFlash

end
-- ==== Proof.AttnSoft.lean ====
/- The softmax of a causal row, as a ratio of sums of powers of two. -/
module

public import proofs.«01_k».proof.Proof.AttnFlash
public import Idealize.ShloMosaic.Lib.Claim

@[expose] public section

noncomputable section

namespace AttnSoft
open Idealize.ShloMosaic Idealize.ShloMosaic.TcCoe AttnFlash

/-- The literal two. -/
theorem lit2 : Ideal.ofBits FTy.f32 1073741824#32 = ((2 : ℝ) : EReal) := by
  simp [Ideal.ofBits, Ideal.ieee, -EReal.coe_mul]; norm_num

/-- Its logarithm. -/
theorem log2 : Ideal.log (Ideal.ofBits FTy.f32 1073741824#32) = ((Real.log 2 : ℝ) : EReal) := by
  rw [lit2, Ideal.log_coe, if_neg (by norm_num)]

theorem log2_pos : 0 < Real.log 2 := Real.log_pos (by norm_num)

/-- The weight of a key at or before the query; a later key weighs nothing. -/
def wgt (p : Prop) [Decidable p] (a t : ℝ) : ℝ := if p then 2 ^ (a + t / Real.log 2) else 0

/-- The power of two written as an exponential. -/
theorem two_pow (a t : ℝ) : (2 : ℝ) ^ (a + t / Real.log 2) = Real.exp (a * Real.log 2 + t) := by
  rw [Real.rpow_def_of_pos (by norm_num)]
  congr 1
  have := log2_pos.ne'
  field_simp

section Row
variable {N : ℕ} (q : Fin N) (a t : Fin N → ℝ) (s : Fin N → EReal)
  (hs : ∀ k, s k = if k ≤ q then (a k : EReal) * Ideal.log (Ideal.ofBits FTy.f32 1073741824#32) + (t k : EReal) else Ideal.ofBits FTy.f32 4286578688#32)
include hs

/-- A score at or before the query is real. -/
theorem score_real (k : Fin N) : s k = if k ≤ q then ((a k * Real.log 2 + t k : ℝ) : EReal) else ⊥ := by
  rw [hs, log2, neg_inf, EReal.coe_add, EReal.coe_mul]

/-- The greatest score is real. -/
theorem max_real (M : EReal) (hM : M = Finset.fold max (Ideal.ofBits FTy.f32 4286578688#32) s Finset.univ) :
    ∃ m : ℝ, max (Ideal.ofBits FTy.f32 4286578688#32) M = (m : EReal) := by
  refine ⟨_, (EReal.coe_toReal ?_ ?_).symm⟩
  · rw [hM, neg_inf]
    refine ne_of_lt (max_lt bot_lt_top ?_)
    rw [Finset.fold_max_lt]
    refine ⟨bot_lt_top, fun k _ => ?_⟩
    rw [score_real q a t s hs k]
    split
    · exact EReal.coe_lt_top _
    · exact bot_lt_top
  · rw [hM, neg_inf]
    refine ne_bot_of_le_ne_bot (b := s q) ?_ (le_max_of_le_right ?_)
    · rw [score_real q a t s hs q, if_pos le_rfl]
      exact EReal.coe_ne_bot _
    · rw [Finset.le_fold_max]
      exact Or.inr ⟨q, Finset.mem_univ q, le_rfl⟩

/-- The exponential of a score against a real is the weight times a factor of the row. -/
theorem exp_sub (m : ℝ) (k : Fin N) : Ideal.exp (s k - (m : EReal)) = ((wgt (k ≤ q) (a k) (t k) * Real.exp (-m) : ℝ) : EReal) := by
  rw [score_real q a t s hs k]
  unfold wgt
  by_cases h : k ≤ q
  · rw [if_pos h, if_pos h, ← EReal.coe_sub, Ideal.exp_coe, two_pow, ← Real.exp_add, sub_eq_add_neg]
  · rw [if_neg h, if_neg h, EReal.bot_sub, Ideal.exp_bot, zero_mul, EReal.coe_zero]

omit hs in
/-- The weights of a row have a positive sum. -/
theorem wgt_pos : 0 < ∑ k, wgt (k ≤ q) (a k) (t k) :=
  Finset.sum_pos' (fun k _ => by unfold wgt; split <;> positivity) ⟨q, Finset.mem_univ q, by unfold wgt; rw [if_pos le_rfl]; positivity⟩

/-- The softmax of a row: each weight over the sum of the weights. -/
theorem soft (M : EReal) (hM : M = Finset.fold max (Ideal.ofBits FTy.f32 4286578688#32) s Finset.univ) (k : Fin N) :
    Ideal.div (Ideal.exp (s k - max (Ideal.ofBits FTy.f32 4286578688#32) M))
        (∑ x, Ideal.exp (s x - max (Ideal.ofBits FTy.f32 4286578688#32) M))
      = ((wgt (k ≤ q) (a k) (t k) / ∑ x, wgt (x ≤ q) (a x) (t x) : ℝ) : EReal) := by
  obtain ⟨m, hm⟩ := max_real q a t s hs M hM
  simp only [hm, exp_sub q a t s hs m]
  have hp := (wgt_pos q a t).ne'
  have he := (Real.exp_pos (-m)).ne'
  rw [← coe_sum, ← Finset.sum_mul, Ideal.div_coe (mul_ne_zero hp he), ← EReal.coe_mul]
  congr 1
  field_simp

end Row

/-- The difference of two attentions applied to the values: a difference of ratios. -/
theorem differ {N : ℕ} (w0 w1 v : Fin N → ℝ) (L : ℝ) (f g u : Fin N → EReal) (lam : EReal) (hl : lam = (L : EReal))
    (hf : ∀ k, f k = ((w0 k / ∑ x, w0 x : ℝ) : EReal)) (hg : ∀ k, g k = ((w1 k / ∑ x, w1 x : ℝ) : EReal)) (hu : ∀ k, u k = (v k : EReal)) :
    ∑ k, (f k - lam * g k) * u k = (((∑ k, v k * w0 k) / (∑ k, w0 k) - L * ((∑ k, v k * w1 k) / ∑ k, w1 k) : ℝ) : EReal) := by
  simp only [hf, hg, hu, hl, ← EReal.coe_mul, ← EReal.coe_sub, ← coe_sum]
  congr 1
  rw [Finset.sum_div, Finset.sum_div, Finset.mul_sum, ← Finset.sum_sub_distrib]
  exact Finset.sum_congr rfl fun k _ => by ring

/-- A sum over positions taken block by block. -/
theorem blocks (F : ℕ → ℝ) : ∀ m : ℕ, ∑ k ∈ Finset.range (256 * m), F k = ∑ i ∈ Finset.range m, ∑ x : Fin 256, F (256 * i + x.val)
  | 0 => rfl
  | m + 1 => by
    rw [Finset.sum_range_succ, ← blocks F m, Nat.mul_succ, Finset.sum_range_add, Finset.sum_range (fun x => F (256 * m + x))]

/-- A sum over all positions that vanishes from some block on. -/
theorem regroup (F : ℕ → ℝ) (m : ℕ) (hm : m ≤ 16) (h0 : ∀ k, 256 * m ≤ k → F k = 0) :
    ∑ k : Fin 4096, F k.val = ∑ i ∈ Finset.range m, ∑ x : Fin 256, F (256 * i + x.val) := by
  rw [← blocks, ← Finset.sum_range (n := 4096) F]
  refine (Finset.sum_subset (fun k hk => ?_) fun k _ hk => h0 k ?_).symm
  · rw [Finset.mem_range] at *; omega
  · rw [Finset.mem_range] at hk; omega

end AttnSoft
-- ==== Proof.AttnBucket.lean ====
/- The bucket of a distance: the row of the bias table that a query and a key so far apart read. -/
module

public import Idealize.ShloMosaic.Lib.Pointwise
public import Idealize.ShloMosaic.Lib.Claim

@[expose] public section

noncomputable section

namespace AttnBucket
open Idealize.ShloMosaic

/-- The bucket of distance `t` as both programs compute it: the distance itself below 16, then a logarithm, at most 31. -/
def bkt (t : ℕ) : BitVec 32 :=
  Scalar.select (IntOp.cmpi CmpIPredicate.slt (BitVec.ofNat 32 t) 16#32) (BitVec.ofNat 32 t)
    (IntOp.minsi
      (IntOp.addi (16#32)
        (FloatOps.fptosi (F := Ideal) (φ := .f32) 32
          (Ideal.div
              (Ideal.log
                (Ideal.div (FloatOps.sitofp (F := Ideal) FTy.f32 (IntOp.maxsi (BitVec.ofNat 32 t) 16#32))
                  (Ideal.ofBits FTy.f32 1098907648#32)))
              (Ideal.ofBits FTy.f32 1074075026#32) *
            Ideal.ofBits FTy.f32 1098907648#32)))
      31#32)

/-- The table row a bucket names: wrapped if negative, clamped into the table. -/
def rowOf (b : BitVec 32) : Fin 32 :=
  ⟨min (BitVec.toInt (Scalar.select (IntOp.cmpi CmpIPredicate.slt b 0#32) (IntOp.addi b 32#32) b)).toNat 31, by omega⟩

/-- The table row of distance `t`. -/
def row (t : ℕ) : Fin 32 := rowOf (bkt t)

/-- The literal sixteen. -/
theorem lit16 : Ideal.ofBits FTy.f32 1098907648#32 = ((16 : ℝ) : EReal) := by
  simp [Ideal.ofBits, Ideal.ieee, -EReal.coe_mul]; norm_num

/-- The literal next to the logarithm of eight. -/
theorem litlog : ∃ c : ℝ, Ideal.ofBits FTy.f32 1074075026#32 = (c : EReal) ∧ 2 < c ∧ c < 2.08 := by
  refine ⟨_, by simp [Ideal.ofBits, Ideal.ieee, -EReal.coe_mul]; rfl, ?_, ?_⟩ <;> norm_num

/-- Small naturals as signed 32-bit words. -/
theorem toInt_small : ∀ t : Fin 4096, (BitVec.ofNat 32 t.val).toInt = t.val := by decide +kernel

/-- Above sixteen the maximum with sixteen changes nothing. -/
theorem max_small : ∀ t : Fin 4096, 256 ≤ t.val → IntOp.maxsi (BitVec.ofNat 32 t.val) 16#32 = BitVec.ofNat 32 t.val := by
  decide +kernel

/-- Above sixteen the comparison with sixteen fails. -/
theorem slt_small : ∀ t : Fin 4096, 256 ≤ t.val → IntOp.cmpi CmpIPredicate.slt (BitVec.ofNat 32 t.val) 16#32 = 0#1 := by
  decide +kernel

/-- Sixteen and at least fifteen more is cut to thirty-one. -/
theorem min_small : ∀ n : Fin 100, 15 ≤ n.val → IntOp.minsi (IntOp.addi (16#32) (BitVec.ofInt 32 n.val)) 31#32 = 31#32 := by
  decide +kernel

/-- The logarithm's value at a far distance lies between fifteen and a hundred. -/
theorem log_far (t c : ℝ) (h : 256 ≤ t) (h2 : t < 4096) (hc : 2 < c) (hc2 : c < 2.08) :
    15 ≤ Real.log (t * (1 / 16)) * (1 / c) * 16 ∧ Real.log (t * (1 / 16)) * (1 / c) * 16 < 100 := by
  have l2 : 1 / 2 ≤ Real.log 2 := by
    have := Real.one_sub_inv_le_log_of_pos (show (0 : ℝ) < 2 by norm_num)
    linarith
  have l2' : Real.log 2 ≤ 1 := by
    have := Real.log_le_sub_one_of_pos (show (0 : ℝ) < 2 by norm_num)
    linarith
  have lo : 4 * Real.log 2 ≤ Real.log (t * (1 / 16)) := by
    have : Real.log ((2 : ℝ) ^ 4) = 4 * Real.log 2 := by rw [Real.log_pow]; norm_num
    rw [← this]
    exact Real.log_le_log (by norm_num) (by linarith)
  have hi : Real.log (t * (1 / 16)) ≤ 8 * Real.log 2 := by
    have : Real.log ((2 : ℝ) ^ 8) = 8 * Real.log 2 := by rw [Real.log_pow]; norm_num
    rw [← this]
    exact Real.log_le_log (by linarith) (by linarith)
  have hc0 : 0 < c := by linarith
  generalize Real.log (t * (1 / 16)) = l at *
  have e : l * (1 / c) * 16 = 16 * l / c := by ring
  rw [e, le_div_iff₀ hc0, div_lt_iff₀ hc0]
  constructor <;> nlinarith

/-- The logarithm both programs take, at a far distance. -/
theorem arg_far (t : ℕ) (h : 256 ≤ t) (h2 : t < 4096) (c : ℝ) (hc : Ideal.ofBits FTy.f32 1074075026#32 = (c : EReal)) (hc0 : c ≠ 0) :
    Ideal.div (Ideal.log (Ideal.div (FloatOps.sitofp (F := Ideal) FTy.f32 (BitVec.ofNat 32 t))
        (Ideal.ofBits FTy.f32 1098907648#32))) (Ideal.ofBits FTy.f32 1074075026#32) * Ideal.ofBits FTy.f32 1098907648#32
      = ((Real.log (t * (1 / 16)) * (1 / c) * 16 : ℝ) : EReal) := by
  have e1 : FloatOps.sitofp (F := Ideal) FTy.f32 (BitVec.ofNat 32 t) = ((t : ℝ) : EReal) := by
    show (((BitVec.ofNat 32 t).toInt : ℝ) : EReal) = _
    rw [toInt_small ⟨t, h2⟩]; simp
  have hp : ¬ (t : ℝ) * (1 / 16) ≤ 0 := by
    have : (256 : ℝ) ≤ t := by exact_mod_cast h
    linarith
  rw [e1, lit16, hc, Ideal.div_coe hc0, Ideal.div_coe (by norm_num : (16 : ℝ) ≠ 0), ← EReal.coe_mul, Ideal.log_coe, if_neg hp,
    ← EReal.coe_mul, ← EReal.coe_mul]

/-- A real between fifteen and a hundred, cast to an integer: its integral part. -/
theorem cast_far (z : ℝ) (h : 15 ≤ z) (h2 : z < 100) :
    ∃ n : Fin 100, 15 ≤ n.val ∧ FloatOps.fptosi (F := Ideal) (φ := .f32) 32 (z : EReal) = BitVec.ofInt 32 n.val := by
  have hf : 15 ≤ ⌊z⌋ ∧ ⌊z⌋ < 100 := ⟨Int.le_floor.mpr (by exact_mod_cast h), Int.floor_lt.mpr (by exact_mod_cast h2)⟩
  obtain ⟨n, hn⟩ := Int.eq_ofNat_of_zero_le (show 0 ≤ ⌊z⌋ by omega)
  refine ⟨⟨n, by omega⟩, by show 15 ≤ n; omega, ?_⟩
  show BitVec.ofInt 32 (Ideal.toIntClamped _ _ _) = _
  rw [Ideal.toIntClamped_coe, if_pos (by linarith), hn]
  refine congrArg _ ?_
  have e : ((2 ^ (32 - 1) : ℕ) : Int) = 2147483648 := by norm_num
  rw [e]
  show max (-2147483648) (min (2147483648 - 1) (n : Int)) = (n : Int)
  omega

/-- The bucket's steps named one after another. -/
theorem bkt_of (t : ℕ) (a w d : BitVec 32) (b : BitVec 1) (x : EReal)
    (ha : IntOp.maxsi (BitVec.ofNat 32 t) 16#32 = a) (hb : IntOp.cmpi CmpIPredicate.slt (BitVec.ofNat 32 t) 16#32 = b)
    (hx : Ideal.div (Ideal.log (Ideal.div (FloatOps.sitofp (F := Ideal) FTy.f32 a)
        (Ideal.ofBits FTy.f32 1098907648#32))) (Ideal.ofBits FTy.f32 1074075026#32) * Ideal.ofBits FTy.f32 1098907648#32 = x)
    (hw : FloatOps.fptosi (F := Ideal) (φ := .f32) 32 x = w) (hd : IntOp.minsi (IntOp.addi (16#32) w) 31#32 = d) :
    bkt t = Scalar.select b (BitVec.ofNat 32 t) d := by
  subst ha hb hx hw hd
  rfl

/-- The bucket of a far distance is the last one. -/
theorem bkt_far (t : ℕ) (h : 256 ≤ t) (h2 : t < 4096) : bkt t = 31#32 := by
  obtain ⟨c, hc, hc2, hc3⟩ := litlog
  have key := log_far t c (by exact_mod_cast h) (by exact_mod_cast h2) hc2 hc3
  obtain ⟨n, hn, hz⟩ := cast_far _ key.1 key.2
  exact bkt_of t _ _ _ _ _ (max_small ⟨t, h2⟩ h) (slt_small ⟨t, h2⟩ h) (arg_far t h h2 c hc (by linarith)) hz (min_small n hn)

/-- From distance 256 on every distance reads the table's last row. -/
theorem row_far (t : ℕ) (h : 256 ≤ t) (h2 : t < 4096) : row t = 31 :=
  (congrArg rowOf (bkt_far t h h2)).trans (by decide)

/-- A row is the row of the distance's bucket. -/
theorem row_eq (t : ℕ) : rowOf (bkt t) = row t := rfl

attribute [irreducible] bkt row

end AttnBucket
-- ==== Proof.AttnBias.lean ====
/- The bias operand of the attention call, read entry by entry from the host line that makes it. -/
module

public import proofs.«01_k».proof.Proof.Gen.AttnIdeal.Frame
public import proofs.«01_k».proof.Proof.AttnBucket
public import Idealize.ShloMosaic.Lib.Pointwise
public import Idealize.ShloMosaic.Lib.Pipeline.ValueKit
public import Idealize.ShloMosaic.Lib.Claim

@[expose] public section

set_option maxRecDepth 16384

noncomputable section

namespace AttnBias
open Cert.AttnIdeal Cert.AttnIdeal.Gen
open Idealize.ShloMosaic Idealize.ShloMosaic.TcCoe Idealize.ShloMosaic.StableHlo
variable (E : Valuation τ sig (Elt Ideal))

/-- The rows gathered by distance: entry `(t, h)` is the table's entry at the start row read signed and clamped. -/
theorem rows_apply (T : FVec Ideal S32x8 .f32) (idx : IVec S1024x1 32) (t : Fin 1024) (h : Fin 8) :
    Host.gather gather_S32x8_S1024x1_S1024x8_1_0_n_n_0_1_18 T idx (ix2 t h)
      = T (ix2 ⟨min (idx (ix2 t 0)).toInt.toNat 31, by omega⟩ h) := by
  refine congrArg T (funext fun a => Fin.ext ?_)
  show GatherDims.start _ _ idx a + GatherDims.batchCoord _ _ a + GatherDims.offCoord _ _ a = _
  rw [GatherDims.batchCoord_eq_zero _ _ _ List.not_mem_nil]
  obtain rfl | rfl : a = (0 : Fin 2) ∨ a = (1 : Fin 2) := by fin_cases a <;> simp
  · rw [GatherDims.offCoord_eq_zero _ _ _ (by decide)]
    unfold GatherDims.start
    rw [dif_pos (by decide)]
    refine congrArg (fun s => min (idx s).toInt.toNat 31) (funext fun b => Fin.ext ?_)
    match b with
    | ⟨0, _⟩ => rfl
    | ⟨1, _⟩ => rfl
  · unfold GatherDims.start GatherDims.offCoord
    rw [dif_neg (by decide), dif_pos (by decide), Nat.zero_add]
    rfl

/-- The columns gathered for one tile: entry `(h, t)` is the entry at the start column read signed and clamped. -/
theorem cols_apply (T : FVec Ideal S8x1024 .f32) (idx : IVec S768x1 32) (t : Fin 768) (h : Fin 8) :
    Host.gather gather_S8x1024_S768x1_S8x768_0_1_n_n_1_1_81 T idx (ix2 h t)
      = T (ix2 h ⟨min (idx (ix2 t 0)).toInt.toNat 1023, by omega⟩) := by
  refine congrArg T (funext fun a => Fin.ext ?_)
  show GatherDims.start _ _ idx a + GatherDims.batchCoord _ _ a + GatherDims.offCoord _ _ a = _
  rw [GatherDims.batchCoord_eq_zero _ _ _ List.not_mem_nil]
  obtain rfl | rfl : a = (0 : Fin 2) ∨ a = (1 : Fin 2) := by fin_cases a <;> simp
  · unfold GatherDims.start GatherDims.offCoord
    rw [dif_neg (by decide), dif_pos (by decide), Nat.zero_add]
    rfl
  · rw [GatherDims.offCoord_eq_zero _ _ _ (by decide)]
    unfold GatherDims.start
    rw [dif_pos (by decide)]
    refine congrArg (fun s => min (idx s).toInt.toNat 1023) (funext fun b => Fin.ext ?_)
    match b with
    | ⟨0, _⟩ => rfl
    | ⟨1, _⟩ => rfl

/-- The place of an index of a vector of 768 entries is the index. -/
theorem rm1 (t : Fin 768) : S768.rowMajor (ix1 t) = t := Fin.ext (Shape.rowMajor_val_one _)

/-- A start column: the constant's entry, wrapped if the constant mask says so. -/
abbrev colOf (b : BitVec 1) (i : BitVec 32) : Fin 1024 :=
  ⟨min (Scalar.select b (IntOp.addi i 1024#32) i).toInt.toNat 1023, by omega⟩

variable (G : Valuation τ sig (Elt Ideal))

set_option maxHeartbeats 400000 in
/-- The first tile's vector of differences, over the buffers before the lines. -/
theorem v32_gen (h : Fin 8) (t : Fin 768) :
    (after hostOps0_3 (after hostOps0_2 G) (Proc.devRef .tc main_v32) : (⟨S8x768, .f32⟩ : BufTy).Contents (Elt Ideal)) (ix2 h t)
      = Scalar.select ((G (Proc.devRef .tc main_c_1) : IVec S768 1) (ix1 t)) ((G (Proc.devRef .tc main_arg5) : (⟨S32x8, .f32⟩ : BufTy).Contents (Elt Ideal))
          (ix2 (AttnBucket.rowOf ((G (Proc.devRef .tc main_v18) : IVec S1024 32)
            (ix1 (colOf ((G (Proc.devRef .tc main_c_0) : IVec S768 1) (ix1 t)) ((G (Proc.devRef .tc main_c) : IVec S768 32) (ix1 t)))))) h))
          (FloatOps.ofBits (F := Ideal) .f32 0xFF800000#32) := by
  simp only [hostOps0_2, hostOps0_3]
  after_results_simp
  simp only [TRef.toBuf, TRef.ofBuf, TRef.of, cast_eq]
  pointwise []
  erw [cols_apply]
  pointwise []
  erw [rows_apply]
  pointwise []
  rfl

set_option maxHeartbeats 400000 in
/-- The table by distance, over the buffers before the line. -/
theorem v26_gen (h : Fin 8) (t : Fin 1024) :
    (after hostOps0_3 (after hostOps0_2 G) (Proc.devRef .tc main_v26) : (⟨S8x1024, .f32⟩ : BufTy).Contents (Elt Ideal)) (ix2 h t)
      = (G (Proc.devRef .tc main_arg5) : (⟨S32x8, .f32⟩ : BufTy).Contents (Elt Ideal))
          (ix2 (AttnBucket.rowOf ((G (Proc.devRef .tc main_v18) : IVec S1024 32) (ix1 t))) h) := by
  simp only [hostOps0_2, hostOps0_3]
  after_results_simp
  pointwise []
  erw [rows_apply]
  pointwise []
  rfl

set_option maxHeartbeats 400000 in
/-- The second tile's vector of differences, over the buffers before the lines. -/
theorem v44_gen (h : Fin 8) (t : Fin 768) :
    (after hostOps0_5 (after hostOps0_4 G) (Proc.devRef .tc main_v44) : (⟨S8x768, .f32⟩ : BufTy).Contents (Elt Ideal)) (ix2 h t)
      = Scalar.select ((G (Proc.devRef .tc main_c_4) : IVec S768 1) (ix1 t)) ((G (Proc.devRef .tc main_v26) : (⟨S8x1024, .f32⟩ : BufTy).Contents (Elt Ideal))
          (ix2 h (colOf ((G (Proc.devRef .tc main_c_3) : IVec S768 1) (ix1 t)) ((G (Proc.devRef .tc main_c_2) : IVec S768 32) (ix1 t)))))
          (FloatOps.ofBits (F := Ideal) .f32 0xFF800000#32) := by
  simp only [hostOps0_4, hostOps0_5]
  after_results_simp
  simp only [TRef.toBuf, TRef.ofBuf, TRef.of, cast_eq]
  pointwise []
  erw [cols_apply]
  pointwise []
  rfl

set_option maxHeartbeats 400000 in
/-- The third tile's vector of differences, over the buffers before the lines. -/
theorem v56_gen (h : Fin 8) (t : Fin 768) :
    (after hostOps0_7 (after hostOps0_6 G) (Proc.devRef .tc main_v56) : (⟨S8x768, .f32⟩ : BufTy).Contents (Elt Ideal)) (ix2 h t)
      = Scalar.select ((G (Proc.devRef .tc main_c_7) : IVec S768 1) (ix1 t)) ((G (Proc.devRef .tc main_v26) : (⟨S8x1024, .f32⟩ : BufTy).Contents (Elt Ideal))
          (ix2 h (colOf ((G (Proc.devRef .tc main_c_6) : IVec S768 1) (ix1 t)) ((G (Proc.devRef .tc main_c_5) : IVec S768 32) (ix1 t)))))
          (FloatOps.ofBits (F := Ideal) .f32 0xFF800000#32) := by
  simp only [hostOps0_6, hostOps0_7]
  after_results_simp
  simp only [TRef.toBuf, TRef.ofBuf, TRef.of, cast_eq]
  pointwise []
  erw [cols_apply]
  pointwise []
  rfl

set_option maxHeartbeats 400000 in
/-- The bucket of every distance, over the buffers before the lines. -/
theorem v18_gen (t : Fin 1024) :
    (after hostOps0_1 (after hostOps0 G) (Proc.devRef .tc main_v18) : IVec S1024 32) (ix1 t) = AttnBucket.bkt t.val := by
  simp only [hostOps0, hostOps0_1]
  after_results_simp
  simp only [TRef.toBuf, TRef.ofBuf, TRef.of, cast_eq]
  pointwise []
  unfold AttnBucket.bkt
  rfl

set_option maxHeartbeats 400000 in
/-- The first tile, from its vector of differences. -/
theorem v38_gen (h : Fin 8) (r : Fin 256) (x : Fin 512) :
    (after hostOps0_7 (after hostOps0_6 (after hostOps0_5 (after hostOps0_4 G))) (Proc.devRef .tc main_v38) : (⟨S8x256x512, .f32⟩ : BufTy).Contents (Elt Ideal)) (ix3 h r x)
      = (G (Proc.devRef .tc main_v32) : (⟨S8x768, .f32⟩ : BufTy).Contents (Elt Ideal))
          (ix2 h ⟨(r.val * 767 + x.val) % 768, by omega⟩) := by
  simp only [hostOps0_4, hostOps0_5, hostOps0_6, hostOps0_7]
  after_results_simp
  pointwise []

set_option maxHeartbeats 400000 in
/-- The second tile, from its vector of differences. -/
theorem v50_gen (h : Fin 8) (r : Fin 256) (x : Fin 512) :
    (after hostOps0_7 (after hostOps0_6 G) (Proc.devRef .tc main_v50) : (⟨S8x256x512, .f32⟩ : BufTy).Contents (Elt Ideal)) (ix3 h r x)
      = (G (Proc.devRef .tc main_v44) : (⟨S8x768, .f32⟩ : BufTy).Contents (Elt Ideal))
          (ix2 h ⟨(r.val * 767 + x.val) % 768, by omega⟩) := by
  simp only [hostOps0_6, hostOps0_7]
  after_results_simp
  pointwise []

set_option maxHeartbeats 400000 in
/-- The four tiles before they are stacked, over the buffers before the line. -/
theorem v67_gen (h : Fin 8) (r : Fin 256) (x : Fin 512) :
    (after (hostOps0_8.take 14) G (Proc.devRef .tc main_v67) : (⟨S8x1x256x512, .f32⟩ : BufTy).Contents (Elt Ideal)) (ix4 h 0 r x)
      = (G (Proc.devRef .tc main_v38) : (⟨S8x256x512, .f32⟩ : BufTy).Contents (Elt Ideal)) (ix3 h r x) := by
  simp only [hostOps0_8, List.take_succ_cons, List.take_zero]
  after_results_simp
  pointwise []

set_option maxHeartbeats 400000 in
/-- The second tile before it is stacked. -/
theorem v68_gen (h : Fin 8) (r : Fin 256) (x : Fin 512) :
    (after (hostOps0_8.take 14) G (Proc.devRef .tc main_v68) : (⟨S8x1x256x512, .f32⟩ : BufTy).Contents (Elt Ideal)) (ix4 h 0 r x)
      = (G (Proc.devRef .tc main_v50) : (⟨S8x256x512, .f32⟩ : BufTy).Contents (Elt Ideal)) (ix3 h r x) := by
  simp only [hostOps0_8, List.take_succ_cons, List.take_zero]
  after_results_simp
  pointwise []

set_option maxHeartbeats 400000 in
/-- The third tile before it is stacked, from its vector of differences. -/
theorem v69_gen (h : Fin 8) (r : Fin 256) (x : Fin 512) :
    (after (hostOps0_8.take 14) G (Proc.devRef .tc main_v69) : (⟨S8x1x256x512, .f32⟩ : BufTy).Contents (Elt Ideal)) (ix4 h 0 r x)
      = (G (Proc.devRef .tc main_v56) : (⟨S8x768, .f32⟩ : BufTy).Contents (Elt Ideal)) (ix2 h ⟨(r.val * 767 + x.val) % 768, by omega⟩) := by
  simp only [hostOps0_8, List.take_succ_cons, List.take_zero]
  after_results_simp
  pointwise []

set_option maxHeartbeats 400000 in
/-- The last tile before it is stacked: the table's last row. -/
theorem v70_gen (h : Fin 8) (r : Fin 256) (x : Fin 512) :
    (after (hostOps0_8.take 14) G (Proc.devRef .tc main_v70) : (⟨S8x1x256x512, .f32⟩ : BufTy).Contents (Elt Ideal)) (ix4 h 0 r x)
      = (G (Proc.devRef .tc main_arg5) : (⟨S32x8, .f32⟩ : BufTy).Contents (Elt Ideal)) (ix2 31 h) := by
  simp only [hostOps0_8, List.take_succ_cons, List.take_zero]
  after_results_simp
  pointwise []

set_option maxHeartbeats 400000 in
/-- The four tiles stacked. -/
theorem v71_gen (h : Fin 8) (d : Fin 4) (r : Fin 256) (x : Fin 512) :
    (after ((hostOps0_8.drop 14).take 1) G (Proc.devRef .tc main_v71) : (⟨S8x4x256x512, .f32⟩ : BufTy).Contents (Elt Ideal)) (ix4 h d r x)
      = (if d.val < 1 then (G (Proc.devRef .tc main_v67) : (⟨S8x1x256x512, .f32⟩ : BufTy).Contents (Elt Ideal)) (ix4 h 0 r x)
        else if d.val < 2 then (G (Proc.devRef .tc main_v68) : (⟨S8x1x256x512, .f32⟩ : BufTy).Contents (Elt Ideal)) (ix4 h 0 r x)
        else if d.val < 3 then (G (Proc.devRef .tc main_v69) : (⟨S8x1x256x512, .f32⟩ : BufTy).Contents (Elt Ideal)) (ix4 h 0 r x)
        else (G (Proc.devRef .tc main_v70) : (⟨S8x1x256x512, .f32⟩ : BufTy).Contents (Elt Ideal)) (ix4 h 0 r x) : EReal) := by
  simp only [hostOps0_8, List.drop_succ_cons, List.drop_zero, List.take_succ_cons, List.take_zero]
  after_results_simp
  pointwise []
  fin_cases d <;> rfl

set_option maxHeartbeats 400000 in
/-- The operand: the stacked tiles twice side by side, over log 2. -/
theorem v75_gen (h : Fin 8) (d : Fin 4) (r : Fin 256) (x : Fin 1024) :
    (after (hostOps0_8.drop 15) G (Proc.devRef .tc main_v75) : (⟨S8x4x256x1024, .f32⟩ : BufTy).Contents (Elt Ideal)) (ix4 h d r x)
      = Ideal.div ((G (Proc.devRef .tc main_v71) : (⟨S8x4x256x512, .f32⟩ : BufTy).Contents (Elt Ideal))
          (ix4 h d r ⟨x.val % 512, Nat.mod_lt _ (by norm_num)⟩)) (Ideal.log (Ideal.ofBits FTy.f32 1073741824#32)) := by
  simp only [hostOps0_8, List.drop_succ_cons, List.drop_zero]
  after_results_simp
  pointwise []
  refine congrArg (Ideal.div · _) ?_
  split
  · refine congrArg _ (congrArg (ix4 h d r) (Fin.ext ?_))
    show x.val = x.val % 512
    omega
  · refine congrArg _ (congrArg (ix4 h d r) (Fin.ext ?_))
    show x.val - 512 = x.val % 512
    omega

set_option maxHeartbeats 400000 in
/-- What the first two lines leave in the buffers the tiles read. -/
theorem consts (t : Fin 768) :
    (after hostOps0_1 (after hostOps0 E)) (Proc.devRef .tc main_arg5) = E (Proc.devRef .tc main_arg5)
    ∧ ((after hostOps0_1 (after hostOps0 E)) (Proc.devRef .tc main_c) : IVec S768 32) (ix1 t) = lit0 t
    ∧ ((after hostOps0_1 (after hostOps0 E)) (Proc.devRef .tc main_c_0) : IVec S768 1) (ix1 t) = 0#1
    ∧ ((after hostOps0_1 (after hostOps0 E)) (Proc.devRef .tc main_c_1) : IVec S768 1) (ix1 t) = lit1 t := by
  simp only [hostOps0, hostOps0_1]
  refine ⟨?_, ?_, ?_, ?_⟩ <;> (after_results_simp <;> first | rfl | exact congrArg _ (rm1 t))

/-- The buffers when the second tile is begun. -/
abbrev W3 := after hostOps0_3 (after hostOps0_2 (after hostOps0_1 (after hostOps0 E)))
/-- The buffers when the third tile is begun. -/
abbrev W5 := after hostOps0_5 (after hostOps0_4 (W3 E))
/-- The buffers when the tiles are stacked. -/
abbrev W7 := after hostOps0_7 (after hostOps0_6 (W5 E))

set_option maxHeartbeats 400000 in
/-- What the second tile reads. -/
theorem consts3 (t : Fin 768) :
    ((W3 E) (Proc.devRef .tc main_c_2) : IVec S768 32) (ix1 t) = lit2 t
    ∧ ((W3 E) (Proc.devRef .tc main_c_3) : IVec S768 1) (ix1 t) = 0#1
    ∧ ((W3 E) (Proc.devRef .tc main_c_4) : IVec S768 1) (ix1 t) = lit3 t := by
  simp only [W3, hostOps0, hostOps0_1, hostOps0_2, hostOps0_3]
  refine ⟨?_, ?_, ?_⟩ <;> (after_results_simp <;> first | rfl | exact congrArg _ (rm1 t))

set_option maxHeartbeats 400000 in
/-- What the third tile reads. -/
theorem consts5 (t : Fin 768) :
    ((W5 E) (Proc.devRef .tc main_c_5) : IVec S768 32) (ix1 t) = lit4 t
    ∧ ((W5 E) (Proc.devRef .tc main_c_6) : IVec S768 1) (ix1 t) = 0#1
    ∧ ((W5 E) (Proc.devRef .tc main_c_7) : IVec S768 1) (ix1 t) = 1#1 := by
  simp only [W5, W3, hostOps0, hostOps0_1, hostOps0_2, hostOps0_3, hostOps0_4, hostOps0_5]
  refine ⟨?_, ?_, ?_⟩ <;> (after_results_simp <;> first | rfl | exact congrArg _ (rm1 t))

set_option maxHeartbeats 400000 in
/-- The table by distance stays while the second tile is made. -/
theorem v26_keep : (after hostOps0_5 (after hostOps0_4 G)) (Proc.devRef .tc main_v26) = G (Proc.devRef .tc main_v26) := by
  simp only [hostOps0_4, hostOps0_5]
  after_results_simp

set_option maxHeartbeats 400000 in
/-- The argument table is not written. -/
theorem arg5_keep : (W7 E) (Proc.devRef .tc main_arg5) = E (Proc.devRef .tc main_arg5) := by
  simp only [W7, W5, W3, hostOps0, hostOps0_1, hostOps0_2, hostOps0_3, hostOps0_4, hostOps0_5, hostOps0_6, hostOps0_7]
  after_results_simp

/-- The constants the first tile is gathered by. -/
theorem lit_0 : ∀ t : Fin 768, (lit0 t).toInt.toNat = if t.val < 512 then t.val - 256 else 0 := by decide +kernel
/-- The first tile's mask. -/
theorem lit_1 : ∀ t : Fin 768, lit1 t = if 256 ≤ t.val ∧ t.val < 512 then 1#1 else 0#1 := by decide +kernel
/-- The constants the second tile is gathered by. -/
theorem lit_2 : ∀ t : Fin 768, (lit2 t).toInt.toNat = if t.val < 512 then t.val else 0 := by decide +kernel
/-- The second tile's mask. -/
theorem lit_3 : ∀ t : Fin 768, lit3 t = if t.val < 512 then 1#1 else 0#1 := by decide +kernel
/-- The constants the third tile is gathered by. -/
theorem lit_4 : ∀ t : Fin 768, (lit4 t).toInt.toNat = if t.val < 512 then t.val + 256 else t.val - 512 := by decide +kernel

/-- The pattern the mask is filled with is minus infinity. -/
theorem fill : FloatOps.ofBits (F := Ideal) .f32 0xFF800000#32 = (⊥ : EReal) := by
  show Ideal.ofBits .f32 0xFF800000#32 = ⊥
  simp [Ideal.ofBits, Ideal.ieee]

/-- The table argument. -/
abbrev tab : FVec Ideal S32x8 .f32 := E (Proc.devRef .tc main_arg5)

/-- The first tile's vector: distances from `t − 256`, masked elsewhere. -/
theorem v32_apply (h : Fin 8) (t : Fin 768) :
    (W3 E (Proc.devRef .tc main_v32) : (⟨S8x768, .f32⟩ : BufTy).Contents (Elt Ideal)) (ix2 h t)
      = (if 256 ≤ t.val ∧ t.val < 512 then tab E (ix2 (AttnBucket.row (t.val - 256)) h) else ⊥ : EReal) := by
  obtain ⟨h1, h2, h3, h4⟩ := consts E t
  refine (v32_gen _ h t).trans ?_
  rw [h1, h2, h3, h4, v18_gen, AttnBucket.row_eq, fill, lit_1]
  by_cases hc : 256 ≤ t.val ∧ t.val < 512
  · rw [if_pos hc, if_pos hc]
    refine congrArg (fun n => tab E (ix2 (AttnBucket.row n) h)) ?_
    show min (lit0 t).toInt.toNat 1023 = _
    rw [lit_0, if_pos hc.2]; omega
  · rw [if_neg hc, if_neg hc]; rfl

/-- The table by distance. -/
theorem v26_apply (h : Fin 8) (t : Fin 1024) :
    (W3 E (Proc.devRef .tc main_v26) : (⟨S8x1024, .f32⟩ : BufTy).Contents (Elt Ideal)) (ix2 h t)
      = tab E (ix2 (AttnBucket.row t.val) h) := by
  obtain ⟨h1, -, -, -⟩ := consts E 0
  refine (v26_gen _ h t).trans ?_
  rw [h1, v18_gen, AttnBucket.row_eq]

/-- The second tile's vector: distances from `t`, masked from 512 on. -/
theorem v44_apply (h : Fin 8) (t : Fin 768) :
    (W5 E (Proc.devRef .tc main_v44) : (⟨S8x768, .f32⟩ : BufTy).Contents (Elt Ideal)) (ix2 h t)
      = (if t.val < 512 then tab E (ix2 (AttnBucket.row t.val) h) else ⊥ : EReal) := by
  obtain ⟨h1, h2, h3⟩ := consts3 E t
  refine (v44_gen _ h t).trans ?_
  rw [h1, h2, h3, v26_apply, fill, lit_3]
  by_cases hc : t.val < 512
  · rw [if_pos hc, if_pos hc]
    refine congrArg (fun n => tab E (ix2 (AttnBucket.row n) h)) ?_
    show min (lit2 t).toInt.toNat 1023 = _
    rw [lit_2, if_pos hc]; omega
  · rw [if_neg hc, if_neg hc]; rfl

/-- The third tile's vector: distances from `t + 256`, wrapping from 512 on. -/
theorem v56_apply (h : Fin 8) (t : Fin 768) :
    (W7 E (Proc.devRef .tc main_v56) : (⟨S8x768, .f32⟩ : BufTy).Contents (Elt Ideal)) (ix2 h t)
      = tab E (ix2 (AttnBucket.row (if t.val < 512 then t.val + 256 else t.val - 512)) h) := by
  obtain ⟨h1, h2, h3⟩ := consts5 E t
  refine (v56_gen _ h t).trans ?_
  rw [h1, h2, h3, show (W5 E (Proc.devRef .tc main_v26)) = _ from v26_keep (W3 E), v26_apply]
  refine congrArg (fun n => tab E (ix2 (AttnBucket.row n) h)) ?_
  show min (lit4 t).toInt.toNat 1023 = _
  rw [lit_4]; split <;> omega

/-- The bias a tile holds: tile `d` at row `r` (a key) and column `x` (a query) holds the table's entry at distance
    `256 d + x - r - 256`, masked if that is negative; the last tile holds the table's last row. -/
def entry (T : FVec Ideal S32x8 .f32) (h : Fin 8) (d r x : ℕ) : EReal :=
  if d = 3 then T (ix2 31 h)
  else if r + 256 ≤ 256 * d + x then T (ix2 (AttnBucket.row (256 * d + x - (r + 256))) h) else ⊥

/-- A tile other than the last. -/
theorem entry_ne (T : FVec Ideal S32x8 .f32) (h : Fin 8) (d r x : ℕ) (hd : d ≠ 3) :
    entry T h d r x = if r + 256 ≤ 256 * d + x then T (ix2 (AttnBucket.row (256 * d + x - (r + 256))) h) else ⊥ := if_neg hd

/-- The first tile. -/
theorem v38_apply (h : Fin 8) (r : Fin 256) (x : Fin 512) :
    (W7 E (Proc.devRef .tc main_v38) : (⟨S8x256x512, .f32⟩ : BufTy).Contents (Elt Ideal)) (ix3 h r x)
      = entry (tab E) h 0 r.val x.val := by
  refine (v38_gen (W3 E) h r x).trans ((v32_apply E h _).trans ?_)
  have hr := r.isLt
  have hx := x.isLt
  rw [entry_ne _ _ _ _ _ (by decide)]
  by_cases hc : r.val + 256 ≤ 256 * 0 + x.val
  · have e : (r.val * 767 + x.val) % 768 = x.val - r.val := by omega
    rw [if_pos hc, if_pos (by show 256 ≤ (r.val * 767 + x.val) % 768 ∧ (r.val * 767 + x.val) % 768 < 512; omega)]
    refine congrArg (fun n => tab E (ix2 (AttnBucket.row n) h)) ?_
    show (r.val * 767 + x.val) % 768 - 256 = _
    omega
  · rw [if_neg hc, if_neg (by show ¬ (256 ≤ (r.val * 767 + x.val) % 768 ∧ (r.val * 767 + x.val) % 768 < 512); omega)]

/-- The second tile. -/
theorem v50_apply (h : Fin 8) (r : Fin 256) (x : Fin 512) :
    (W7 E (Proc.devRef .tc main_v50) : (⟨S8x256x512, .f32⟩ : BufTy).Contents (Elt Ideal)) (ix3 h r x)
      = entry (tab E) h 1 r.val x.val := by
  refine (v50_gen (W5 E) h r x).trans ((v44_apply E h _).trans ?_)
  have hr := r.isLt
  have hx := x.isLt
  rw [entry_ne _ _ _ _ _ (by decide)]
  by_cases hc : r.val + 256 ≤ 256 * 1 + x.val
  · rw [if_pos hc, if_pos (by show (r.val * 767 + x.val) % 768 < 512; omega)]
    refine congrArg (fun n => tab E (ix2 (AttnBucket.row n) h)) ?_
    show (r.val * 767 + x.val) % 768 = _
    omega
  · rw [if_neg hc, if_neg (by show ¬ (r.val * 767 + x.val) % 768 < 512; omega)]

/-- The third tile. -/
theorem v62_apply (h : Fin 8) (r : Fin 256) (x : Fin 512) :
    (W7 E (Proc.devRef .tc main_v56) : (⟨S8x768, .f32⟩ : BufTy).Contents (Elt Ideal)) (ix2 h ⟨(r.val * 767 + x.val) % 768, by omega⟩)
      = entry (tab E) h 2 r.val x.val := by
  refine (v56_apply E h _).trans ?_
  have hr := r.isLt
  have hx := x.isLt
  rw [entry_ne _ _ _ _ _ (by decide), if_pos (show r.val + 256 ≤ 256 * 2 + x.val by omega)]
  refine congrArg (fun n => tab E (ix2 (AttnBucket.row n) h)) ?_
  show (if (r.val * 767 + x.val) % 768 < 512 then (r.val * 767 + x.val) % 768 + 256 else (r.val * 767 + x.val) % 768 - 512) = _
  split <;> omega

/-- The stacked tiles, entry by entry. -/
theorem stacked (h : Fin 8) (d : Fin 4) (r : Fin 256) (x : Fin 512) :
    (after ((hostOps0_8.drop 14).take 1) (after (hostOps0_8.take 14) (W7 E)) (Proc.devRef .tc main_v71) : (⟨S8x4x256x512, .f32⟩ : BufTy).Contents (Elt Ideal)) (ix4 h d r x)
      = entry (tab E) h d.val r.val x.val := by
  refine (v71_gen _ h d r x).trans ?_
  rw [v67_gen, v68_gen, v69_gen, v70_gen, v38_apply, v50_apply, v62_apply, arg5_keep]
  fin_cases d <;> rfl

/-- One line run after another is their concatenation. -/
theorem after_app (l l' : List (HloOp τ sig (Elt Ideal))) : after (l ++ l') E = after l' (after l E) := by
  induction l generalizing E with
  | nil => rfl
  | cons a l ih => exact ih _

/-- The kernel's bias operand: the tiles, twice side by side, over log 2. -/
theorem bias_apply (m : (ℓ : Loc nD τ sig) → Buf (Elt Ideal) ℓ) (c : Dev nD) (h : Fin 8) (d : Fin 4) (r : Fin 256) (x : Fin 1024) :
    (V m c main_v75 : (⟨S8x4x256x1024, .f32⟩ : BufTy).Contents (Elt Ideal)) (ix4 h d r x)
      = Ideal.div (entry (m ((c : Thread nD τ).loc main_arg5)) h d.val r.val (x.val % 512)) (Ideal.log (Ideal.ofBits FTy.f32 1073741824#32)) := by
  have e : (V m c main_v75 : (⟨S8x4x256x1024, .f32⟩ : BufTy).Contents (Elt Ideal))
      = after (hostOps0_8.drop 15) (after ((hostOps0_8.drop 14).take 1) (after (hostOps0_8.take 14) (W7 fun b => m (c, b)))) (Proc.devRef .tc main_v75) := by
    show after (hostOps0 ++ (hostOps0_1 ++ (hostOps0_2 ++ (hostOps0_3 ++ (hostOps0_4 ++ (hostOps0_5 ++ (hostOps0_6 ++ (hostOps0_7 ++ (hostOps0_8 ++ []))))))))) (fun b => m (c, b)) (Proc.devRef .tc main_v75) = _
    have e8 : (hostOps0_8 : List (HloOp τ sig (Elt Ideal))) = hostOps0_8.take 14 ++ ((hostOps0_8.drop 14).take 1 ++ hostOps0_8.drop 15) := rfl
    rw [List.append_nil, after_app, after_app, after_app, after_app, after_app, after_app, after_app, after_app]
    conv_lhs => rw [e8]
    rw [after_app, after_app]
  rw [e, v75_gen, stacked]

end AttnBias
-- ==== Proof.AttnRefRead.lean ====
/- The attention reference's array, read entry by entry. -/
module

public import proofs.«01_k».proof.Proof.AttnBucket
public import proofs.«01_k».proof.Proof.Gen.AttnRefIdeal.Read
public import Idealize.ShloMosaic.Lib.Pointwise
public import Idealize.ShloMosaic.Lib.Pipeline.ValueKit
public import Idealize.ShloMosaic.Lib.Claim

@[expose] public section

set_option maxRecDepth 16384

noncomputable section

namespace AttnRef
open Cert.AttnRefIdeal Cert.AttnRefIdeal.Read
open Idealize.ShloMosaic Idealize.ShloMosaic.TcCoe

variable (x0 x1 : FVec Ideal S32768x1024 .bf16) (x2 : FVec Ideal S8x16x1024x256 .bf16) (x3 : FVec Ideal S4x64 .f32)
  (x4 : FVec Ideal S128 .f32) (x5 : FVec Ideal S32x8 .f32)

set_option maxHeartbeats 400000
/-- The rows gathered by distance: the entry of the start row read signed and clamped. -/
theorem rows_apply (T : FVec Ideal S32x8 .f32) (idx : IVec S4096x1 32) (t : Fin 4096) (h : Fin 8) :
    Host.gather gather_S32x8_S4096x1_S4096x8_1_0_n_n_0_1_18 T idx (ix2 t h)
      = T (ix2 ⟨min (idx (ix2 t 0)).toInt.toNat 31, by omega⟩ h) := by
  refine congrArg T (funext fun a => Fin.ext ?_)
  show GatherDims.start _ _ idx a + GatherDims.batchCoord _ _ a + GatherDims.offCoord _ _ a = _
  rw [GatherDims.batchCoord_eq_zero _ _ _ List.not_mem_nil]
  obtain rfl | rfl : a = (0 : Fin 2) ∨ a = (1 : Fin 2) := by fin_cases a <;> simp
  · rw [GatherDims.offCoord_eq_zero _ _ _ (by decide)]
    unfold GatherDims.start
    rw [dif_pos (by decide)]
    refine congrArg (fun s => min (idx s).toInt.toNat 31) (funext fun b => Fin.ext ?_)
    match b with
    | ⟨0, _⟩ => rfl
    | ⟨1, _⟩ => rfl
  · unfold GatherDims.start GatherDims.offCoord
    rw [dif_neg (by decide), dif_pos (by decide), Nat.zero_add]
    rfl

/-- The table by distance gathered at every pair of positions. -/
theorem pairs_apply (T : FVec Ideal S4096x8 .f32) (idx : IVec S4096x4096x1 32) (q k : Fin 4096) (h : Fin 8) :
    Host.gather gather_S4096x8_S4096x4096x1_S4096x4096x8_2_0_n_n_0_2_18 T idx (ix3 q k h)
      = T (ix2 ⟨min (idx (ix3 q k 0)).toInt.toNat 4095, by omega⟩ h) := by
  refine congrArg T (funext fun a => Fin.ext ?_)
  show GatherDims.start _ _ idx a + GatherDims.batchCoord _ _ a + GatherDims.offCoord _ _ a = _
  rw [GatherDims.batchCoord_eq_zero _ _ _ List.not_mem_nil]
  obtain rfl | rfl : a = (0 : Fin 2) ∨ a = (1 : Fin 2) := by fin_cases a <;> simp
  · rw [GatherDims.offCoord_eq_zero _ _ _ (by decide)]
    unfold GatherDims.start
    rw [dif_pos (by decide)]
    refine congrArg (fun s => min (idx s).toInt.toNat 4095) (funext fun b => Fin.ext ?_)
    match b with
    | ⟨0, _⟩ => rfl
    | ⟨1, _⟩ => rfl
    | ⟨2, _⟩ => rfl
  · unfold GatherDims.start GatherDims.offCoord
    rw [dif_neg (by decide), dif_pos (by decide), Nat.zero_add]
    rfl

/-- The bucket of a distance. -/
theorem bucket_apply (t : Fin 4096) : val_main_v28 (F := Ideal) (ix1 t) = AttnBucket.bkt t.val := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_c, val_main_cst, val_main_cst_0, val_main_cst_1, val_main_c_2, val_main_c_3, val_main_c_4]
  unfold AttnBucket.bkt
  rfl

/-- The start row of the first gather: the bucket of the distance, counted from the end when negative. -/
theorem v34_apply (t : Fin 4096) : val_main_v34 (F := Ideal) (ix2 t 0) =
    Scalar.select (IntOp.cmpi CmpIPredicate.slt (AttnBucket.bkt t.val) 0#32) (IntOp.addi (AttnBucket.bkt t.val) 32#32) (AttnBucket.bkt t.val) := by
  rw [← bucket_apply t]
  generalize hz : val_main_v28 (F := Ideal) = z
  pointwise [val_main_v34, val_main_v33, val_main_v32, val_main_v31, val_main_v30, val_main_v29, val_main_c_5, val_main_c_6, hz]

/-- The table by distance. -/
theorem table_apply (t : Fin 4096) (h : Fin 8) : val_main_v35 (F := Ideal) x5 (ix2 t h) = x5 (ix2 (AttnBucket.row t.val) h) := by
  unfold val_main_v35
  rw [rows_apply, ← AttnBucket.row_eq]
  refine congrArg (fun a => x5 (ix2 a h)) (Fin.ext ?_)
  exact congrArg (fun z : BitVec 32 => min z.toInt.toNat 31) (v34_apply t)

/-- The difference of two positions, read signed. -/
theorem diff_toInt (q k : Fin 4096) : (IntOp.subi (BitVec.ofNat 32 q.val) (BitVec.ofNat 32 k.val)).toInt = (q.val : ℤ) - k.val := by
  show (BitVec.ofNat 32 q.val - BitVec.ofNat 32 k.val).toInt = _
  have hq := q.isLt
  have hk := k.isLt
  rw [BitVec.toInt_sub, AttnBucket.toInt_small, AttnBucket.toInt_small]
  simp only [Int.bmod_def]
  omega

/-- A key at or before the query lies at a small distance. -/
theorem diff_eq (q k : Fin 4096) (h : k ≤ q) : IntOp.subi (BitVec.ofNat 32 q.val) (BitVec.ofNat 32 k.val) = BitVec.ofNat 32 (q.val - k.val) := by
  have h' : k.val ≤ q.val := h
  have hq := q.isLt
  apply BitVec.eq_of_toInt_eq
  rw [diff_toInt, AttnBucket.toInt_small ⟨q.val - k.val, by omega⟩]
  simp only
  omega

/-- The mask holds where the key is at or before the query. -/
theorem causal (q k : Fin 4096) :
    IntOp.cmpi CmpIPredicate.sge (IntOp.subi (BitVec.ofNat 32 q.val) (BitVec.ofNat 32 k.val)) 0#32 = if k ≤ q then 1#1 else 0#1 := by
  show BitVec.ofBool ((0#32).sle _) = _
  rw [BitVec.sle_eq_decide, diff_toInt]
  by_cases h : k ≤ q
  · have h' : k.val ≤ q.val := h
    rw [if_pos h, decide_eq_true (by simp only [BitVec.toInt_zero]; omega)]
    rfl
  · have h' : ¬ k.val ≤ q.val := h
    rw [if_neg h, decide_eq_false (by simp only [BitVec.toInt_zero]; omega)]
    rfl

/-- A distance below 4096 is left alone by the clip and by the count from the end. -/
theorem clipped : ∀ t : Fin 4096, (Scalar.select
      (IntOp.cmpi CmpIPredicate.slt (IntOp.minsi 4095#32 (IntOp.maxsi 0#32 (BitVec.ofNat 32 t.val))) 0#32)
      (IntOp.addi (IntOp.minsi 4095#32 (IntOp.maxsi 0#32 (BitVec.ofNat 32 t.val))) 4096#32)
      (IntOp.minsi 4095#32 (IntOp.maxsi 0#32 (BitVec.ofNat 32 t.val)))).toInt.toNat = t.val := by
  decide +kernel

/-- The start row of the second gather is the distance. -/
theorem v50_apply (q k : Fin 4096) (h : k ≤ q) : (val_main_v50 (F := Ideal) (ix3 q k 0)).toInt.toNat = q.val - k.val := by
  have e := clipped ⟨q.val - k.val, by omega⟩
  rw [← diff_eq q k h] at e
  refine Eq.trans (congrArg (fun z : BitVec 32 => z.toInt.toNat) ?_) e
  pointwise [val_main_v50, val_main_v49, val_main_v48, val_main_v47, val_main_v46, val_main_v45, val_main_v44, val_main_c_8, val_main_c_9,
    val_main_c_10, val_main_c_11, val_main_call1_v0, val_main_call1_v1, val_main_call1_v2, val_main_call1_v3, val_main_call1_v4, val_main_v41,
    val_main_v40, val_main_v39, val_main_v38, val_main_v37, val_main_v36]
  rfl

/-- The bias of a pair of positions: the table's row of their distance. -/
theorem v52_apply (h : Fin 8) (q k : Fin 4096) (hk : k ≤ q) :
    val_main_v52 (F := Ideal) x5 (ix3 h q k) = x5 (ix2 (AttnBucket.row (q.val - k.val)) h) := by
  have e : val_main_v52 (F := Ideal) x5 (ix3 h q k) = val_main_v51 (F := Ideal) x5 (ix3 q k h) := by
    generalize hz : val_main_v51 (F := Ideal) x5 = z
    pointwise [val_main_v52, hz]
  rw [e]
  unfold val_main_v51
  rw [pairs_apply, table_apply]
  refine congrArg (fun a => x5 (ix2 (AttnBucket.row a) h)) ?_
  show min (val_main_v50 (F := Ideal) (ix3 q k 0)).toInt.toNat 4095 = _
  rw [v50_apply q k hk]
  have := q.isLt
  omega

/-- The masked scores of the first half of a head's columns. -/
theorem v80_apply (b h : Fin 8) (q k : Fin 4096) : val_main_v80 (F := Ideal) x0 x1 x5 (ix4 b h q k)
    = if k ≤ q then
        (∑ x : Fin 64, x0 (ix2 ⟨b.val * 4096 + q.val, by omega⟩ ⟨h.val * 128 + x.val, by omega⟩)
            * x1 (ix2 ⟨b.val * 4096 + k.val, by omega⟩ ⟨h.val * 128 + x.val, by omega⟩))
          * Ideal.log (Ideal.ofBits FTy.f32 1073741824#32) + x5 (ix2 (AttnBucket.row (q.val - k.val)) h)
      else Ideal.ofBits FTy.f32 4286578688#32 := by
  have hb := v52_apply x5 h q k
  generalize hz : val_main_v52 (F := Ideal) x5 = w at hb
  pointwise [val_main_v80, val_main_v79, val_main_v78, val_main_v77, val_main_v76, val_main_v75, val_main_v74, val_main_cst_15, val_main_v73,
    val_main_v72, val_main_v71, val_main_v70, val_main_v69, val_main_v0, val_main_v1, val_main_v2, val_main_v3, val_main_v4, val_main_v5,
    val_main_call2_v0, val_main_call2_v1, val_main_call2_v2, val_main_cst_16, val_main_v43, val_main_v42, val_main_c_7, val_main_v41,
    val_main_v40, val_main_v39, val_main_v38, val_main_v37, val_main_v36, hz]
  rw [causal]
  by_cases hk : k ≤ q
  · rw [if_pos hk, if_pos hk, ← hb hk]
    rfl
  · rw [if_neg hk, if_neg hk]
    rfl

/-- The masked scores of the second half of a head's columns. -/
theorem v103_apply (b h : Fin 8) (q k : Fin 4096) : val_main_v103 (F := Ideal) x0 x1 x5 (ix4 b h q k)
    = if k ≤ q then
        (∑ x : Fin 64, x0 (ix2 ⟨b.val * 4096 + q.val, by omega⟩ ⟨h.val * 128 + 64 + x.val, by omega⟩)
            * x1 (ix2 ⟨b.val * 4096 + k.val, by omega⟩ ⟨h.val * 128 + 64 + x.val, by omega⟩))
          * Ideal.log (Ideal.ofBits FTy.f32 1073741824#32) + x5 (ix2 (AttnBucket.row (q.val - k.val)) h)
      else Ideal.ofBits FTy.f32 4286578688#32 := by
  have hb := v52_apply x5 h q k
  generalize hz : val_main_v52 (F := Ideal) x5 = w at hb
  pointwise [val_main_v103, val_main_v102, val_main_v101, val_main_v100, val_main_v99, val_main_v98, val_main_v97, val_main_cst_20, val_main_v96,
    val_main_v95, val_main_v94, val_main_v93, val_main_v92, val_main_v0, val_main_v1, val_main_v2, val_main_v3, val_main_v4, val_main_v5,
    val_main_call3_v0, val_main_call3_v1, val_main_call3_v2, val_main_cst_21, val_main_v43, val_main_v42, val_main_c_7, val_main_v41,
    val_main_v40, val_main_v39, val_main_v38, val_main_v37, val_main_v36, hz]
  rw [causal]
  by_cases hk : k ≤ q
  · rw [if_pos hk, if_pos hk, ← hb hk]
    rfl
  · rw [if_neg hk, if_neg hk]
    rfl

/-- The greatest score of a row, first half. -/
theorem v81_apply (b h : Fin 8) (q : Fin 4096) (w : FVec Ideal S8x8x4096x4096 .f32) (hz : val_main_v80 (F := Ideal) x0 x1 x5 = w) :
   val_main_v81 (F := Ideal) x0 x1 x5 (ix3 b h q) = Finset.fold max (Ideal.ofBits FTy.f32 4286578688#32) (fun x => w (ix4 b h q x)) Finset.univ := by
  pointwise [val_main_v81, val_main_cst_17, hz]

/-- The attention weights, first half. -/
theorem v91_apply (b h : Fin 8) (q k : Fin 4096) (w : FVec Ideal S8x8x4096x4096 .f32) (hz : val_main_v80 (F := Ideal) x0 x1 x5 = w)
   (w2 : FVec Ideal S8x8x4096 .f32) (hz2 : val_main_v81 (F := Ideal) x0 x1 x5 = w2) :
   val_main_v91 (F := Ideal) x0 x1 x5 (ix4 b h q k) = Ideal.div
      (Ideal.exp (w (ix4 b h q k) - max (Ideal.ofBits FTy.f32 4286578688#32) (w2 (ix3 b h q))))
      (∑ x, Ideal.exp (w (ix4 b h q x) - max (Ideal.ofBits FTy.f32 4286578688#32) (w2 (ix3 b h q)))) := by
  pointwise [val_main_v91, val_main_v90, val_main_v89, val_main_v88, val_main_cst_19, val_main_v87, val_main_v86, val_main_v85, val_main_v84, val_main_v83, val_main_v82, val_main_cst_18, hz, hz2]

/-- The greatest score of a row, second half. -/
theorem v104_apply (b h : Fin 8) (q : Fin 4096) (w : FVec Ideal S8x8x4096x4096 .f32) (hz : val_main_v103 (F := Ideal) x0 x1 x5 = w) :
   val_main_v104 (F := Ideal) x0 x1 x5 (ix3 b h q) = Finset.fold max (Ideal.ofBits FTy.f32 4286578688#32) (fun x => w (ix4 b h q x)) Finset.univ := by
  pointwise [val_main_v104, val_main_cst_22, hz]

/-- The attention weights, second half. -/
theorem v114_apply (b h : Fin 8) (q k : Fin 4096) (w : FVec Ideal S8x8x4096x4096 .f32) (hz : val_main_v103 (F := Ideal) x0 x1 x5 = w)
   (w2 : FVec Ideal S8x8x4096 .f32) (hz2 : val_main_v104 (F := Ideal) x0 x1 x5 = w2) :
   val_main_v114 (F := Ideal) x0 x1 x5 (ix4 b h q k) = Ideal.div
      (Ideal.exp (w (ix4 b h q k) - max (Ideal.ofBits FTy.f32 4286578688#32) (w2 (ix3 b h q))))
      (∑ x, Ideal.exp (w (ix4 b h q x) - max (Ideal.ofBits FTy.f32 4286578688#32) (w2 (ix3 b h q)))) := by
  pointwise [val_main_v114, val_main_v113, val_main_v112, val_main_v111, val_main_cst_24, val_main_v110, val_main_v109, val_main_v108, val_main_v107, val_main_v106, val_main_v105, val_main_cst_23, hz, hz2]

/-- The difference of the two attentions, applied to the values. -/
theorem v118_apply (b h : Fin 8) (q : Fin 4096) (e : Fin 128) (w w2 : FVec Ideal S8x8x4096x4096 .f32)
   (hz : val_main_v91 (F := Ideal) x0 x1 x5 = w) (hz2 : val_main_v114 (F := Ideal) x0 x1 x5 = w2) :
   val_main_v118 (F := Ideal) x0 x1 x2 x3 x5 (ix4 b h q e) =
    ∑ x : Fin 4096, (w (ix4 b h q x) -
          (Ideal.exp (∑ x, x3 (ix2 0 x) * x3 (ix2 1 x)) - Ideal.exp (∑ x, x3 (ix2 2 x) * x3 (ix2 3 x)) +
              Ideal.ofBits FTy.f32 1052116297#32) * w2 (ix4 b h q x)) *
        x2 (ix4 b ⟨x.val / 256, by omega⟩ ⟨h.val * 128 + e.val, by omega⟩ ⟨x.val % 256, by omega⟩) := by
  pointwise [val_main_v118, val_main_v117, val_main_v116, val_main_v115, val_main_v68, val_main_v67, val_main_v66, val_main_v65, val_main_v64, val_main_v63, val_main_v62, val_main_v61, val_main_v60, val_main_v59, val_main_v58, val_main_v57, val_main_v56, val_main_v55, val_main_v54, val_main_v53, val_main_cst_12, val_main_cst_13, val_main_cst_14, val_main_v9, val_main_v8, val_main_v7, val_main_v6, hz, hz2]

/-- The result: the row's difference of two attentions, divided by its root mean square and scaled. -/
theorem v136_apply (i : Fin 32768) (j : Fin 1024) (w : FVec Ideal S8x8x4096x128 .f32) (hz : val_main_v118 (F := Ideal) x0 x1 x2 x3 x5 = w) :
    val_main_v136 (F := Ideal) x0 x1 x2 x3 x4 x5 (ix2 i j)
      = w (ix4 ⟨i.val / 4096, by omega⟩ ⟨j.val / 128, by omega⟩ ⟨i.val % 4096, by omega⟩ ⟨j.val % 128, by omega⟩)
          * Ideal.rsqrt (Ideal.div (∑ x : Fin 128,
                w (ix4 ⟨i.val / 4096, by omega⟩ ⟨j.val / 128, by omega⟩ ⟨i.val % 4096, by omega⟩ x)
                  * w (ix4 ⟨i.val / 4096, by omega⟩ ⟨j.val / 128, by omega⟩ ⟨i.val % 4096, by omega⟩ x))
              (Ideal.ofBits FTy.f32 1124073472#32) + Ideal.ofBits FTy.f32 925353388#32)
          * x4 (ix1 ⟨j.val % 128, by omega⟩) * Ideal.ofBits FTy.f32 1059388764#32 := by
  pointwise [val_main_v136, val_main_v135, val_main_v134, val_main_v133, val_main_v132, val_main_v131, val_main_v130, val_main_v129,
    val_main_v128, val_main_v127, val_main_v126, val_main_v125, val_main_v124, val_main_v123, val_main_v122, val_main_v121, val_main_v120,
    val_main_v119, val_main_cst_25, val_main_cst_26, val_main_cst_27, val_main_cst_28, hz]

end AttnRef
-- ==== Proof.AttnReal.lean ====
/- The attention's array in reals: for every head, query and column the difference of two ratios of sums of powers of
   two, which the reference and the kernel both compute. -/
module

public import proofs.«01_k».proof.Proof.AttnSoft
public import proofs.«01_k».proof.Proof.AttnBias
public import proofs.«01_k».proof.Proof.AttnRefRead

@[expose] public section

set_option maxRecDepth 16384

noncomputable section

namespace AttnReal
open Idealize.ShloMosaic Idealize.ShloMosaic.TcCoe AttnSoft

variable (xq xk : ℕ → ℕ → ℝ) (xv : ℕ → ℕ → ℕ → ℕ → ℝ) (xt : ℕ → ℕ → ℝ) (L : ℝ)

/-- The product of a query's and a key's half `p` of head `h`'s columns. -/
def dotp (b h p q k : ℕ) : ℝ := ∑ d : Fin 64, xq (b * 4096 + q) (h * 128 + (64 * p + d.val)) * xk (b * 4096 + k) (h * 128 + (64 * p + d.val))

/-- The weight of a key for a query. -/
def W (b h p q k : ℕ) : ℝ := wgt (k ≤ q) (dotp xq xk b h p q k) (xt (AttnBucket.row (q - k)).val h)

/-- The value of a key in a head's column `e`. -/
def val (b h e k : ℕ) : ℝ := xv b (k / 256) (h * 128 + e) (k % 256)

/-- The weighted sum of the values. -/
def num (b h p q e : ℕ) : ℝ := ∑ k : Fin 4096, val xv b h e k.val * W xq xk xt b h p q k.val

/-- The sum of the weights. -/
def den (b h p q : ℕ) : ℝ := ∑ k : Fin 4096, W xq xk xt b h p q k.val

/-- The difference of the two attentions. -/
def o (b h q e : ℕ) : ℝ :=
  num xq xk xv xt b h 0 q e / den xq xk xt b h 0 q - L * (num xq xk xv xt b h 1 q e / den xq xk xt b h 1 q)

section Reference
open Cert.AttnRefIdeal Cert.AttnRefIdeal.Read

variable (x0 x1 : FVec Ideal S32768x1024 .bf16) (x2 : FVec Ideal S8x16x1024x256 .bf16) (x3 : FVec Ideal S4x64 .f32) (x5 : FVec Ideal S32x8 .f32)
  (h0 : ∀ i j, x0 (ix2 i j) = ((xq i.val j.val : ℝ) : EReal)) (h1 : ∀ i j, x1 (ix2 i j) = ((xk i.val j.val : ℝ) : EReal))
  (h2 : ∀ a b c d, x2 (ix4 a b c d) = ((xv a.val b.val c.val d.val : ℝ) : EReal))
  (h5 : ∀ i j, x5 (ix2 i j) = ((xt i.val j.val : ℝ) : EReal))
include h0 h1 h5

/-- The reference's weights of the first half. -/
theorem ref_p0 (b h : Fin 8) (q k : Fin 4096) : val_main_v91 (F := Ideal) x0 x1 x5 (ix4 b h q k)
    = ((W xq xk xt b.val h.val 0 q.val k.val / den xq xk xt b.val h.val 0 q.val : ℝ) : EReal) := by
  have hs : ∀ k, val_main_v80 (F := Ideal) x0 x1 x5 (ix4 b h q k)
      = if k ≤ q then ((dotp xq xk b.val h.val 0 q.val k.val : ℝ) : EReal) * Ideal.log (Ideal.ofBits FTy.f32 1073741824#32)
          + ((xt (AttnBucket.row (q.val - k.val)).val h.val : ℝ) : EReal) else Ideal.ofBits FTy.f32 4286578688#32 := fun k => by
    rw [AttnRef.v80_apply, h5]
    simp only [h0, h1, ← EReal.coe_mul, ← AttnFlash.coe_sum, dotp, Nat.mul_zero, Nat.zero_add]
  rw [AttnRef.v91_apply x0 x1 x5 b h q k _ rfl _ rfl]
  exact soft q (fun k => dotp xq xk b.val h.val 0 q.val k.val) (fun k => xt (AttnBucket.row (q.val - k.val)).val h.val)
    (fun k => val_main_v80 (F := Ideal) x0 x1 x5 (ix4 b h q k)) hs _ (AttnRef.v81_apply x0 x1 x5 b h q _ rfl) k

/-- The reference's weights of the second half. -/
theorem ref_p1 (b h : Fin 8) (q k : Fin 4096) : val_main_v114 (F := Ideal) x0 x1 x5 (ix4 b h q k)
    = ((W xq xk xt b.val h.val 1 q.val k.val / den xq xk xt b.val h.val 1 q.val : ℝ) : EReal) := by
  have hs : ∀ k, val_main_v103 (F := Ideal) x0 x1 x5 (ix4 b h q k)
      = if k ≤ q then ((dotp xq xk b.val h.val 1 q.val k.val : ℝ) : EReal) * Ideal.log (Ideal.ofBits FTy.f32 1073741824#32)
          + ((xt (AttnBucket.row (q.val - k.val)).val h.val : ℝ) : EReal) else Ideal.ofBits FTy.f32 4286578688#32 := fun k => by
    rw [AttnRef.v103_apply, h5]
    simp only [h0, h1, ← EReal.coe_mul, ← AttnFlash.coe_sum, dotp, Nat.mul_one, Nat.add_assoc]
  rw [AttnRef.v114_apply x0 x1 x5 b h q k _ rfl _ rfl]
  exact soft q (fun k => dotp xq xk b.val h.val 1 q.val k.val) (fun k => xt (AttnBucket.row (q.val - k.val)).val h.val)
    (fun k => val_main_v103 (F := Ideal) x0 x1 x5 (ix4 b h q k)) hs _ (AttnRef.v104_apply x0 x1 x5 b h q _ rfl) k

include h2 in
/-- The reference's difference of attentions. -/
theorem ref_o (b h : Fin 8) (q : Fin 4096) (e : Fin 128)
    (hl : Ideal.exp (∑ x, x3 (ix2 0 x) * x3 (ix2 1 x)) - Ideal.exp (∑ x, x3 (ix2 2 x) * x3 (ix2 3 x)) + Ideal.ofBits FTy.f32 1052116297#32 = (L : EReal)) :
    val_main_v118 (F := Ideal) x0 x1 x2 x3 x5 (ix4 b h q e) = ((o xq xk xv xt L b.val h.val q.val e.val : ℝ) : EReal) := by
  rw [AttnRef.v118_apply x0 x1 x2 x3 x5 b h q e _ _ rfl rfl]
  exact differ (fun k => W xq xk xt b.val h.val 0 q.val k.val) (fun k => W xq xk xt b.val h.val 1 q.val k.val)
    (fun k => val xv b.val h.val e.val k.val) L _ _ _ _ hl (ref_p0 xq xk xt x0 x1 x5 h0 h1 h5 b h q)
    (ref_p1 xq xk xt x0 x1 x5 h0 h1 h5 b h q) fun k => h2 _ _ _ _

end Reference

end AttnReal
-- ==== Proof.AttnKer.lean ====
/- The kernel's sums in reals. -/
module

public import proofs.«01_k».proof.Proof.AttnReal
public import Idealize.ShloMosaic.Lib.Pointwise
public import Idealize.ShloMosaic.Lib.Pipeline.ValueKit

@[expose] public section

set_option maxRecDepth 16384
set_option maxHeartbeats 400000

noncomputable section

namespace AttnKer
open Idealize.ShloMosaic Idealize.ShloMosaic.TcCoe AttnSoft AttnReal
open Cert.AttnIdeal Cert.AttnIdeal.Gen AttnTrip AttnStage AttnFlash AttnBody

/-- The first 64 rows of the doubled queries. -/
theorem low : ∀ d : Fin 128, IntOp.cmpi CmpIPredicate.slt (BitVec.ofNat 32 d.val) 64#32 = if d.val < 64 then 1#1 else 0#1 := by decide +kernel

/-- The last 64 rows of the doubled queries. -/
theorem high : ∀ d : Fin 128, IntOp.cmpi CmpIPredicate.sge (BitVec.ofNat 32 d.val) 64#32 = if d.val < 64 then 0#1 else 1#1 := by decide +kernel

/-- The first half of the doubled queries. -/
theorem qq0 (x1 : Vec Ideal S512x128 .bf16) (d : Fin 128) (c : Fin 512) :
    qq x1 (ix2 d ⟨512 * 0 + c.val, by omega⟩) = if d.val / 64 = 0 then x1 (ix2 c d) else 0 := by
  have hl := low d
  unfold qq
  pointwise [k0_pay178]
  rw [hl]
  by_cases h : d.val < 64
  · rw [if_pos h, if_pos (by omega)]; rfl
  · rw [if_neg h, if_neg (by omega)]; rfl

/-- The second half of the doubled queries. -/
theorem qq1 (x1 : Vec Ideal S512x128 .bf16) (d : Fin 128) (c : Fin 512) :
    qq x1 (ix2 d ⟨512 * 1 + c.val, by omega⟩) = if d.val / 64 = 1 then x1 (ix2 c d) else 0 := by
  have hl := high d
  unfold qq
  pointwise [k0_pay178]
  rw [hl]
  by_cases h : d.val < 64
  · rw [if_pos h, if_neg (by omega)]; rfl
  · rw [if_neg h, if_pos (by omega)]; rfl

/-- The doubled queries: half `p` of the columns carries half `p` of the rows. -/
theorem qq_apply (x1 : Vec Ideal S512x128 .bf16) (d : Fin 128) (c : Fin 512) (p : Fin 2) :
    qq x1 (ix2 d ⟨512 * p.val + c.val, by omega⟩) = if d.val / 64 = p.val then x1 (ix2 c d) else 0 :=
  match p with
  | 0 => qq0 x1 d c
  | 1 => qq1 x1 d c

/-- A sum over 128 rows that keeps one half. -/
theorem half (f : ℕ → ℝ) (p : Fin 2) : ∑ d : Fin 128, (if d.val / 64 = p.val then f d.val else 0) = ∑ d : Fin 64, f (64 * p.val + d.val) := by
  rw [← Finset.sum_range (n := 128) (fun d => if d / 64 = p.val then f d else 0), ← Finset.sum_range (n := 64) (fun d => f (64 * p.val + d)),
    ← Finset.sum_filter]
  refine (Finset.sum_bij (fun d _ => 64 * p.val + d) (fun d hd => ?_) (fun a _ b _ e => ?_) (fun d hd => ?_) fun _ _ => rfl).symm
  · rw [Finset.mem_range] at hd; rw [Finset.mem_filter, Finset.mem_range]; omega
  · omega
  · rw [Finset.mem_filter, Finset.mem_range] at hd
    exact ⟨d - 64 * p.val, Finset.mem_range.2 (by omega), by omega⟩

section Blocks
variable (xq xk : ℕ → ℕ → ℝ) (xv : ℕ → ℕ → ℕ → ℕ → ℝ) (xt : ℕ → ℕ → ℝ)
  (n b : Fin 8) (h : Fin 8) (T : FVec Ideal S32x8 .f32)
  (x1 : Vec Ideal S512x128 .bf16) (x2 : Vec Ideal S4096x128 .bf16) (x3 : Vec Ideal S1x16x128x256 .bf16) (x4 : Vec Ideal S1x4x256x1024 .f32)
  (h1 : ∀ c d, x1 (ix2 c d) = ((xq (b.val * 4096 + (512 * n.val + c.val)) (h.val * 128 + d.val) : ℝ) : EReal))
  (h2 : ∀ k d, x2 (ix2 k d) = ((xk (b.val * 4096 + k.val) (h.val * 128 + d.val) : ℝ) : EReal))
  (h3 : ∀ j e x, x3 (ix4 0 j e x) = ((xv b.val j.val (h.val * 128 + e.val) x.val : ℝ) : EReal))
  (h4 : ∀ d r x, x4 (ix4 0 d r x) = Ideal.div (AttnBias.entry T h d.val r.val (x.val % 512)) (Ideal.log (Ideal.ofBits FTy.f32 1073741824#32)))
  (hT : ∀ i j, T (ix2 i j) = ((xt i.val j.val : ℝ) : EReal))

/-- A real divided by the logarithm of two. -/
theorem div_log (t : ℝ) : Ideal.div (t : EReal) (Ideal.log (Ideal.ofBits FTy.f32 1073741824#32)) = ((t / Real.log 2 : ℝ) : EReal) := by
  rw [log2, Ideal.div_coe log2_pos.ne', ← EReal.coe_mul, mul_one_div]

/-- Minus infinity divided by the logarithm of two. -/
theorem div_bot : Ideal.div ⊥ (Ideal.log (Ideal.ofBits FTy.f32 1073741824#32)) = ⊥ := by
  rw [log2, Ideal.div_coe log2_pos.ne', EReal.bot_mul_coe_of_pos (by have := log2_pos; positivity)]

include h4 hT in
/-- No bias is plus infinity. -/
theorem bias_ne (d : Fin 4) (r : Fin 256) (x : Fin 1024) : x4 (ix4 0 d r x) ≠ ⊤ := by
  rw [h4]
  unfold AttnBias.entry
  split
  · rw [hT, div_log]; exact EReal.coe_ne_top _
  · split
    · rw [hT, div_log]; exact EReal.coe_ne_top _
    · rw [div_bot]; exact bot_ne_top

include h4 hT in
/-- The bias a block of keys takes: the table's row of the distance where the key is at or before the query. -/
theorem bias_real (j : ℕ) (hj : j ≤ 2 * n.val + 1) (r : Fin 256) (c : Fin 512) (p : Fin 2) :
    x4 (ix4 0 (tile n.val j) r ⟨512 * p.val + c.val, by omega⟩)
      = if 256 * j + r.val ≤ 512 * n.val + c.val then
          ((xt (AttnBucket.row (512 * n.val + c.val - (256 * j + r.val))).val h.val / Real.log 2 : ℝ) : EReal) else ⊥ := by
  have hn := n.isLt
  have hp := p.isLt
  have hc : (512 * p.val + c.val) % 512 = c.val := by omega
  have ht : (tile n.val j).val = min (2 * n.val + 1 - j) 3 := by
    show min (2 * n.val + 1 - j) 3 % 4 = _
    omega
  rw [h4]
  simp only [hc, ht]
  unfold AttnBias.entry
  by_cases h3 : min (2 * n.val + 1 - j) 3 = 3
  · rw [if_pos h3, if_pos (by omega), AttnBucket.row_far _ (by omega) (by omega), hT, div_log]
  · rw [if_neg h3]
    by_cases hk : 256 * j + r.val ≤ 512 * n.val + c.val
    · rw [if_pos (by omega), if_pos hk, hT, div_log]
      rw [show 256 * min (2 * n.val + 1 - j) 3 + c.val - (r.val + 256) = 512 * n.val + c.val - (256 * j + r.val) by omega]
    · rw [if_neg (by omega), if_neg hk, div_bot]

include h1 h2 in
/-- The product of a key with a doubled query is the product of one half. -/
theorem dot_real (j : ℕ) (hj : j < 16) (r : Fin 256) (c : Fin 512) (p : Fin 2) :
    ∑ d : Fin 128, x2 (ix2 (Fin.ofNat 4096 (256 * j + r.val)) d) * qq x1 (ix2 d ⟨512 * p.val + c.val, by omega⟩)
      = ((dotp xq xk b.val h.val p.val (512 * n.val + c.val) (256 * j + r.val) : ℝ) : EReal) := by
  have hr := r.isLt
  have hk : (Fin.ofNat 4096 (256 * j + r.val)).val = 256 * j + r.val := Nat.mod_eq_of_lt (by omega)
  have hd : ∀ d : Fin 128, x2 (ix2 (Fin.ofNat 4096 (256 * j + r.val)) d) * qq x1 (ix2 d ⟨512 * p.val + c.val, by omega⟩)
      = (((if d.val / 64 = p.val then xq (b.val * 4096 + (512 * n.val + c.val)) (h.val * 128 + d.val)
          * xk (b.val * 4096 + (256 * j + r.val)) (h.val * 128 + d.val) else 0 : ℝ)) : EReal) := fun d => by
    rw [qq_apply, h2, hk]
    split
    · rw [h1, ← EReal.coe_mul, mul_comm]
    · rw [mul_zero, EReal.coe_zero]
  rw [Finset.sum_congr rfl fun d _ => hd d, ← coe_sum]
  congr 1
  exact half (fun d => xq (b.val * 4096 + (512 * n.val + c.val)) (h.val * 128 + d) * xk (b.val * 4096 + (256 * j + r.val)) (h.val * 128 + d)) p

include h1 h2 h4 hT

/-- A score of a block is real or minus infinity. -/
theorem sc_real (j : ℕ) (hj : j ≤ 2 * n.val + 1) (r : Fin 256) (c : Fin 512) (p : Fin 2) :
    sc n.val x2 (qq x1) x4 j r ⟨512 * p.val + c.val, by omega⟩
      = if 256 * j + r.val ≤ 512 * n.val + c.val then
          ((dotp xq xk b.val h.val p.val (512 * n.val + c.val) (256 * j + r.val)
            + xt (AttnBucket.row (512 * n.val + c.val - (256 * j + r.val))).val h.val / Real.log 2 : ℝ) : EReal) else ⊥ := by
  unfold sc
  rw [dot_real xq xk n b h x1 x2 h1 h2 j (by omega) r c p, bias_real xt n h T x4 h4 hT j hj r c p]
  split
  · rw [EReal.coe_add]
  · rw [EReal.add_bot]

/-- No score is plus infinity. -/
theorem sc_ne (j : ℕ) (r : Fin 256) (c : Fin 512) (p : Fin 2) : sc n.val x2 (qq x1) x4 j r ⟨512 * p.val + c.val, by omega⟩ ≠ ⊤ := by
  unfold sc
  have hd : ∃ s : ℝ, ∑ d : Fin 128, x2 (ix2 (Fin.ofNat 4096 (256 * j + r.val)) d) * qq x1 (ix2 d ⟨512 * p.val + c.val, by omega⟩) = (s : EReal) := by
    refine ⟨∑ d : Fin 128, xk (b.val * 4096 + (Fin.ofNat 4096 (256 * j + r.val)).val) (h.val * 128 + d.val)
      * (if d.val / 64 = p.val then xq (b.val * 4096 + (512 * n.val + c.val)) (h.val * 128 + d.val) else 0), ?_⟩
    rw [coe_sum]
    refine Finset.sum_congr rfl fun d _ => ?_
    rw [qq_apply, h2, EReal.coe_mul]
    split
    · rw [h1]
    · rw [EReal.coe_zero]
  obtain ⟨s, hs⟩ := hd
  rw [hs]
  refine ne_of_lt (EReal.add_lt_top (EReal.coe_ne_top _) (bias_ne xt h T x4 h4 hT _ _ _))

/-- The weight of a score. -/
theorem wt_real (j : ℕ) (hj : j ≤ 2 * n.val + 1) (r : Fin 256) (c : Fin 512) (p : Fin 2) :
    wt (sc n.val x2 (qq x1) x4 j r ⟨512 * p.val + c.val, by omega⟩) = W xq xk xt b.val h.val p.val (512 * n.val + c.val) (256 * j + r.val) := by
  rw [sc_real xq xk xt n b h T x1 x2 x4 h1 h2 h4 hT j hj r c p]
  unfold W wgt
  split
  · rw [wt_coe]
  · rw [wt_bot]

/-- The sums over the blocks a grid point visits are the sums over all keys. -/
theorem visit (g : ℕ → ℝ) (c : Fin 512) (p : Fin 2) :
    ∑ i ∈ Finset.range (2 * n.val + 1 + 1), ∑ x : Fin 256, g (256 * i + x.val) * wt (sc n.val x2 (qq x1) x4 i x ⟨512 * p.val + c.val, by omega⟩)
      = ∑ k : Fin 4096, g k.val * W xq xk xt b.val h.val p.val (512 * n.val + c.val) k.val := by
  have hn := n.isLt
  rw [regroup (fun k => g k * W xq xk xt b.val h.val p.val (512 * n.val + c.val) k) (2 * n.val + 1 + 1) (by omega) fun k hk => ?_]
  · refine Finset.sum_congr rfl fun i hi => Finset.sum_congr rfl fun x _ => ?_
    rw [Finset.mem_range] at hi
    rw [wt_real xq xk xt n b h T x1 x2 x4 h1 h2 h4 hT i (by omega) x c p]
  · unfold W wgt
    rw [if_neg (by omega), mul_zero]

include h3 in
/-- A column's sum over its normaliser is the ratio of the sums over all keys. -/
theorem ratio_real (e : Fin 128) (c : Fin 512) (p : Fin 2) :
    ac n.val x2 x3 (qq x1) x4 (2 * n.val + 3) ⟨e.val, by omega⟩ ⟨512 * p.val + c.val, by omega⟩
        * Ideal.div 1 (ac n.val x2 x3 (qq x1) x4 (2 * n.val + 3) 128 ⟨512 * p.val + c.val, by omega⟩)
      = ((num xq xk xv xt b.val h.val p.val (512 * n.val + c.val) e.val / den xq xk xt b.val h.val p.val (512 * n.val + c.val) : ℝ) : EReal) := by
  have hv : ∀ j (x : Fin 256), (if he : (⟨e.val, by omega⟩ : Fin 144).val < 128 then vblk x3 j ⟨e.val, he⟩ x else 1)
      = ((xv b.val (j % 16) (h.val * 128 + e.val) x.val : ℝ) : EReal) := fun j x => by
    rw [dif_pos e.isLt]
    exact h3 _ _ _
  refine (ratio n.val x2 x3 (qq x1) x4 ⟨512 * p.val + c.val, by omega⟩ ⟨e.val, by omega⟩
    (fun j x => xv b.val (j % 16) (h.val * 128 + e.val) x.val) hv
    (fun j r => sc_ne xq xk xt n b h T x1 x2 x4 h1 h2 h4 hT j r c p) ⟨0, ?_⟩ (2 * n.val + 1)).trans ?_
  · rw [sc_real xq xk xt n b h T x1 x2 x4 h1 h2 h4 hT 0 (by omega) 0 c p, if_pos (by simp)]
    exact EReal.coe_ne_bot _
  · have hd := visit xq xk xt n b h T x1 x2 x4 h1 h2 h4 hT (fun _ => 1) c p
    have hm := visit xq xk xt n b h T x1 x2 x4 h1 h2 h4 hT (val xv b.val h.val e.val) c p
    simp only [one_mul] at hd
    unfold num den
    rw [← hd, ← hm]
    congr 2
    refine Finset.sum_congr rfl fun i hi => Finset.sum_congr rfl fun x _ => ?_
    have hn := n.isLt
    have hx := x.isLt
    rw [Finset.mem_range] at hi
    unfold val
    rw [show (256 * i + x.val) / 256 = i % 16 by omega, show (256 * i + x.val) % 256 = x.val by omega]

end Blocks

end AttnKer
-- ==== Proof.AttnBody.lean ====
/- One grid point of the attention call: what its body leaves in the output block. -/
module

public import proofs.«01_k».proof.Proof.Gen.AttnIdeal.Frame
public import proofs.«01_k».proof.Proof.Gen.AttnIdeal.Loops
public import proofs.«01_k».proof.Proof.AttnState
public import Idealize.ShloMosaic.Lib.Pointwise
public import Idealize.ShloMosaic.Lib.Pipeline.ValueKit

@[expose] public section

set_option maxRecDepth 16384

noncomputable section

namespace AttnBody

open Cert.AttnIdeal Cert.AttnIdeal.Gen AttnTrip AttnStage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What a scratch buffer holds between two grid points: the whole buffer, at some contents. -/
theorem scratch_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

set_option maxHeartbeats 4000000 in
/-- One grid point from any contents of the scratch and of the output: the body runs to its end, and gives back the
    inputs as they were and the other buffers at some contents. -/
theorem body_runs (c : Dev nD) (i : grid0.Coords)
    (arg3 : Memref sig .tc .vmem S4x64 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S1x16x128x256 .bf16) (harg6 : arg6.IsWhole)
    (arg7 : Memref sig .tc .vmem S1x4x256x1024 .f32) (harg7 : arg7.IsWhole) (arg8 : Memref sig .tc .vmem S128x512 .f32) (harg8 : arg8.IsWhole)
    (arg9 : Memref sig .tc .vmem S512x128 .bf16) (harg9 : arg9.IsWhole) (arg10 : Memref sig .tc .vmem S1x1024 .f32) (harg10 : arg10.IsWhole)
    (arg11 : Memref sig .tc .vmem S144x1024 .f32) (harg11 : arg11.IsWhole) (arg12 : Memref sig .tc .vmem S128x1024 .bf16) (harg12 : arg12.IsWhole)
    (arg13 : Memref sig .tc .vmem S2x256x1024 .bf16) (harg13 : arg13.IsWhole) (arg14 : Memref sig .tc .vmem S2x1x1024 .f32) (harg14 : arg14.IsWhole)
    (x0 : Vec Ideal S4x64 .f32) (x1 : Vec Ideal S512x128 .bf16) (x2 : Vec Ideal S4096x128 .bf16) (x3 : Vec Ideal S1x16x128x256 .bf16)
    (x4 : Vec Ideal S1x4x256x1024 .f32) (x5 : Vec Ideal S128x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (outBlk i x0 x1 x2 x3 x4 x5) ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none c none) E
          (cc0_diff_attn i arg3 harg3 arg4 harg4 arg5 harg5 arg6 harg6 arg7 harg7 arg8 harg8 arg9 harg9 arg10 harg10 arg11 harg11 arg12 harg12 arg13 harg13 arg14 harg14) K := by
  simp only [cc0_diff_attn_eq_skeleton]; unfold cc0_diff_attn_skel
  simp only [k0_part27_eq_skeleton, k0_part28_eq_skeleton, k0_part29_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [whole_read arg9 f6 zero2]
    unfold body_runs.sl.r_2 body_runs.sl.r_3 body_runs.sl.v91 body_runs.sl.v92 body_runs.sl.cst_55
    rw [View.readCov_eq_canon', View.readCov_eq_canon', View.readAt_eq_ld, View.readAt_eq_ld, View.ld_unit_zero zero2, View.ld_unit_zero zero2, harg3.read_unread, harg8.read_unread]
    unfold body_runs.sl.HS1_1_1
    rw [View.canon_cons_unit_zero zero2]
    generalize hw : k0_pay190 (body_runs.sl.r i arg6 harg6 x3) _ _ _ = w
    have hs : w = sums i x1 x2 x3 x4 := by
      rw [← hw]
      unfold body_runs.sl.r body_runs.sl.r_1 body_runs.sl.v63 body_runs.sl.v65 body_runs.sl.v68
      have H := loop_holds i arg5 arg6 arg7 arg10 arg11 arg12 arg13 arg14 (harg5.unread x2) (harg6.unread x3) (harg7.unread x4)
        (arg12.view.writes (Elt Ideal) arg12.view.junk (body_runs.sl.HS2_1 c arg4 harg4 x1)) c arg3 harg3 arg4 harg4 harg5 harg6 harg7 arg8 harg8 arg9 harg9 harg10 harg11 harg12 harg13 harg14
        (body_runs.sl.v1 i) (arg10.view.writes (Elt Ideal) arg10.view.junk body_runs.sl.HS0_1) (arg11.view.writes (Elt Ideal) arg11.view.junk body_runs.sl.HS1_1)
        (arg13.view.writes (Elt Ideal) fs3 [⟨Rect.unit ![1, 0, 0] S1x256x1024.size inb_S2x256x1024_S1x256x1024_1_0_0, k0_pay182 (F := Ideal)⟩])
        (arg14.view.writes (Elt Ideal) fs4 [⟨Rect.unit ![1, 0, 0] S1x1x1024.size inb_S2x1x1024_S1x1x1024_1_0_0, k0_pay183 (F := Ideal)⟩])
        (starts i arg5 arg6 arg7 arg10 arg11 arg12 arg13 arg14 _ _ _ _ _ _ fs3 fs4) ((i 2).val + 1) (le_of_eq (trips1 i).symm)
      simp only [show Scf.trips (k0_t2_loop i).lb (k0_t2_loop i).ub (k0_t2_loop i).st = 0 from trips2 i,
        show Scf.trips (k0_t1_loop i).lb (k0_t1_loop i).ub (k0_t1_loop i).st = (i 2).val + 1 from trips1 i, pb_k0_t2, List.nil_append]
      generalize pb_k0_t1 (F := Ideal) Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ = P at H ⊢
      have hq : arg12.view.read (Elt Ideal) (arg12.view.writes (Elt Ideal) arg12.view.junk (body_runs.sl.HS2_1 c arg4 harg4 x1)) = qq x1 := by
        unfold body_runs.sl.HS2_1
        rw [whole_read arg12 _ zero2, View.readAt_eq_ld, View.ld_unit_zero zero2, harg4.read_unread]
        rfl
      have Ha := H.acc
      have He := H.exp
      have Hd := H.dec
      rw [harg5.read_unread, harg7.read_unread, hq] at Ha He Hd
      rw [harg6.read_unread] at Ha
      have hb : (i 2).val < 8 := (i 2).isLt
      funext y
      idx_vars y
      rw [last_pay, acc_store]
      show _ = ac (i 2).val x2 x3 (qq x1) x4 (2 * ((i 2).val + 1) + 1) y0 y1
      rw [ac]
      congr 1
      · funext e x
        rw [View.readAt_eq_ld, harg6.read_unread]
        exact vblk_ld x3 (by omega) (lastRow i) _ e x
      · funext c'
        exact (state14 arg14 fs4 _ c').trans (Hd c')
      · funext r c'
        exact (state13 arg13 fs3 _ r c').trans (He r c')
      · funext e c'
        exact (state11 arg11 arg11.view.junk _ e c').trans (Ha e c')
    subst hs
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end AttnBody

end
-- ==== Proof.AttnRun.lean ====
/- The attention call's run, with the array it leaves named block by block. -/
module

public import proofs.«01_k».proof.Proof.Gen.AttnIdeal.Frame
public import proofs.«01_k».proof.Proof.Gen.AttnIdeal.Loops
public import proofs.«01_k».proof.Proof.AttnBody
public import Idealize.ShloMosaic.Lib.Pointwise
public import Idealize.ShloMosaic.Lib.Pipeline.ValueKit

@[expose] public section

set_option maxRecDepth 16384

noncomputable section

namespace AttnBody

open Cert.AttnIdeal Cert.AttnIdeal.Gen AttnTrip AttnStage
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data: each input's staging buffer at its block, the output at its block, the scratch at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.ΦA spec0 c
  q _ := fullShare
  owed _ := 0

/-- The arrays of the proof data are those of the region's start. -/
theorem arrays (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]

theorem left_6 (c : Dev nD) (t : Fin cfg0.N) : (dats m 0 c).after 6 t = outBlk (grid0.coords t) (iblk m c 0 t) (iblk m c 1 t) (iblk m c 2 t) (iblk m c 3 t) (iblk m c 4 t) (iblk m c 5 t) := by dsimp only [dats]

set_option maxHeartbeats 4000000 in
/-- The body at every grid point, between the proof data's invariants. -/
theorem point_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := Ideal)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t))) := by
  unfold bodyAt0
  simp only [before0_0_of m (dats m 0 c) (arrays m c 0) (left_0 m c) t, before0_1_of m (dats m 0 c) (arrays m c 1) (left_1 m c) t,
    before0_2_of m (dats m 0 c) (arrays m c 2) (left_2 m c) t, before0_3_of m (dats m 0 c) (arrays m c 3) (left_3 m c) t,
    before0_4_of m (dats m 0 c) (arrays m c 4) (left_4 m c) t, before0_5_of m (dats m 0 c) (arrays m c 5) (left_5 m c) t]
  rw [show (dats m 0 c).owesAt () t.succ = (dats m 0 c).owesAt () t.castSucc from rfl,
    left_0, left_1, left_2, left_3, left_4, left_5, left_6,
    show (dats m 0 c).Φ t.succ = Pipeline.ΦA spec0 c from rfl, show (dats m 0 c).Φ t.castSucc = Pipeline.ΦA spec0 c from rfl, scratch_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (body_runs c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline. -/
theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by
    unfold defs₀; rw [Defs.onTc_tc]]
  exact triple_restated (point_runs m c t) rfl .rfl fun _ => .rfl

set_option backward.isDefEq.respectTransparency.types false in
/-- The launch: every array of the pipeline ends as the proof data says, and every semaphore counter is at zero. -/
theorem launched : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m)
    (hin := fun _ => Idealize.SL.BI.Entails.refl _) (hout := fun _ => Idealize.SL.BI.Entails.refl _)

/-- The frame of the call: it terminates, its arguments end as launched, and the machine is quiescent. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays m) ((θ_run defs _ _).mono (fun _ h => h.1) (launched m ρ)))
    ((θ_run defs _ _).mono (fun _ h => h.2) (launched m ρ))

/-- The run, with the result array named. -/
theorem run_named : θ_run defs (onTc (τ := τ) (main (F := Ideal))) ⟨m, fun _ => 0, ρ⟩ (fun r => ∀ c : Dev nD,
      r.2.mem ((c.tc : Thread nD τ).loc main_v78) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h1 : θ_run defs (onTc (τ := τ) (main (F := Ideal))) ⟨m, fun _ => 0, ρ⟩ (fun r => ∀ c : Dev nD,
      r.2.mem ((c.tc : Thread nD τ).loc main_v78) = (dats m 0 c).arrAt 6 cfg0.N) :=
    (θ_run defs _ _).mono (fun _ h c => (h.1 c).1 6) (launched m ρ)
  exact (θ_run defs _ _).mono (fun _ h c => ⟨h.1 c, h.2.1 c⟩) (θ_run_and h1 (frame m ρ))

end AttnBody

end
-- ==== Proof.AttnVal.lean ====
/- The array the attention call leaves and the array its reference leaves, for arguments that are real: the same one. -/
module

public import proofs.«01_k».proof.Proof.AttnKer
public import proofs.«01_k».proof.Proof.AttnRun
public import Idealize.ShloMosaic.Lib.Claim

@[expose] public section

set_option maxRecDepth 16384
set_option maxHeartbeats 400000

noncomputable section

namespace AttnVal
open Idealize.ShloMosaic Idealize.ShloMosaic.TcCoe AttnReal

/-- A row divided by its root mean square, times the gain and the constant that follows it. -/
def scale (w g : Fin 128 → EReal) (e : Fin 128) : EReal :=
  w e * Ideal.rsqrt (Ideal.div (∑ x, w x * w x) (Ideal.ofBits FTy.f32 1124073472#32) + Ideal.ofBits FTy.f32 925353388#32)
    * g e * Ideal.ofBits FTy.f32 1059388764#32

/-- The factor the second attention is taken with. -/
def lam (x3 : FVec Ideal Cert.AttnRefIdeal.S4x64 .f32) : EReal :=
  Ideal.exp (∑ x, x3 (ix2 0 x) * x3 (ix2 1 x)) - Ideal.exp (∑ x, x3 (ix2 2 x) * x3 (ix2 3 x)) + Ideal.ofBits FTy.f32 1052116297#32

variable (xq xk : ℕ → ℕ → ℝ) (xv : ℕ → ℕ → ℕ → ℕ → ℝ) (xt : ℕ → ℕ → ℝ) (L : ℝ)

/-- The call's result on whole arrays. -/
def G (g : FVec Ideal Cert.AttnRefIdeal.S128 .f32) : FVec Ideal Cert.AttnRefIdeal.S32768x1024 .bf16 := fun i =>
  scale (fun e => ((o xq xk xv xt L ((i 0).val / 4096) ((i 1).val / 128) ((i 0).val % 4096) e.val : ℝ) : EReal)) (fun e => g (ix1 e))
    ⟨(i 1).val % 128, Nat.mod_lt _ (by norm_num)⟩

namespace Ref
open Cert.AttnRefIdeal Cert.AttnRefIdeal.Read

/-- The reference's result. -/
theorem v136_eq (x0 x1 : FVec Ideal S32768x1024 .bf16) (x2 : FVec Ideal S8x16x1024x256 .bf16) (x3 : FVec Ideal S4x64 .f32)
    (x4 : FVec Ideal S128 .f32) (x5 : FVec Ideal S32x8 .f32)
    (h0 : ∀ i j, x0 (ix2 i j) = ((xq i.val j.val : ℝ) : EReal)) (h1 : ∀ i j, x1 (ix2 i j) = ((xk i.val j.val : ℝ) : EReal))
    (h2 : ∀ a b c d, x2 (ix4 a b c d) = ((xv a.val b.val c.val d.val : ℝ) : EReal))
    (h5 : ∀ i j, x5 (ix2 i j) = ((xt i.val j.val : ℝ) : EReal)) (hl : lam x3 = (L : EReal)) :
    val_main_v136 (F := Ideal) x0 x1 x2 x3 x4 x5 = G xq xk xv xt L x4 := by
  funext i
  idx_vars i
  rw [AttnRef.v136_apply x0 x1 x2 x3 x4 x5 i0 i1 _ rfl]
  simp only [ref_o xq xk xv xt L x0 x1 x2 x3 x5 h0 h1 h2 h5 _ _ _ _ hl]
  rfl

end Ref

namespace Kernel
open Cert.AttnIdeal Cert.AttnIdeal.Gen AttnTrip AttnStage AttnFlash AttnBody
open Idealize.ShloMosaic.StableHlo (after)

/-- The difference of attentions of one block, from its sums. -/
theorem p191_apply (x0 : Vec Ideal S4x64 .f32) (a : Vec Ideal S128x1024 .f32) (b : Vec Ideal S1x1024 .f32) (e : Fin 128) (c : Fin 512) :
    k0_pay191 x0 a b (ix2 e c) = a (ix2 e ⟨512 * 0 + c.val, by omega⟩) * Ideal.div 1 (b (ix2 0 ⟨512 * 0 + c.val, by omega⟩))
      - lam x0 * (a (ix2 e ⟨512 * 1 + c.val, by omega⟩) * Ideal.div 1 (b (ix2 0 ⟨512 * 1 + c.val, by omega⟩))) := by
  pointwise [k0_pay191]
  rfl

/-- The output block's entries from the difference of attentions. -/
theorem p1_apply (x0 : Vec Ideal S4x64 .f32) (a : Vec Ideal S128x1024 .f32) (b : Vec Ideal S1x1024 .f32) (x5 : Vec Ideal S128x512 .f32)
    (e : Fin 128) (c : Fin 512) :
    k0_pay1 (k0_pay191 x0 a b) (k0_pay192 x0 a b) (FloatOps.ofBits FTy.f32 1124073472#32) x5 (ix2 c e)
      = scale (fun e => k0_pay191 x0 a b (ix2 e c)) (fun e => x5 (ix2 e c)) e := by
  have e1 : k0_pay192 x0 a b (ix2 0 c) = ∑ x : Fin 128, k0_pay191 x0 a b (ix2 x c) * k0_pay191 x0 a b (ix2 x c) := by
    pointwise [k0_pay192]
  generalize k0_pay192 x0 a b = g at e1
  generalize k0_pay191 x0 a b = w at e1
  pointwise [k0_pay1]
  rw [e1]
  rfl

/-- The upper rows of the sums. -/
theorem ld_up (X : Vec Ideal S144x1024 .f32) (e : Fin 128) (c : Fin 1024) :
    View.ld X (Rect.unit ![0, 0] S128x1024.size inb_S144x1024_S128x1024_0_0) (ix2 e c) = X (ix2 ⟨e.val, by omega⟩ c) := by
  refine congrArg X (funext fun a => Fin.ext ?_)
  fin_cases a
  · show 0 + 1 * e.val = e.val; omega
  · show 0 + 1 * c.val = c.val; omega

/-- The row of the normalisers. -/
theorem ld_norm (X : Vec Ideal S144x1024 .f32) (c : Fin 1024) :
    View.ld X (Rect.unit ![128, 0] S1x1024.size inb_S144x1024_S1x1024_128_0) (ix2 0 c) = X (ix2 128 c) := by
  refine congrArg X (funext fun a => Fin.ext ?_)
  fin_cases a
  · rfl
  · show 0 + 1 * c.val = c.val; omega

section Blocks
variable (i : grid0.Coords) (n b h : Fin 8) (hi : (i 2).val = n.val) (T : FVec Ideal S32x8 .f32)
  (x0 : Vec Ideal S4x64 .f32) (x1 : Vec Ideal S512x128 .bf16) (x2 : Vec Ideal S4096x128 .bf16) (x3 : Vec Ideal S1x16x128x256 .bf16)
  (x4 : Vec Ideal S1x4x256x1024 .f32) (x5 : Vec Ideal S128x512 .f32)
  (h1 : ∀ c d, x1 (ix2 c d) = ((xq (b.val * 4096 + (512 * n.val + c.val)) (h.val * 128 + d.val) : ℝ) : EReal))
  (h2 : ∀ k d, x2 (ix2 k d) = ((xk (b.val * 4096 + k.val) (h.val * 128 + d.val) : ℝ) : EReal))
  (h3 : ∀ j e x, x3 (ix4 0 j e x) = ((xv b.val j.val (h.val * 128 + e.val) x.val : ℝ) : EReal))
  (h4 : ∀ d r x, x4 (ix4 0 d r x) = Ideal.div (AttnBias.entry T h d.val r.val (x.val % 512)) (Ideal.log (Ideal.ofBits FTy.f32 1073741824#32)))
  (hT : ∀ i j, T (ix2 i j) = ((xt i.val j.val : ℝ) : EReal)) (hl : lam x0 = (L : EReal))
include hi h1 h2 h3 h4 hT hl

/-- The block a grid point writes. -/
theorem block_apply (c : Fin 512) (e : Fin 128) : outBlk i x0 x1 x2 x3 x4 x5 (ix2 c e)
    = scale (fun e => ((o xq xk xv xt L b.val h.val (512 * n.val + c.val) e.val : ℝ) : EReal)) (fun e => x5 (ix2 e c)) e := by
  unfold outBlk
  rw [p1_apply]
  refine congrArg (fun w => scale w (fun e => x5 (ix2 e c)) e) (funext fun e => ?_)
  rw [p191_apply, ld_up, ld_up, ld_norm, ld_norm]
  have h0 := AttnKer.ratio_real xq xk xv xt n b h T x1 x2 x3 x4 h1 h2 h3 h4 hT e c 0
  have h1' := AttnKer.ratio_real xq xk xv xt n b h T x1 x2 x3 x4 h1 h2 h3 h4 hT e c 1
  unfold sums
  rw [hi, hl]
  refine (congrArg₂ (fun a b => a - (L : EReal) * b) h0 h1').trans ?_
  rw [← EReal.coe_mul, ← EReal.coe_sub]
  rfl

end Blocks

variable (m : (ℓ : Loc nD τ sig) → Buf (Elt Ideal) ℓ)

/-- Where each window's block lies: a grid point is a head, a batch entry and a block of queries. -/
theorem idx : ∀ t : Fin cfg0.N, win0_0.index t = ![0, 0] ∧ win0_1.index t = ![t.val % 64, t.val / 64] ∧ win0_2.index t = ![t.val / 8 % 8, t.val / 64]
    ∧ win0_3.index t = ![t.val / 8 % 8, 0, t.val / 64, 0] ∧ win0_4.index t = ![t.val / 64, 0, 0, 0] ∧ win0_5.index t = ![0, 0]
    ∧ win0_6.index t = ![t.val % 64, t.val / 64] ∧ (grid0.coords t 2).val = t.val % 8 :=
  (by decide +kernel : ∀ t : Fin grid0.N, win0_0.index t = ![0, 0] ∧ win0_1.index t = ![t.val % 64, t.val / 64] ∧ win0_2.index t = ![t.val / 8 % 8, t.val / 64]
    ∧ win0_3.index t = ![t.val / 8 % 8, 0, t.val / 64, 0] ∧ win0_4.index t = ![t.val / 64, 0, 0, 0] ∧ win0_5.index t = ![0, 0]
    ∧ win0_6.index t = ![t.val % 64, t.val / 64] ∧ (grid0.coords t 2).val = t.val % 8)

/-- There are 512 grid points. -/
theorem points (t : Fin cfg0.N) : t.val < 512 := lt_of_lt_of_eq t.isLt (by decide +kernel : grid0.N = 512)

/-- The gain's operand: the gain repeated along the queries. -/
theorem gain_gen (E : Valuation τ sig (Elt Ideal)) (e : Fin 128) (c : Fin 512) :
    (after (hostOps0_8.drop 20) E (Proc.devRef .tc main_v77) : (⟨S128x512, .f32⟩ : BufTy).Contents (Elt Ideal)) (ix2 e c)
      = (after (hostOps0_8.drop 20) E (Proc.devRef .tc main_arg4) : (⟨S128, .f32⟩ : BufTy).Contents (Elt Ideal)) (ix1 e) := by
  simp only [hostOps0_8, List.drop_succ_cons, List.drop_zero]
  after_results_simp
  pointwise []

/-- The same of the buffers the region finds. -/
theorem gain_apply (c : Dev nD) (e : Fin 128) (x : Fin 512) :
    (V m c main_v77 : (⟨S128x512, .f32⟩ : BufTy).Contents (Elt Ideal)) (ix2 e x)
      = (m ((c : Thread nD τ).loc main_arg4) : (⟨S128, .f32⟩ : BufTy).Contents (Elt Ideal)) (ix1 e) := by
  rw [← V_main_arg4 m c]
  have e8 : List.flatten [hostOps0, hostOps0_1, hostOps0_2, hostOps0_3, hostOps0_4, hostOps0_5, hostOps0_6, hostOps0_7, (hostOps0_8 : List (HloOp τ sig (Elt Ideal)))]
      = List.flatten [hostOps0, hostOps0_1, hostOps0_2, hostOps0_3, hostOps0_4, hostOps0_5, hostOps0_6, hostOps0_7, hostOps0_8.take 20] ++ hostOps0_8.drop 20 := rfl
  unfold V
  rw [e8, AttnBias.after_app]
  exact gain_gen _ e x

section Windows
variable (c : Dev nD) (t : Fin cfg0.N)

theorem w0 : iblk m c 0 t = m ((c : Thread nD τ).loc main_arg3) := by
  funext y
  blk_ext [iblk, V, idx t]

theorem w1 (r : Fin 512) (d : Fin 128) : (iblk m c 1 t : Vec Ideal S512x128 .bf16) (ix2 r d)
    = (m ((c : Thread nD τ).loc main_arg0) : (⟨S32768x1024, .bf16⟩ : BufTy).Contents (Elt Ideal))
        (ix2 ⟨(t.val / 8 % 8) * 4096 + (512 * (t.val % 8) + r.val), by omega⟩ ⟨(t.val / 64) * 128 + d.val, by have := points t; omega⟩) := by
  blk_ext [iblk, V, idx t]

theorem w2 (r : Fin 4096) (d : Fin 128) : (iblk m c 2 t : Vec Ideal S4096x128 .bf16) (ix2 r d)
    = (m ((c : Thread nD τ).loc main_arg1) : (⟨S32768x1024, .bf16⟩ : BufTy).Contents (Elt Ideal))
        (ix2 ⟨(t.val / 8 % 8) * 4096 + r.val, by omega⟩ ⟨(t.val / 64) * 128 + d.val, by have := points t; omega⟩) := by
  blk_ext [iblk, V, idx t]

theorem w3 (j : Fin 16) (e : Fin 128) (x : Fin 256) : (iblk m c 3 t : Vec Ideal S1x16x128x256 .bf16) (ix4 0 j e x)
    = (m ((c : Thread nD τ).loc main_arg2) : (⟨S8x16x1024x256, .bf16⟩ : BufTy).Contents (Elt Ideal))
        (ix4 ⟨t.val / 8 % 8, by omega⟩ j ⟨(t.val / 64) * 128 + e.val, by have := points t; omega⟩ x) := by
  blk_ext [iblk, V, idx t]

theorem w4 (d : Fin 4) (r : Fin 256) (x : Fin 1024) : (iblk m c 4 t : Vec Ideal S1x4x256x1024 .f32) (ix4 0 d r x)
    = (V m c main_v75 : (⟨S8x4x256x1024, .f32⟩ : BufTy).Contents (Elt Ideal)) (ix4 ⟨t.val / 64, by have := points t; omega⟩ d r x) := by
  unfold iblk
  show ((cfg0.win 4).blk t).view.read (Elt Ideal) (V m c main_v75) _ = _
  generalize V m c main_v75 = A
  blk_ext [idx t]

theorem w5 (e : Fin 128) (x : Fin 512) : (iblk m c 5 t : Vec Ideal S128x512 .f32) (ix2 e x)
    = (V m c main_v77 : (⟨S128x512, .f32⟩ : BufTy).Contents (Elt Ideal)) (ix2 e x) := by
  unfold iblk
  show ((cfg0.win 5).blk t).view.read (Elt Ideal) (V m c main_v77) _ = _
  generalize V m c main_v77 = A
  blk_ext [idx t]

end Windows

/-- The array the call leaves. -/
theorem final (c : Dev nD)
    (h0 : ∀ i j, (m ((c : Thread nD τ).loc main_arg0) : (⟨S32768x1024, .bf16⟩ : BufTy).Contents (Elt Ideal)) (ix2 i j) = ((xq i.val j.val : ℝ) : EReal))
    (h1 : ∀ i j, (m ((c : Thread nD τ).loc main_arg1) : (⟨S32768x1024, .bf16⟩ : BufTy).Contents (Elt Ideal)) (ix2 i j) = ((xk i.val j.val : ℝ) : EReal))
    (h2 : ∀ a b d e, (m ((c : Thread nD τ).loc main_arg2) : (⟨S8x16x1024x256, .bf16⟩ : BufTy).Contents (Elt Ideal)) (ix4 a b d e) = ((xv a.val b.val d.val e.val : ℝ) : EReal))
    (h5 : ∀ i j, (m ((c : Thread nD τ).loc main_arg5) : (⟨S32x8, .f32⟩ : BufTy).Contents (Elt Ideal)) (ix2 i j) = ((xt i.val j.val : ℝ) : EReal))
    (hl : lam (m ((c : Thread nD τ).loc main_arg3)) = (L : EReal)) :
    (dats m 0 c).arrAt 6 cfg0.N = G xq xk xv xt L (m ((c : Thread nD τ).loc main_arg4)) := by
  refine (dats m 0 c).arrAt_eq_of_covers 6 _ (by decide +kernel) fun t hf y => ?_
  have hp := points t
  blk_simp
  rw [left_6]
  idx_vars y
  rw [block_apply xq xk xv xt L (grid0.coords t) ⟨t.val % 8, by omega⟩ ⟨t.val / 8 % 8, by omega⟩ ⟨t.val / 64, by omega⟩ (idx t).2.2.2.2.2.2.2
    (m ((c : Thread nD τ).loc main_arg5)) (iblk m c 0 t) (iblk m c 1 t) (iblk m c 2 t) (iblk m c 3 t) (iblk m c 4 t) (iblk m c 5 t)
    (fun r d => (w1 m c t r d).trans (h0 _ _)) (fun r d => (w2 m c t r d).trans (h1 _ _)) (fun j e x => (w3 m c t j e x).trans (h2 _ _ _ _))
    (fun d r x => (w4 m c t d r x).trans (AttnBias.bias_apply m c _ d r x)) h5 ((congrArg lam (w0 m c t)).trans hl)]
  have e0 : ((((View.whole main_v78).slice (win0_6.rect t)).emb (ix2 y0 y1)) 0).val = (t.val % 64) * 512 + y0.val := by
    blk_simp [idx t]
  have e1 : ((((View.whole main_v78).slice (win0_6.rect t)).emb (ix2 y0 y1)) 1).val = (t.val / 64) * 128 + y1.val := by
    blk_simp [idx t]
  generalize ((View.whole main_v78).slice (win0_6.rect t)).emb (ix2 y0 y1) = z at e0 e1
  unfold G
  have a0 : (z 0).val / 4096 = t.val / 8 % 8 := by omega
  have a1 : (z 0).val % 4096 = 512 * (t.val % 8) + y0.val := by omega
  have a2 : (z 1).val / 128 = t.val / 64 := by omega
  have a3 : (⟨(z 1).val % 128, Nat.mod_lt _ (by norm_num)⟩ : Fin 128) = y1 := Fin.ext (by simp only [e1]; omega)
  rw [a0, a1, a2, a3]
  refine congrArg (fun g => scale _ g y1) (funext fun e => ?_)
  exact (w5 m c t e y0).trans (gain_apply m c e y0)

end Kernel

end AttnVal
-- ==== Proof.AttnPre.lean ====
/- The precondition of the attention claim: every entry of the arguments it names is real. -/
module

public import proofs.«01_k».proof.Pre_attn_finite
public import Idealize.ShloMosaic.Lib.Pointwise
public import Idealize.ShloMosaic.Lib.Claim

@[expose] public section

set_option maxRecDepth 16384

noncomputable section

namespace AttnPre
open Idealize.ShloMosaic Idealize.ShloMosaic.TcCoe Cert.Pre_attn_finite

/-- A conjunction of two bits that holds. -/
theorem and_one : ∀ a b : BitVec 1, IntOp.andi a b = 1#1 → a = 1#1 ∧ b = 1#1 := by decide

/-- A conjunction along a list that holds, holds of each. -/
theorem foldl_and {ι : Type} (f : ι → BitVec 1) (l : List ι) : ∀ a, l.foldl (fun r n => IntOp.andi r (f n)) a = 1#1 → a = 1#1 ∧ ∀ x ∈ l, f x = 1#1 := by
  induction l with
  | nil => intro a h; exact ⟨h, fun _ hx => absurd hx List.not_mem_nil⟩
  | cons b l ih =>
    intro a h
    obtain ⟨hab, hl⟩ := ih _ h
    have this := and_one _ _ hab
    exact ⟨this.1, fun x hx => (List.mem_cons.1 hx).elim (fun e => e ▸ this.2) (hl x)⟩

/-- A value whose absolute value is below plus infinity is real. -/
theorem real_of_lt (φ : FTy) (x : Ideal φ) (h : FloatOps.cmpf (F := Ideal) .olt (FloatOps.hostAbsf x) (⊤ : EReal) = 1#1) : ∃ r : ℝ, x = (r : EReal) := by
  induction x using EReal.rec with
  | coe r => exact ⟨r, rfl⟩
  | bot => exact absurd h (by simp [FloatOps.cmpf, FloatOps.hostAbsf, Ideal.cmp])
  | top => exact absurd h (by simp [FloatOps.cmpf, FloatOps.hostAbsf, Ideal.cmp])

/-- An array all of whose entries pass the comparison is real. -/
theorem real_of_all {s t u : Shape} {φ : FTy} {axes : List (Fin s.rank)} (x C : FVec Ideal s φ) (hC : ∀ i, C i = (⊤ : EReal)) (init : IVec u 1)
    (hr : s.ReducesTo axes t) (hu : 0 < u.numel) (j : t.Idx) (hj : ∀ i, hr.drop i = j)
    (h : Host.reduce IntOp.andi (cmpf .olt (Host.absf x) C) init hr hu j = 1#1) (i : s.Idx) : ∃ r : ℝ, x i = (r : EReal) := by
  have e := (foldl_and _ _ _ h).2 (s.rowMajor i) (List.mem_filter.2 ⟨List.mem_finRange _, decide_eq_true (hj _)⟩)
  rw [Equiv.symm_apply_apply] at e
  refine real_of_lt φ (x i) ?_
  rw [← hC i]
  exact e

variable [Facts]
open Facts

/-- The literal of plus infinity. -/
theorem inf32 : Ideal.ofBits FTy.f32 0x7F800000#32 = (⊤ : EReal) := by simp [Ideal.ofBits, Ideal.ieee]

/-- The same at half width. -/
theorem inf16 : Ideal.ofBits FTy.bf16 0x7F80#16 = (⊤ : EReal) := by simp [Ideal.ofBits, Ideal.ieee]

/-- What the precondition says: the queries, keys, values, the parameters of the factor and the bias table are real. -/
theorem real (x0 x1 : FVec Ideal S32768x1024 .bf16) (x2 : FVec Ideal S8x16x1024x256 .bf16) (x3 : FVec Ideal S4x64 .f32) (x4 : FVec Ideal S128 .f32)
    (x5 : FVec Ideal S32x8 .f32) (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x5 i = (r : EReal) := by
  have h' := congrFun h ix0
  obtain ⟨h', h5⟩ := and_one _ _ h'
  obtain ⟨h', h3⟩ := and_one _ _ h'
  obtain ⟨h', h2⟩ := and_one _ _ h'
  obtain ⟨h0, h1⟩ := and_one _ _ h'
  exact ⟨real_of_all x0 _ (fun _ => inf16) _ _ _ _ (fun _ => funext fun a => a.elim0) h0,
    real_of_all x1 _ (fun _ => inf16) _ _ _ _ (fun _ => funext fun a => a.elim0) h1,
    real_of_all x2 _ (fun _ => inf16) _ _ _ _ (fun _ => funext fun a => a.elim0) h2,
    real_of_all x3 _ (fun _ => inf32) _ _ _ _ (fun _ => funext fun a => a.elim0) h3,
    real_of_all x5 _ (fun _ => inf32) _ _ _ _ (fun _ => funext fun a => a.elim0) h5⟩

end AttnPre
-- ==== Proof.AttnClaims.lean ====
/- The claims about the attention program: the frames, and that for real arguments the kernel and its reference leave
   the same array. -/
module

public import proofs.«01_k».proof.Defs
public import proofs.«01_k».proof.Proof.AttnFrame
public import proofs.«01_k».proof.Proof.AttnVal
public import proofs.«01_k».proof.Proof.AttnPre
public import proofs.«01_k».proof.Proof.Gen.AttnRefIdeal.Run

@[expose] public section

set_option maxRecDepth 16384

noncomputable section

namespace AttnClaims

open Idealize.ShloMosaic Idealize.ShloMosaic.TcCoe Idealize.SL.Sem

/-- The shape relations the precondition's operations take. -/
theorem facts : Cert.Pre_attn_finite.Facts where
  bcast_S_S32768x1024 := by decide
  reducesTo_S32768x1024_S_d0_1 := by decide
  h_S_ := by decide
  bcast_S_S8x16x1024x256 := by decide
  reducesTo_S8x16x1024x256_S_d0_1_2_3 := by decide
  bcast_S_S4x64 := by decide
  reducesTo_S4x64_S_d0_1 := by decide
  bcast_S_S32x8 := by decide
  reducesTo_S32x8_S_d0_1 := by decide

/-- The reference runs, leaves its arguments and has no semaphore. -/
theorem frameRef : Cert.quiescent_AttnRefIdeal := fun m ρ _ =>
  (θ_run Cert.AttnRefIdeal.defs _ _).mono (fun r h => ⟨fun c => (h c).2,
    Idealize.ShloMosaic.sem_eq_zero_of_no_sems (by decide) r.2⟩) (Cert.AttnRefIdeal.Value.run (F := Ideal) m ρ)

/-- A sum of products of reals is real. -/
theorem sum_real {n : ℕ} (f g : Fin n → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  exact ⟨∑ i, a i * b i, by simp only [ha, hb, ← EReal.coe_mul, ← AttnFlash.coe_sum]⟩

/-- The literal the factor starts from is real. -/
theorem lit_real : ∃ r : ℝ, Ideal.ofBits FTy.f32 1052116297#32 = (r : EReal) := by
  refine ⟨11928905 / 33554432, ?_⟩
  simp [Ideal.ofBits, Ideal.ieee, -EReal.coe_mul]; norm_num

/-- Of real parameters the factor is real. -/
theorem lam_real (x3 : FVec Ideal Cert.AttnRefIdeal.S4x64 .f32) (h : ∀ i, ∃ r : ℝ, x3 i = (r : EReal)) : ∃ L : ℝ, AttnVal.lam x3 = (L : EReal) := by
  obtain ⟨a, ha⟩ := sum_real (fun x : Fin 64 => x3 (ix2 0 x)) (fun x => x3 (ix2 1 x)) (fun _ => h _) (fun _ => h _)
  obtain ⟨b, hb⟩ := sum_real (fun x : Fin 64 => x3 (ix2 2 x)) (fun x => x3 (ix2 3 x)) (fun _ => h _) (fun _ => h _)
  obtain ⟨l, hl⟩ := lit_real
  refine ⟨Real.exp a - Real.exp b + l, ?_⟩
  unfold AttnVal.lam
  rw [ha, hb, hl, Ideal.exp_coe, Ideal.exp_coe, EReal.coe_add, EReal.coe_sub]

/-- A real array of two axes as a function of the coordinates. -/
theorem real2 {a b : ℕ} (x : (⟨2, ![a, b]⟩ : Shape).Idx → EReal) (h : ∀ i, ∃ r : ℝ, x i = (r : EReal)) :
    ∃ f : ℕ → ℕ → ℝ, ∀ (i : Fin a) (j : Fin b), x (ix2 i j) = ((f i.val j.val : ℝ) : EReal) := by
  choose g hg using h
  exact ⟨fun i j => if hi : i < a then if hj : j < b then g (ix2 ⟨i, hi⟩ ⟨j, hj⟩) else 0 else 0,
    fun i j => by simp only [i.isLt, j.isLt, dif_pos, hg]⟩

/-- A real array of four axes as a function of the coordinates. -/
theorem real4 {a b c d : ℕ} (x : (⟨4, ![a, b, c, d]⟩ : Shape).Idx → EReal) (h : ∀ i, ∃ r : ℝ, x i = (r : EReal)) :
    ∃ f : ℕ → ℕ → ℕ → ℕ → ℝ, ∀ (i : Fin a) (j : Fin b) (k : Fin c) (l : Fin d), x (ix4 i j k l) = ((f i.val j.val k.val l.val : ℝ) : EReal) := by
  choose g hg using h
  exact ⟨fun i j k l => if hi : i < a then if hj : j < b then if hk : k < c then if hl : l < d then g (ix4 ⟨i, hi⟩ ⟨j, hj⟩ ⟨k, hk⟩ ⟨l, hl⟩) else 0 else 0 else 0 else 0,
    fun i j k l => by simp only [i.isLt, j.isLt, k.isLt, l.isLt, dif_pos, hg]⟩

/-- For real arguments the two sides' arrays are equal. -/
theorem arrays_eq (m : (ℓ : Loc Cert.AttnIdeal.nD Cert.AttnIdeal.τ Cert.AttnIdeal.sig) → Buf (Elt Ideal) ℓ) (c : Dev Cert.AttnIdeal.nD)
    (hp : Cert.Pre_AttnIdeal_attn_finite (hPre_attn_finite := facts) m) :
    (AttnBody.dats m 0 c).arrAt 6 Cert.AttnIdeal.cfg0.N
      = Cert.AttnRefIdeal.Read.val_main_v136 (F := Ideal) (m ((c.tc : Thread Cert.AttnIdeal.nD Cert.AttnIdeal.τ).loc Cert.AttnIdeal.main_arg0))
          (m ((c.tc : Thread Cert.AttnIdeal.nD Cert.AttnIdeal.τ).loc Cert.AttnIdeal.main_arg1)) (m ((c.tc : Thread Cert.AttnIdeal.nD Cert.AttnIdeal.τ).loc Cert.AttnIdeal.main_arg2))
          (m ((c.tc : Thread Cert.AttnIdeal.nD Cert.AttnIdeal.τ).loc Cert.AttnIdeal.main_arg3)) (m ((c.tc : Thread Cert.AttnIdeal.nD Cert.AttnIdeal.τ).loc Cert.AttnIdeal.main_arg4))
          (m ((c.tc : Thread Cert.AttnIdeal.nD Cert.AttnIdeal.τ).loc Cert.AttnIdeal.main_arg5)) := by
  obtain ⟨r0, r1, r2, r3, r5⟩ := letI := facts; AttnPre.real _ _ _ _ _ _ (hp c)
  obtain ⟨xq, h0⟩ := real2 _ r0
  obtain ⟨xk, h1⟩ := real2 _ r1
  obtain ⟨xv, h2⟩ := real4 _ r2
  obtain ⟨xt, h5⟩ := real2 _ r5
  obtain ⟨L, hl⟩ := lam_real _ r3
  exact (AttnVal.Kernel.final xq xk xv xt L m c h0 h1 h2 h5 hl).trans
    (AttnVal.Ref.v136_eq xq xk xv xt L _ _ _ _ _ _ h0 h1 h2 h5 hl).symm

/-- The reference's run, its result read as the stacked operations. -/
theorem runRef (m : (ℓ : Loc Cert.AttnRefIdeal.nD Cert.AttnRefIdeal.τ Cert.AttnRefIdeal.sig) → Buf (Elt Ideal) ℓ) (ρ : Dev Cert.AttnRefIdeal.nD → PrngReg) :
    θ_run Cert.AttnRefIdeal.defs (onTc (τ := Cert.AttnRefIdeal.τ) (Cert.AttnRefIdeal.main (F := Ideal))) ⟨m, fun _ => 0, ρ⟩ (fun r => ∀ c : Dev Cert.AttnRefIdeal.nD,
      r.2.mem ((c.tc : Thread Cert.AttnRefIdeal.nD Cert.AttnRefIdeal.τ).loc Cert.AttnRefIdeal.main_v136)
        = Cert.AttnRefIdeal.Read.val_main_v136 (F := Ideal) (m ((c.tc : Thread Cert.AttnRefIdeal.nD Cert.AttnRefIdeal.τ).loc Cert.AttnRefIdeal.main_arg0))
            (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))
            (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))
            (m ((c.tc : Thread Cert.AttnRefIdeal.nD Cert.AttnRefIdeal.τ).loc Cert.AttnRefIdeal.main_arg5))) :=
  (θ_run Cert.AttnRefIdeal.defs _ _).mono
    (fun _ h c => (h c).1.trans (Cert.AttnRefIdeal.Read.val_main_v136_eq (F := Ideal) (Idealize.ShloMosaic.StableHlo.launchContents m c)))
    (Cert.AttnRefIdeal.Value.run (F := Ideal) m ρ)

/-- For real arguments the attention kernel and its reference leave equal results. -/
theorem value : Cert.algebraic_AttnIdeal_AttnRefIdeal_pre_attn_finite (hPre_attn_finite := facts) := by
  intro m ρ m' ρ' hp hagree
  refine ⟨fun c => _, (θ_run Cert.AttnIdeal.defs _ _).mono
      (fun _ h c => ⟨(h c).1.trans (arrays_eq m c hp), (h c).2⟩) (AttnBody.run_named m ρ),
    (θ_run Cert.AttnRefIdeal.defs _ _).mono (fun _ h c => ⟨(h.1 c).trans ?_, (h.2 c).2⟩)
      (θ_run_and (runRef m' ρ') (Cert.AttnRefIdeal.Value.run (F := Ideal) m' ρ'))⟩
  obtain ⟨h0, h1, h2, h3, h4, h5⟩ := hagree c
  rw [h0, h1, h2, h3, h4, h5]

end AttnClaims
-- ==== Proof.OddInVal.lean ====
/- The projection in front of the attention: the three arrays the kernel leaves and the three the reference leaves are the
   same functions of the arguments. Each entry is a product of a normalised row with a column of the weights; the queries
   are multiplied by one eighth and divided by the logarithm of two, the values are stored by transposed blocks. -/
module

public import proofs.«01_k».proof.Proof.FfnRow
public import proofs.«01_k».proof.Proof.Gen.OddInIdeal.Value
public import proofs.«01_k».proof.Proof.Gen.OddInRefIdeal.Read
public import Idealize.ShloMosaic.Lib.Pointwise
public import Idealize.ShloMosaic.Lib.Pipeline.ValueKit
public import Idealize.ShloMosaic.Lib.Claim

@[expose] public section

set_option maxRecDepth 16384

noncomputable section

namespace OddInVal

open Idealize.ShloMosaic Idealize.ShloMosaic.TcCoe Idealize.SL.Sem

/-- Column `j` of the projection of the normalised row `X`. -/
def proj (X g : Fin 1024 → EReal) (W : Fin 1024 → Fin 3072 → EReal) (j : Fin 3072) : EReal :=
  ∑ l, FfnRow.norm X g l * W l j

/-- What the queries are multiplied by: an eighth over the logarithm of two. -/
def scale : EReal := (((8 * Real.log 2)⁻¹ : ℝ) : EReal)

/-- The projection of the whole arrays. -/
def P (x : FVec Ideal Cert.OddInRefIdeal.S32768x1024 .f32) (g : FVec Ideal Cert.OddInRefIdeal.S1024 .f32)
    (w : FVec Ideal Cert.OddInRefIdeal.S1024x3072 .f32) (r : Fin 32768) (j : Fin 3072) : EReal :=
  proj (fun l => x (ix2 r l)) (fun l => g (ix1 l)) (fun l k => w (ix2 l k)) j

/-- The queries. -/
def Q (x : FVec Ideal Cert.OddInRefIdeal.S32768x1024 .f32) (g : FVec Ideal Cert.OddInRefIdeal.S1024 .f32)
    (w : FVec Ideal Cert.OddInRefIdeal.S1024x3072 .f32) : FVec Ideal Cert.OddInRefIdeal.S32768x1024 .bf16 := fun i =>
  P x g w (i 0) ⟨(i 1).val, by have : (i 1).val < 1024 := (i 1).isLt; omega⟩ * scale

/-- The keys. -/
def K (x : FVec Ideal Cert.OddInRefIdeal.S32768x1024 .f32) (g : FVec Ideal Cert.OddInRefIdeal.S1024 .f32)
    (w : FVec Ideal Cert.OddInRefIdeal.S1024x3072 .f32) : FVec Ideal Cert.OddInRefIdeal.S32768x1024 .bf16 := fun i =>
  P x g w (i 0) ⟨1024 + (i 1).val, by have : (i 1).val < 1024 := (i 1).isLt; omega⟩

/-- The values, by transposed blocks of 256 tokens. -/
def T (x : FVec Ideal Cert.OddInRefIdeal.S32768x1024 .f32) (g : FVec Ideal Cert.OddInRefIdeal.S1024 .f32)
    (w : FVec Ideal Cert.OddInRefIdeal.S1024x3072 .f32) : FVec Ideal Cert.OddInRefIdeal.S8x16x1024x256 .bf16 := fun i =>
  P x g w ⟨((i 0).val * 16 + (i 1).val) * 256 + (i 3).val, by
      have h0 : (i 0).val < 8 := (i 0).isLt
      have h1 : (i 1).val < 16 := (i 1).isLt
      have h3 : (i 3).val < 256 := (i 3).isLt
      omega⟩ ⟨2048 + (i 2).val, by have : (i 2).val < 1024 := (i 2).isLt; omega⟩

namespace Kernel

open Cert.OddInIdeal Cert.OddInIdeal.Gen
open Idealize.ShloMosaic.Pipeline (Dat)

theorem hz : (![0, 0] : Fin 2 → Nat) = fun _ => 0 := funext fun a => by fin_cases a <;> rfl

/-- The block's projection, read at an element. -/
theorem proj_apply (x : Vec Ideal S512x1024 .f32) (g : Vec Ideal S1x1024 .f32) (w : Vec Ideal S1024x3072 .bf16)
    (r : Fin 512) (j : Fin 3072) : k0_pay2 x g w (ix2 r j)
      = proj (fun l => x (ix2 r l)) (fun l => g (ix2 0 l)) (fun l k => w (ix2 l k)) j := by
  pointwise [k0_pay2]
  rfl

/-- The queries' block, read at an element. -/
theorem q_apply (x : Vec Ideal S512x1024 .f32) (g : Vec Ideal S1x1024 .f32) (w : Vec Ideal S1024x3072 .bf16)
    (r : Fin 512) (j : Fin 1024) : out0_3 x g w (ix2 r j)
      = proj (fun l => x (ix2 r l)) (fun l => g (ix2 0 l)) (fun l k => w (ix2 l k)) ⟨j.val, by omega⟩ * scale := by
  unfold out0_3
  rw [View.ld_unit_zero hz, View.ld_unit_zero hz, View.ld_unit_zero hz, Cert.OddInIdeal.Value.canon3_eq, ← proj_apply]
  refine congrArg₂ (· * ·) (congrArg _ ?_) (IdealRules.named_const.ideal_named_scalar _ _ _ _ rfl)
  funext a; apply Fin.ext; fin_cases a <;> rfl

/-- The keys' block, read at an element. -/
theorem k_apply (x : Vec Ideal S512x1024 .f32) (g : Vec Ideal S1x1024 .f32) (w : Vec Ideal S1024x3072 .bf16)
    (r : Fin 512) (j : Fin 1024) : out0_4 x g w (ix2 r j)
      = proj (fun l => x (ix2 r l)) (fun l => g (ix2 0 l)) (fun l k => w (ix2 l k)) ⟨1024 + j.val, by omega⟩ := by
  unfold out0_4
  rw [View.ld_unit_zero hz, View.ld_unit_zero hz, View.ld_unit_zero hz, Cert.OddInIdeal.Value.canon4_eq, ← proj_apply]
  refine congrArg (k0_pay2 x g w) ?_
  funext a; apply Fin.ext; fin_cases a
  · rfl
  · exact Nat.add_comm _ _

/-- The values' block, read at an element. -/
theorem t_apply (x : Vec Ideal S512x1024 .f32) (g : Vec Ideal S1x1024 .f32) (w : Vec Ideal S1024x3072 .bf16)
    (z : Fin 1) (s : Fin 2) (j : Fin 1024) (r : Fin 256) : out0_5 x g w (ix4 z s j r)
      = proj (fun l => x (ix2 ⟨s.val * 256 + r.val, by omega⟩ l)) (fun l => g (ix2 0 l)) (fun l k => w (ix2 l k))
          ⟨2048 + j.val, by omega⟩ := by
  unfold out0_5
  rw [View.ld_unit_zero hz, View.ld_unit_zero hz, View.ld_unit_zero hz, Cert.OddInIdeal.Value.canon5_eq, ← proj_apply]
  refine congrArg (k0_pay2 x g w) ?_
  funext a; apply Fin.ext; fin_cases a
  · rfl
  · exact Nat.add_comm _ _

variable (m : (ℓ : Loc nD τ sig) → Buf (Elt Ideal) ℓ)

/-- Where each window's block lies: the row blocks move with the grid point, eight of them making a sequence of values. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val / 8, t.val % 8, 0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val / 8, t.val % 8, 0, 0])

/-- The queries the kernel leaves. -/
theorem final_q (c : Dev nD) : (dats m 0 c).arrAt 3 cfg0.N
    = Q (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  rw [q_apply]
  unfold Q P
  congr 2
  · funext l; blk_ext [iblk, V, idx t]
  · funext l; blk_ext! [iblk, V, idx t]
  · funext l k; blk_ext! [iblk, V, idx t]
  · apply Fin.ext
    blk_simp [idx t]

/-- The keys the kernel leaves. -/
theorem final_k (c : Dev nD) : (dats m 0 c).arrAt 4 cfg0.N
    = K (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  rw [k_apply]
  unfold K P
  congr 1
  · funext l; blk_ext [iblk, V, idx t]
  · funext l; blk_ext! [iblk, V, idx t]
  · funext l k; blk_ext! [iblk, V, idx t]
  · apply Fin.ext
    blk_simp [idx t]

/-- The values the kernel leaves. -/
theorem final_t (c : Dev nD) : (dats m 0 c).arrAt 5 cfg0.N
    = T (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  rw [t_apply]
  unfold T P
  congr 1
  · funext l; blk_ext [iblk, V, idx t]
  · funext l; blk_ext! [iblk, V, idx t]
  · funext l k; blk_ext! [iblk, V, idx t]
  · apply Fin.ext
    blk_simp [idx t]

end Kernel

namespace Ref

open Cert.OddInRefIdeal Cert.OddInRefIdeal.Read

variable (x0 : FVec Ideal S32768x1024 .f32) (x1 : FVec Ideal S1024 .f32) (x2 : FVec Ideal S1024x3072 .f32)

/-- The reference's projection, read at an element. -/
theorem v13_apply (r : Fin 32768) (j : Fin 3072) : val_main_v13 (F := Ideal) x0 x1 x2 (ix2 r j) = P x0 x1 x2 r j := by
  simp only [val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  pointwise []
  rfl

/-- An eighth times the inverse of the logarithm of two is the scale. -/
theorem scale_eq (a : EReal) :
    Ideal.div (a * Ideal.ofBits FTy.f32 0x3E000000#32) (Ideal.log (Ideal.ofBits FTy.f32 0x40000000#32)) = a * scale := by
  have e8 : Ideal.ofBits FTy.f32 0x3E000000#32 = ((1 / 8 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have hl : Real.log 2 ≠ 0 := (Real.log_pos (by norm_num)).ne'
  rw [e8, e2, Ideal.log_coe, if_neg (by norm_num : ¬(2 : ℝ) ≤ 0), Ideal.div_coe hl, mul_assoc, ← EReal.coe_mul]
  unfold scale
  congr 2
  rw [mul_inv]; ring

/-- The reference's queries. -/
theorem v24_eq : val_main_v24 (F := Ideal) x0 x1 x2 = Q x0 x1 x2 := by
  funext i
  idx_vars i
  simp only [val_main_v24, val_main_v21, val_main_v20, val_main_v19, val_main_v18, val_main_v17, val_main_v14, val_main_cst_2,
    val_main_cst_3]
  unfold Q
  have h := v13_apply x0 x1 x2
  generalize val_main_v13 (F := Ideal) x0 x1 x2 = A at h ⊢
  pointwise []
  rw [h]
  exact scale_eq _

/-- The reference's keys. -/
theorem v25_eq : val_main_v25 (F := Ideal) x0 x1 x2 = K x0 x1 x2 := by
  funext i
  idx_vars i
  simp only [val_main_v25, val_main_v15]
  unfold K
  have h := v13_apply x0 x1 x2
  generalize val_main_v13 (F := Ideal) x0 x1 x2 = A at h ⊢
  pointwise []
  rw [h]

/-- The reference's values. -/
theorem v26_eq : val_main_v26 (F := Ideal) x0 x1 x2 = T x0 x1 x2 := by
  funext i
  idx_vars i
  simp only [val_main_v26, val_main_v23, val_main_v22, val_main_v16]
  unfold T
  have h := v13_apply x0 x1 x2
  generalize val_main_v13 (F := Ideal) x0 x1 x2 = A at h ⊢
  pointwise []
  rw [h]
  refine congrFun (congrArg _ (Fin.ext ?_)) _
  show i0.val * 4096 + i1.val * 256 + i3.val = (i0.val * 16 + i1.val) * 256 + i3.val
  omega

end Ref

end OddInVal

end
-- ==== Proof.OddInClaims.lean ====
/- The claims about the projection in front of the attention: the frames, the named constant, and that the kernel and its
   reference leave the same three arrays. -/
module

public import proofs.«01_k».proof.Defs
public import proofs.«01_k».proof.Proof.Gen.OddIn.Frame
public import proofs.«01_k».proof.Proof.Gen.OddInRefIdeal.Run
public import proofs.«01_k».proof.Proof.OddInVal

@[expose] public section

set_option maxRecDepth 16384

noncomputable section

namespace OddInClaims

open Idealize.ShloMosaic Idealize.ShloMosaic.TcCoe Idealize.SL.Sem

/-- The projection's reference runs, leaves its arguments and has no semaphore. -/
theorem frameRef : Cert.quiescent_OddInRefIdeal := fun m ρ _ =>
  (θ_run Cert.OddInRefIdeal.defs _ _).mono (fun r h => ⟨fun c => (h c).2.2.2,
    Idealize.ShloMosaic.sem_eq_zero_of_no_sems (by decide) r.2⟩) (Cert.OddInRefIdeal.Value.run (F := Ideal) m ρ)

/-- The kernel's one named constant, an eighth over the logarithm of two, is what its literal stands for. -/
theorem named : Cert.preserves_OddIn_OddInIdeal :=
  IdealRules.named_const.statement Cert.OddInIdeal.κ "scale_log2e" .f32 0x3E38AA3B#32 (((8 * Real.log 2)⁻¹ : ℝ) : EReal) rfl

/-- The projection kernel and its reference leave equal queries, keys and values. -/
theorem value : Cert.algebraic_OddInIdeal_OddInRefIdeal := by
  intro m ρ m' ρ' _ hagree
  refine ⟨fun c => _, fun c => _, fun c => _, (θ_run Cert.OddInIdeal.defs _ _).mono
      (fun _ h c => ⟨(h c).1.trans (OddInVal.Kernel.final_q m c), (h c).2.1.trans (OddInVal.Kernel.final_k m c),
        (h c).2.2.1.trans (OddInVal.Kernel.final_t m c), (h c).2.2.2⟩) (Cert.OddInIdeal.Value.run_blocks m ρ),
    (θ_run Cert.OddInRefIdeal.defs _ _).mono (fun _ h c => ⟨((h c).1.trans ((Cert.OddInRefIdeal.Read.val_main_v24_eq _ _ _).trans
        (OddInVal.Ref.v24_eq _ _ _))).trans ?_, ((h c).2.1.trans ((Cert.OddInRefIdeal.Read.val_main_v25_eq _ _ _).trans
        (OddInVal.Ref.v25_eq _ _ _))).trans ?_, ((h c).2.2.1.trans ((Cert.OddInRefIdeal.Read.val_main_v26_eq _ _ _).trans
        (OddInVal.Ref.v26_eq _ _ _))).trans ?_, (h c).2.2.2⟩)
      (Cert.OddInRefIdeal.Value.run (F := Ideal) m' ρ')⟩
  all_goals
    obtain ⟨h0, h1, h2⟩ := hagree c
    rw [h0, h1, h2]

end OddInClaims

end
-- ==== Proof.lean ====
module

public import proofs.«01_k».proof.Proof.Gen.FfnEvenIdeal.Value
public import proofs.«01_k».proof.Proof.Gen.FfnEvenRefIdeal.Run
public import proofs.«01_k».proof.Proof.Gen.FfnEvenRefIdeal.Read
public import proofs.«01_k».proof.Proof.Gen.FfnOddIdeal.Value
public import proofs.«01_k».proof.Proof.Gen.FfnOddRefIdeal.Run
public import proofs.«01_k».proof.Proof.Gen.FfnOddRefIdeal.Read
public import proofs.«01_k».proof.Proof.Gen.FfnLastIdeal.Value
public import proofs.«01_k».proof.Proof.Gen.FfnLastRefIdeal.Run
public import proofs.«01_k».proof.Proof.Gen.FfnLastRefIdeal.Read
public import proofs.«01_k».proof.Defs
public import proofs.«01_k».proof.Proof.FfnClaims
public import proofs.«01_k».proof.Proof.AttnClaims
public import proofs.«01_k».proof.Proof.OddInClaims
public import proofs.«01_k».proof.Proof.Gen.Attn.Frame
public import proofs.«01_k».proof.Proof.Gen.Attn.Loops
public import proofs.«01_k».proof.Proof.Gen.AttnIdeal.Frame
public import proofs.«01_k».proof.Proof.Gen.AttnIdeal.Loops
public import proofs.«01_k».proof.Proof.Gen.AttnRefIdeal.Run
public import proofs.«01_k».proof.Proof.Gen.AttnRefIdeal.Read
public import proofs.«01_k».proof.Proof.Gen.FfnEven
public import proofs.«01_k».proof.Proof.Gen.FfnEven.Skeleton
public import proofs.«01_k».proof.Proof.Gen.FfnEven.Launch
public import proofs.«01_k».proof.Proof.Gen.FfnEven.Points
public import proofs.«01_k».proof.Proof.Gen.FfnEven.Frame
public import proofs.«01_k».proof.Proof.Gen.FfnEvenIdeal
public import proofs.«01_k».proof.Proof.Gen.FfnEvenIdeal.Skeleton
public import proofs.«01_k».proof.Proof.Gen.FfnEvenIdeal.Launch
public import proofs.«01_k».proof.Proof.Gen.FfnEvenIdeal.Points
public import proofs.«01_k».proof.Proof.Gen.FfnEvenIdeal.Frame
public import proofs.«01_k».proof.Proof.Gen.FfnEvenRefIdeal
public import proofs.«01_k».proof.Proof.Gen.FfnOdd
public import proofs.«01_k».proof.Proof.Gen.FfnOdd.Skeleton
public import proofs.«01_k».proof.Proof.Gen.FfnOdd.Launch
public import proofs.«01_k».proof.Proof.Gen.FfnOdd.Points
public import proofs.«01_k».proof.Proof.Gen.FfnOdd.Frame
public import proofs.«01_k».proof.Proof.Gen.FfnOddIdeal
public import proofs.«01_k».proof.Proof.Gen.FfnOddIdeal.Skeleton
public import proofs.«01_k».proof.Proof.Gen.FfnOddIdeal.Launch
public import proofs.«01_k».proof.Proof.Gen.FfnOddIdeal.Points
public import proofs.«01_k».proof.Proof.Gen.FfnOddIdeal.Frame
public import proofs.«01_k».proof.Proof.Gen.FfnOddRefIdeal
public import proofs.«01_k».proof.Proof.Gen.FfnLast
public import proofs.«01_k».proof.Proof.Gen.FfnLast.Skeleton
public import proofs.«01_k».proof.Proof.Gen.FfnLast.Launch
public import proofs.«01_k».proof.Proof.Gen.FfnLast.Points
public import proofs.«01_k».proof.Proof.Gen.FfnLast.Frame
public import proofs.«01_k».proof.Proof.Gen.FfnLastIdeal
public import proofs.«01_k».proof.Proof.Gen.FfnLastIdeal.Skeleton
public import proofs.«01_k».proof.Proof.Gen.FfnLastIdeal.Launch
public import proofs.«01_k».proof.Proof.Gen.FfnLastIdeal.Points
public import proofs.«01_k».proof.Proof.Gen.FfnLastIdeal.Frame
public import proofs.«01_k».proof.Proof.Gen.FfnLastRefIdeal
public import proofs.«01_k».proof.Proof.Gen.OddIn.Frame
public import proofs.«01_k».proof.Proof.Gen.OddInIdeal.Value
public import proofs.«01_k».proof.Proof.Gen.OddInRefIdeal.Run
public import proofs.«01_k».proof.Proof.Gen.OddInRefIdeal.Read
public import Idealize.ShloMosaic.Adequacy
public import Idealize.ShloMosaic.Init

@[expose] public section

noncomputable section

namespace Cert.Proof

open Idealize.ShloMosaic Idealize.SL.Sem Cert.FfnEven

/-- Every claim, in the order stated: the frames, then for each program that its named constants (only the
    projection has one) are what their literals stand for, and that its results are the reference's. -/
theorem claim : Cert.Claim := ⟨Cert.FfnEven.Gen.facts, Cert.FfnEvenIdeal.Gen.facts, Cert.FfnEvenRefIdeal.Gen.facts,
  Cert.FfnOdd.Gen.facts, Cert.FfnOddIdeal.Gen.facts, Cert.FfnOddRefIdeal.Gen.facts,
  Cert.FfnLast.Gen.facts, Cert.FfnLastIdeal.Gen.facts, Cert.FfnLastRefIdeal.Gen.facts,
  Cert.Attn.Gen.facts, Cert.AttnIdeal.Gen.facts, Cert.AttnRefIdeal.Gen.facts,
  Cert.OddIn.Gen.facts, Cert.OddInIdeal.Gen.facts, Cert.OddInRefIdeal.Gen.facts, AttnClaims.facts,
  fun m ρ _ => Cert.FfnEven.Gen.frame m ρ,
  fun m ρ _ => Cert.FfnEvenIdeal.Gen.frame m ρ,
  FfnClaims.frameEvenRef,
  fun m ρ _ => Cert.FfnOdd.Gen.frame m ρ,
  fun m ρ _ => Cert.FfnOddIdeal.Gen.frame m ρ,
  FfnClaims.frameOddRef,
  fun m ρ _ => Cert.FfnLast.Gen.frame m ρ,
  fun m ρ _ => Cert.FfnLastIdeal.Gen.frame m ρ,
  FfnClaims.frameLastRef,
  fun m ρ _ => AttnFrame.frame m ρ,
  fun m ρ _ => AttnBody.frame m ρ,
  fun m ρ _ => AttnBody.frame m ρ,
  AttnClaims.frameRef,
  fun m ρ _ => AttnClaims.frameRef m ρ trivial,
  fun m ρ _ => Cert.OddIn.Gen.frame m ρ,
  fun m ρ _ => Cert.OddInIdeal.Gen.frame m ρ,
  OddInClaims.frameRef,
  trivial,
  FfnClaims.valueEven,
  trivial,
  FfnClaims.valueOdd,
  trivial,
  FfnClaims.valueLast,
  trivial,
  AttnClaims.value,
  OddInClaims.named,
  OddInClaims.value⟩

end Cert.Proof

end
